-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v16)) (v1 : (c : Dev Cert.Kernel2Ideal.nD) → Buf (Elt Ideal) ((c.tc : Thread Cert.Kernel2Ideal.nD Cert.Kernel2Ideal.τ).loc Cert.Kernel2Ideal.main_v54_0)) (v2 : (c : Dev Cert.Kernel2Ideal.nD) → Buf (Elt Ideal) ((c.tc : Thread Cert.Kernel2Ideal.nD Cert.Kernel2Ideal.τ).loc Cert.Kernel2Ideal.main_v54_1)) (v3 : (c : Dev Cert.Kernel2Ideal.nD) → Buf (Elt Ideal) ((c.tc : Thread Cert.Kernel2Ideal.nD Cert.Kernel2Ideal.τ).loc Cert.Kernel2Ideal.main_v54_2)) (v4 : (c : Dev Cert.Kernel2Ideal.nD) → Buf (Elt Ideal) ((c.tc : Thread Cert.Kernel2Ideal.nD Cert.Kernel2Ideal.τ).loc Cert.Kernel2Ideal.main_v54_3)) (v5 : (c : Dev Cert.Kernel2Ideal.nD) → Buf (Elt Ideal) ((c.tc : Thread Cert.Kernel2Ideal.nD Cert.Kernel2Ideal.τ).loc Cert.Kernel2Ideal.main_v54_4)) (v6 : (c : Dev Cert.Kernel2Ideal.nD) → Buf (Elt Ideal) ((c.tc : Thread Cert.Kernel2Ideal.nD Cert.Kernel2Ideal.τ).loc Cert.Kernel2Ideal.main_v112_0)) (v7 : (c : Dev Cert.Kernel2Ideal.nD) → Buf (Elt Ideal) ((c.tc : Thread Cert.Kernel2Ideal.nD Cert.Kernel2Ideal.τ).loc Cert.Kernel2Ideal.main_v112_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_v54_0) = v1 c
          ∧ r.2.mem ((c.tc : Thread Cert.Kernel2Ideal.nD Cert.Kernel2Ideal.τ).loc Cert.Kernel2Ideal.main_v54_1) = v2 c
          ∧ r.2.mem ((c.tc : Thread Cert.Kernel2Ideal.nD Cert.Kernel2Ideal.τ).loc Cert.Kernel2Ideal.main_v54_2) = v3 c
          ∧ r.2.mem ((c.tc : Thread Cert.Kernel2Ideal.nD Cert.Kernel2Ideal.τ).loc Cert.Kernel2Ideal.main_v54_3) = v4 c
          ∧ r.2.mem ((c.tc : Thread Cert.Kernel2Ideal.nD Cert.Kernel2Ideal.τ).loc Cert.Kernel2Ideal.main_v54_4) = v5 c
          ∧ r.2.mem ((c.tc : Thread Cert.Kernel2Ideal.nD Cert.Kernel2Ideal.τ).loc Cert.Kernel2Ideal.main_v112_0) = v6 c
          ∧ r.2.mem ((c.tc : Thread Cert.Kernel2Ideal.nD Cert.Kernel2Ideal.τ).loc Cert.Kernel2Ideal.main_v112_1) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v277) = v1 c
          ∧ r.2.mem ((c.tc : Thread Cert.Reference2Ideal.nD Cert.Reference2Ideal.τ).loc Cert.Reference2Ideal.main_v276) = v2 c
          ∧ r.2.mem ((c.tc : Thread Cert.Reference2Ideal.nD Cert.Reference2Ideal.τ).loc Cert.Reference2Ideal.main_v278) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v279) = v5 c
          ∧ r.2.mem ((c.tc : Thread Cert.Reference2Ideal.nD Cert.Reference2Ideal.τ).loc Cert.Reference2Ideal.main_v280) = v6 c
          ∧ r.2.mem ((c.tc : Thread Cert.Reference2Ideal.nD Cert.Reference2Ideal.τ).loc Cert.Reference2Ideal.main_v250) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v95) = v1 c
          ∧ r.2.mem ((c.tc : Thread Cert.Reference4Ideal.nD Cert.Reference4Ideal.τ).loc Cert.Reference4Ideal.main_v78) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v57_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v57_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32_3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S32x64x512 : Shape := ⟨3, ![32, 64, 512]⟩
abbrev S32x4x128x128 : Shape := ⟨4, ![32, 4, 128, 128]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x1x128 : Shape := ⟨3, ![1, 1, 128]⟩
abbrev S1x64x1 : Shape := ⟨3, ![1, 64, 1]⟩
abbrev S4x64x1 : Shape := ⟨3, ![4, 64, 1]⟩
abbrev S4x64x128 : Shape := ⟨3, ![4, 64, 128]⟩
abbrev S4x1x128 : Shape := ⟨3, ![4, 1, 128]⟩
abbrev S1x64x512 : Shape := ⟨3, ![1, 64, 512]⟩
abbrev S1x4x128x128 : Shape := ⟨4, ![1, 4, 128, 128]⟩
abbrev S4x128x128 : Shape := ⟨3, ![4, 128, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 75
  | .vmem => 19
  | .smem => 0
  | _ => 0

abbrev bufTy : (tb : Table) → Fin (tcTables nBuf tb) → BufTy
  | .hbm, ⟨0, _⟩ => ⟨S32x64x512, .bf16⟩
  | .hbm, ⟨1, _⟩ => ⟨S32x64x512, .bf16⟩
  | .hbm, ⟨2, _⟩ => ⟨S32x64x512, .bf16⟩
  | .hbm, ⟨3, _⟩ => ⟨S32x64x512, .bf16⟩
  | .hbm, ⟨4, _⟩ => ⟨S32x4x128x128, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S64, .f32⟩
  | .hbm, ⟨16, _⟩ => ⟨S64x1, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S1x64x64, .f32⟩
  | .hbm, ⟨22, _⟩ => ⟨S_, .f32⟩
  | .hbm, ⟨23, _⟩ => ⟨S1x64x64, .f32⟩
  | .hbm, ⟨24, _⟩ => ⟨S1x64x64, .i1⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S1x64x64, .f32⟩
  | .hbm, ⟨29, _⟩ => ⟨S4x1x1, .f32⟩
  | .hbm, ⟨30, _⟩ => ⟨S4x64x64, .f32⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S_, .f32⟩
  | .hbm, ⟨35, _⟩ => ⟨S_, .f32⟩
  | .hbm, ⟨36, _⟩ => ⟨S4x64x64, .i1⟩
  | .hbm, ⟨37, _⟩ => ⟨S4x64x64, .f32⟩
  | .hbm, ⟨38, _⟩ => ⟨S4x64x64, .f32⟩
  | .hbm, ⟨39, _⟩ => ⟨S_, .f32⟩
  | .hbm, ⟨40, _⟩ => ⟨S1x1x128, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S1x64x1, .f32⟩
  | .hbm, ⟨45, _⟩ => ⟨S4x1x1, .f32⟩
  | .hbm, ⟨46, _⟩ => ⟨S4x64x1, .f32⟩
  | .hbm, ⟨47, _⟩ => ⟨S4x64x1, .f32⟩
  | .hbm, ⟨48, _⟩ => ⟨S4x64x1, .f32⟩
  | .hbm, ⟨49, _⟩ => ⟨S4x64x1, .f32⟩
  | .hbm, ⟨50, _⟩ => ⟨S4x64x128, .f32⟩
  | .hbm, ⟨51, _⟩ => ⟨S4x64x128, .f32⟩
  | .hbm, ⟨52, _⟩ => ⟨S4x64x128, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64x1, .f32⟩
  | .hbm, ⟨57, _⟩ => ⟨S4x1x1, .f32⟩
  | .hbm, ⟨58, _⟩ => ⟨S4x64x1, .f32⟩
  | .hbm, ⟨59, _⟩ => ⟨S4x64x1, .f32⟩
  | .hbm, ⟨60, _⟩ => ⟨S4x64x1, .f32⟩
  | .hbm, ⟨61, _⟩ => ⟨S4x64x1, .f32⟩
  | .hbm, ⟨62, _⟩ => ⟨S4x64x128, .f32⟩
  | .hbm, ⟨63, _⟩ => ⟨S4x64x128, .f32⟩
  | .hbm, ⟨64, _⟩ => ⟨S4x64x128, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x1x1, .f32⟩
  | .hbm, ⟨70, _⟩ => ⟨S4x1x128, .f32⟩
  | .hbm, ⟨71, _⟩ => ⟨S4x1x128, .f32⟩
  | .hbm, ⟨72, _⟩ => ⟨S4x1x128, .f32⟩
  | .hbm, ⟨73, _⟩ => ⟨S32x64x512, .bf16⟩
  | .hbm, ⟨74, _⟩ => ⟨S32x4x128x128, .f32⟩
  | .local _ .vmem, ⟨0, _⟩ => ⟨S1x64x512, .bf16⟩
  | .local _ .vmem, ⟨1, _⟩ => ⟨S1x64x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x64x512, .bf16⟩
  | .local _ .vmem, ⟨5, _⟩ => ⟨S1x64x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S4x64x64, .f32⟩
  | .local _ .vmem, ⟨11, _⟩ => ⟨S4x64x128, .f32⟩
  | .local _ .vmem, ⟨12, _⟩ => ⟨S4x64x128, .f32⟩
  | .local _ .vmem, ⟨13, _⟩ => ⟨S4x1x128, .f32⟩
  | .local _ .vmem, ⟨14, _⟩ => ⟨S1x64x512, .bf16⟩
  | .local _ .vmem, ⟨15, _⟩ => ⟨S1x64x512, .bf16⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_161 : BitVec 32 := 0#32
  let v243 : BitVec 1 := Scalar.cmpi .eq arg1 c0_i32_161
  let v244 : BitVec 32 := Scalar.extui v243
  let c0_i32_162 : BitVec 32 := 0#32
  let v245 : BitVec 1 := Scalar.cmpi .ne v244 c0_i32_162
  v245

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S32x64x512 : Shape := ⟨3, ![32, 64, 512]⟩
abbrev S32x4x128x128 : Shape := ⟨4, ![32, 4, 128, 128]⟩
abbrev S32x64x4x128 : Shape := ⟨4, ![32, 64, 4, 128]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S32x1x64x4x128 : Shape := ⟨5, ![32, 1, 64, 4, 128]⟩
abbrev S32x1x4x64x64 : Shape := ⟨5, ![32, 1, 4, 64, 64]⟩
abbrev S1x1x4x64x64 : Shape := ⟨5, ![1, 1, 4, 64, 64]⟩
abbrev S32x1x4x128x64 : Shape := ⟨5, ![32, 1, 4, 128, 64]⟩
abbrev S64x4x1 : Shape := ⟨3, ![64, 4, 1]⟩
abbrev S1x1x64x4x1 : Shape := ⟨5, ![1, 1, 64, 4, 1]⟩
abbrev S32x1x4x128x128 : Shape := ⟨5, ![32, 1, 4, 128, 128]⟩
abbrev S32x4x128x64 : Shape := ⟨4, ![32, 4, 128, 64]⟩
abbrev S1x4x1x1 : Shape := ⟨4, ![1, 4, 1, 1]⟩
abbrev S32x64x4 : Shape := ⟨3, ![32, 64, 4]⟩
abbrev S32x64x4x1 : Shape := ⟨4, ![32, 64, 4, 1]⟩

abbrev nBuf : Space → Nat
  | .hbm => 121
  | .vmem => 0
  | .smem => 0
  | _ => 0

abbrev bufTy : (tb : Table) → Fin (tcTables nBuf tb) → BufTy
  | .hbm, ⟨0, _⟩ => ⟨S32x64x512, .bf16⟩
  | .hbm, ⟨1, _⟩ => ⟨S32x64x512, .bf16⟩
  | .hbm, ⟨2, _⟩ => ⟨S32x64x512, .bf16⟩
  | .hbm, ⟨3, _⟩ => ⟨S32x64x512, .bf16⟩
  | .hbm, ⟨4, _⟩ => ⟨S32x4x128x128, .f32⟩
  | .hbm, ⟨5, _⟩ => ⟨S32x64x512, .f32⟩
  | .hbm, ⟨6, _⟩ => ⟨S32x64x4x128, .f32⟩
  | .hbm, ⟨7, _⟩ => ⟨S32x64x512, .f32⟩
  | .hbm, ⟨8, _⟩ => ⟨S32x64x4x128, .f32⟩
  | .hbm, ⟨9, _⟩ => ⟨S32x64x512, .f32⟩
  | .hbm, ⟨10, _⟩ => ⟨S32x64x4x128, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S64, .f32⟩
  | .hbm, ⟨22, _⟩ => ⟨S64x1, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S1x64x64, .f32⟩
  | .hbm, ⟨28, _⟩ => ⟨S_, .f32⟩
  | .hbm, ⟨29, _⟩ => ⟨S1x64x64, .f32⟩
  | .hbm, ⟨30, _⟩ => ⟨S1x64x64, .i1⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S1x64x64, .f32⟩
  | .hbm, ⟨35, _⟩ => ⟨S4x1x1, .f32⟩
  | .hbm, ⟨36, _⟩ => ⟨S4x64x64, .f32⟩
  | .hbm, ⟨37, _⟩ => ⟨S4x64x64, .f32⟩
  | .hbm, ⟨38, _⟩ => ⟨S4x64x64, .f32⟩
  | .hbm, ⟨39, _⟩ => ⟨S4x64x64, .f32⟩
  | .hbm, ⟨40, _⟩ => ⟨S_, .f32⟩
  | .hbm, ⟨41, _⟩ => ⟨S_, .f32⟩
  | .hbm, ⟨42, _⟩ => ⟨S4x64x64, .i1⟩
  | .hbm, ⟨43, _⟩ => ⟨S4x64x64, .f32⟩
  | .hbm, ⟨44, _⟩ => ⟨S4x64x64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x1, .f32⟩
  | .hbm, ⟨49, _⟩ => ⟨S1x4, .f32⟩
  | .hbm, ⟨50, _⟩ => ⟨S64x4, .f32⟩
  | .hbm, ⟨51, _⟩ => ⟨S64x4, .f32⟩
  | .hbm, ⟨52, _⟩ => ⟨S64x4, .f32⟩
  | .hbm, ⟨53, _⟩ => ⟨S64x4, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S1x4, .f32⟩
  | .hbm, ⟨59, _⟩ => ⟨S64x4, .f32⟩
  | .hbm, ⟨60, _⟩ => ⟨S64x4, .f32⟩
  | .hbm, ⟨61, _⟩ => ⟨S64x4, .f32⟩
  | .hbm, ⟨62, _⟩ => ⟨S64x4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S32x1x64x4x128, .f32⟩
  | .hbm, ⟨68, _⟩ => ⟨S32x1x64x4x128, .f32⟩
  | .hbm, ⟨69, _⟩ => ⟨S32x1x64x4x128, .f32⟩
  | .hbm, ⟨70, _⟩ => ⟨S32x1x4x64x64, .f32⟩
  | .hbm, ⟨71, _⟩ => ⟨S1x1x4x64x64, .f32⟩
  | .hbm, ⟨72, _⟩ => ⟨S32x1x4x64x64, .f32⟩
  | .hbm, ⟨73, _⟩ => ⟨S32x1x4x64x64, .f32⟩
  | .hbm, ⟨74, _⟩ => ⟨S32x1x4x128x64, .f32⟩
  | .hbm, ⟨75, _⟩ => ⟨S32x1x64x4x128, .f32⟩
  | .hbm, ⟨76, _⟩ => ⟨S64x4x1, .f32⟩
  | .hbm, ⟨77, _⟩ => ⟨S1x1x64x4x1, .f32⟩
  | .hbm, ⟨78, _⟩ => ⟨S32x1x64x4x128, .f32⟩
  | .hbm, ⟨79, _⟩ => ⟨S32x1x64x4x128, .f32⟩
  | .hbm, ⟨80, _⟩ => ⟨S32x1x4x128x128, .f32⟩
  | .hbm, ⟨81, _⟩ => ⟨S64x4x1, .f32⟩
  | .hbm, ⟨82, _⟩ => ⟨S1x1x64x4x1, .f32⟩
  | .hbm, ⟨83, _⟩ => ⟨S32x1x64x4x128, .f32⟩
  | .hbm, ⟨84, _⟩ => ⟨S32x1x64x4x128, .f32⟩
  | .hbm, ⟨85, _⟩ => ⟨S32x64x4x128, .f32⟩
  | .hbm, ⟨86, _⟩ => ⟨S32x4x128x64, .f32⟩
  | .hbm, ⟨87, _⟩ => ⟨S32x64x4x128, .f32⟩
  | .hbm, ⟨88, _⟩ => ⟨S1x4x1x1, .f32⟩
  | .hbm, ⟨89, _⟩ => ⟨S32x4x128x128, .f32⟩
  | .hbm, ⟨90, _⟩ => ⟨S32x4x128x128, .f32⟩
  | .hbm, ⟨91, _⟩ => ⟨S32x4x128x128, .f32⟩
  | .hbm, ⟨92, _⟩ => ⟨S32x4x128x128, .f32⟩
  | .hbm, ⟨93, _⟩ => ⟨S32x1x64x4x128, .f32⟩
  | .hbm, ⟨94, _⟩ => ⟨S32x1x64x4x128, .f32⟩
  | .hbm, ⟨95, _⟩ => ⟨S32x64x4x128, .f32⟩
  | .hbm, ⟨96, _⟩ => ⟨S32x64x512, .f32⟩
  | .hbm, ⟨97, _⟩ => ⟨S_, .f32⟩
  | .hbm, ⟨98, _⟩ => ⟨S32x64x4, .f32⟩
  | .hbm, ⟨99, _⟩ => ⟨S32x64x4x1, .f32⟩
  | .hbm, ⟨100, _⟩ => ⟨S_, .f32⟩
  | .hbm, ⟨101, _⟩ => ⟨S32x64x4x1, .f32⟩
  | .hbm, ⟨102, _⟩ => ⟨S32x64x4x1, .f32⟩
  | .hbm, ⟨103, _⟩ => ⟨S32x64x4x128, .f32⟩
  | .hbm, ⟨104, _⟩ => ⟨S32x64x4x128, .f32⟩
  | .hbm, ⟨105, _⟩ => ⟨S32x64x4x128, .f32⟩
  | .hbm, ⟨106, _⟩ => ⟨S_, .f32⟩
  | .hbm, ⟨107, _⟩ => ⟨S32x64x4, .f32⟩
  | .hbm, ⟨108, _⟩ => ⟨S32x64x4x1, .f32⟩
  | .hbm, ⟨109, _⟩ => ⟨S_, .f32⟩
  | .hbm, ⟨110, _⟩ => ⟨S32x64x4x1, .f32⟩
  | .hbm, ⟨111, _⟩ => ⟨S32x64x4x1, .f32⟩
  | .hbm, ⟨112, _⟩ => ⟨S_, .f32⟩
  | .hbm, ⟨113, _⟩ => ⟨S32x64x4x1, .f32⟩
  | .hbm, ⟨114, _⟩ => ⟨S32x64x4x1, .f32⟩
  | .hbm, ⟨115, _⟩ => ⟨S32x64x4x1, .f32⟩
  | .hbm, ⟨116, _⟩ => ⟨S32x64x4x128, .f32⟩
  | .hbm, ⟨117, _⟩ => ⟨S32x64x4x128, .f32⟩
  | .hbm, ⟨118, _⟩ => ⟨S32x64x512, .f32⟩
  | .hbm, ⟨119, _⟩ => ⟨S32x64x512, .f32⟩
  | .hbm, ⟨120, _⟩ => ⟨S32x64x512, .bf16⟩
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_7 : Ref sig .tc := ⟨.hbm, 97, rfl⟩
abbrev main_v81 : Ref sig .tc := ⟨.hbm, 98, rfl⟩
abbrev main_v82 : Ref sig .tc := ⟨.hbm, 99, rfl⟩
abbrev main_cst_8 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_cst_11 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩

abbrev nD : Nat := 1
abbrev τ : Topo := Topo.v7x

variable {F : FTy → Type} [FloatOps F]
-- ==== Kernel2.lean ====
abbrev S32x64x1024 : Shape := ⟨3, ![32, 64, 1024]⟩
abbrev S1x32x4x128x128 : Shape := ⟨5, ![1, 32, 4, 128, 128]⟩
abbrev S4x1024 : Shape := ⟨2, ![4, 1024]⟩
abbrev S32x1024 : Shape := ⟨2, ![32, 1024]⟩
abbrev S1x1024x9216 : Shape := ⟨3, ![1, 1024, 9216]⟩
abbrev S1x9216 : Shape := ⟨2, ![1, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S64 : Shape := ⟨1, ![64]⟩
abbrev S_ : Shape := ⟨0, ![]⟩
abbrev S36x1024 : Shape := ⟨2, ![36, 1024]⟩
abbrev S1024x9216 : Shape := ⟨2, ![1024, 9216]⟩
abbrev S9216 : Shape := ⟨1, ![9216]⟩
abbrev S36x9216 : Shape := ⟨2, ![36, 9216]⟩
abbrev S1024x1024 : Shape := ⟨2, ![1024, 1024]⟩
abbrev S36x9x1024 : Shape := ⟨3, ![36, 9, 1024]⟩
abbrev S32x9x1024 : Shape := ⟨3, ![32, 9, 1024]⟩
abbrev S1024 : Shape := ⟨1, ![1024]⟩
abbrev S1024x5632 : Shape := ⟨2, ![1024, 5632]⟩
abbrev S2816x1024 : Shape := ⟨2, ![2816, 1024]⟩
abbrev S8x64x1024 : Shape := ⟨3, ![8, 64, 1024]⟩
abbrev S8x9x1024 : Shape := ⟨3, ![8, 9, 1024]⟩
abbrev S8x1x1024 : Shape := ⟨3, ![8, 1, 1024]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S64x1 : Shape := ⟨2, ![64, 1]⟩
abbrev S64x64 : Shape := ⟨2, ![64, 64]⟩
abbrev S64x128 : Shape := ⟨2, ![64, 128]⟩
abbrev S1024x3584 : Shape := ⟨2, ![1024, 3584]⟩
abbrev S512 : Shape := ⟨1, ![512]⟩
abbrev S1x512 : Shape := ⟨2, ![1, 512]⟩
abbrev S256x256 : Shape := ⟨2, ![256, 256]⟩
abbrev S32x64x512 : Shape := ⟨3, ![32, 64, 512]⟩
abbrev S8x64x512 : Shape := ⟨3, ![8, 64, 512]⟩
abbrev S512x256 : Shape := ⟨2, ![512, 256]⟩
abbrev S512x512 : Shape := ⟨2, ![512, 512]⟩
abbrev S1024x512 : Shape := ⟨2, ![1024, 512]⟩
abbrev S1x64x128 : Shape := ⟨3, ![1, 64, 128]⟩
abbrev S512x128 : Shape := ⟨2, ![512, 128]⟩
abbrev S8x64x128 : Shape := ⟨3, ![8, 64, 128]⟩
abbrev S32x4x128x128 : Shape := ⟨4, ![32, 4, 128, 128]⟩
abbrev S4 : Shape := ⟨1, ![4]⟩
abbrev S1x64x64 : Shape := ⟨3, ![1, 64, 64]⟩
abbrev S4x1x1 : Shape := ⟨3, ![4, 1, 1]⟩
abbrev S4x64x64 : Shape := ⟨3, ![4, 64, 64]⟩
abbrev S1x1x128 : Shape := ⟨3, ![1, 1, 128]⟩
abbrev S1x64x1 : Shape := ⟨3, ![1, 64, 1]⟩
abbrev S4x64x1 : Shape := ⟨3, ![4, 64, 1]⟩
abbrev S4x64x128 : Shape := ⟨3, ![4, 64, 128]⟩
abbrev S4x1x128 : Shape := ⟨3, ![4, 1, 128]⟩
abbrev S1x64x512 : Shape := ⟨3, ![1, 64, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 184
  | .vmem => 64
  | .smem => 0
  | _ => 0

abbrev hbmTy0_0 (i : Nat) : BufTy := match i % 128 with
  | 0 => ⟨S32x64x1024, .f32⟩
  | 1 => ⟨S1x32x4x128x128, .f32⟩
  | 2 => ⟨S4x1024, .f32⟩
  | 3 => ⟨S32x1024, .f32⟩
  | 4 => ⟨S1x1024x9216, .f32⟩
  | 5 => ⟨S1x9216, .f32⟩
  | 6 => ⟨S1x1024, .f32⟩
  | 7 => ⟨S1x1024, .f32⟩
  | 8 => ⟨S1x1024x5632, .f32⟩
  | 9 => ⟨S1x2816x1024, .f32⟩
  | 10 => ⟨S1x1024x3584, .f32⟩
  | 11 => ⟨S1x64, .f32⟩
  | 12 => ⟨S1x64, .f32⟩
  | 13 => ⟨S64, .i32⟩
  | 14 => ⟨S_, .i32⟩
  | 15 => ⟨S64, .i32⟩
  | 16 => ⟨S64, .i32⟩
  | 17 => ⟨S36x1024, .f32⟩
  | 18 => ⟨S1024x9216, .f32⟩
  | 19 => ⟨S9216, .f32⟩
  | 20 => ⟨S1x9216, .f32⟩
  | 21 => ⟨S36x9216, .f32⟩
  | 22 => ⟨S36x9x1024, .f32⟩
  | 23 => ⟨S32x9x1024, .f32⟩
  | 24 => ⟨S1024, .f32⟩
  | 25 => ⟨S1x1024, .f32⟩
  | 26 => ⟨S1024x5632, .f32⟩
  | 27 => ⟨S1024x5632, .bf16⟩
  | 28 => ⟨S2816x1024, .f32⟩
  | 29 => ⟨S2816x1024, .bf16⟩
  | 30 => ⟨S32x64x1024, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S64x1, .f32⟩
  | 41 => ⟨S1x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x128, .f32⟩
  | 48 => ⟨S64x64, .f32⟩
  | 49 => ⟨S64x128, .f32⟩
  | 50 => ⟨S1024, .f32⟩
  | 51 => ⟨S1x1024, .f32⟩
  | 52 => ⟨S1024x3584, .f32⟩
  | 53 => ⟨S1024x3584, .bf16⟩
  | 54 => ⟨S64, .f32⟩
  | 55 => ⟨S1x64, .f32⟩
  | 56 => ⟨S8x64, .f32⟩
  | 57 => ⟨S512, .f32⟩
  | 58 => ⟨S1x512, .f32⟩
  | 59 => ⟨S64, .f32⟩
  | 60 => ⟨S1x64, .f32⟩
  | 61 => ⟨S8x64, .f32⟩
  | 62 => ⟨S512, .f32⟩
  | 63 => ⟨S1x512, .f32⟩
  | 64 => ⟨S256x256, .i32⟩
  | 65 => ⟨S_, .i32⟩
  | 66 => ⟨S_, .i32⟩
  | 67 => ⟨S256x256, .i32⟩
  | 68 => ⟨S256x256, .i32⟩
  | 69 => ⟨S256x256, .i32⟩
  | 70 => ⟨S_, .i32⟩
  | 71 => ⟨S256x256, .i32⟩
  | 72 => ⟨S256x256, .i1⟩
  | 73 => ⟨S256x256, .i32⟩
  | 74 => ⟨S256x256, .i32⟩
  | 75 => ⟨S_, .i32⟩
  | 76 => ⟨S256x256, .i32⟩
  | 77 => ⟨S256x256, .i1⟩
  | 78 => ⟨S256x256, .i1⟩
  | 79 => ⟨S_, .i32⟩
  | 80 => ⟨S256x256, .i32⟩
  | 81 => ⟨S256x256, .i32⟩
  | 82 => ⟨S256x256, .i32⟩
  | 83 => ⟨S256x256, .i32⟩
  | 84 => ⟨S_, .i32⟩
  | 85 => ⟨S_, .i32⟩
  | 86 => ⟨S256x256, .i32⟩
  | 87 => ⟨S256x256, .i32⟩
  | 88 => ⟨S256x256, .i32⟩
  | 89 => ⟨S_, .i32⟩
  | 90 => ⟨S256x256, .i32⟩
  | 91 => ⟨S256x256, .i1⟩
  | 92 => ⟨S256x256, .i32⟩
  | 93 => ⟨S256x256, .i32⟩
  | 94 => ⟨S_, .i32⟩
  | 95 => ⟨S256x256, .i32⟩
  | 96 => ⟨S256x256, .i1⟩
  | 97 => ⟨S256x256, .i1⟩
  | 98 => ⟨S_, .i32⟩
  | 99 => ⟨S256x256, .i32⟩
  | 100 => ⟨S256x256, .i32⟩
  | 101 => ⟨S256x256, .i32⟩
  | 102 => ⟨S256x256, .i1⟩
  | 103 => ⟨S256x256, .bf16⟩
  | 104 => ⟨S32x64x512, .bf16⟩
  | 105 => ⟨S32x64x512, .f32⟩
  | 106 => ⟨S32x64x512, .bf16⟩
  | 107 => ⟨S32x64x512, .f32⟩
  | 108 => ⟨S32x64x512, .bf16⟩
  | 109 => ⟨S32x64x512, .bf16⟩
  | 110 => ⟨S32x64x512, .bf16⟩
  | 111 => ⟨S32x64x512, .bf16⟩
  | 112 => ⟨S32x64x512, .bf16⟩
  | 113 => ⟨S32x4x128x128, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S4, .f32⟩
  | 123 => ⟨S4, .f32⟩
  | 124 => ⟨S64, .f32⟩
  | 125 => ⟨S64x1, .f32⟩
  | 126 => ⟨S1x64, .f32⟩
  | 127 => ⟨S64x64, .f32⟩
  | _ => ⟨S32x64x1024, .f32⟩

abbrev hbmTy0_1 (i : Nat) : BufTy := match i % 128 with
  | 0 => ⟨S64x64, .f32⟩
  | 1 => ⟨S64x64, .f32⟩
  | 2 => ⟨S1x64x64, .f32⟩
  | 3 => ⟨S_, .f32⟩
  | 4 => ⟨S1x64x64, .f32⟩
  | 5 => ⟨S1x64x64, .i1⟩
  | 6 => ⟨S_, .f32⟩
  | 7 => ⟨S64x64, .f32⟩
  | 8 => ⟨S64x64, .f32⟩
  | 9 => ⟨S1x64x64, .f32⟩
  | 10 => ⟨S4x1x1, .f32⟩
  | 11 => ⟨S4x64x64, .f32⟩
  | 12 => ⟨S4x64x64, .f32⟩
  | 13 => ⟨S4x64x64, .f32⟩
  | 14 => ⟨S4x64x64, .f32⟩
  | 15 => ⟨S_, .f32⟩
  | 16 => ⟨S_, .f32⟩
  | 17 => ⟨S4x64x64, .i1⟩
  | 18 => ⟨S4x64x64, .f32⟩
  | 19 => ⟨S4x64x64, .f32⟩
  | 20 => ⟨S_, .f32⟩
  | 21 => ⟨S1x1x128, .f32⟩
  | 22 => ⟨S_, .f32⟩
  | 23 => ⟨S64, .f32⟩
  | 24 => ⟨S64, .f32⟩
  | 25 => ⟨S1x64x1, .f32⟩
  | 26 => ⟨S4x1x1, .f32⟩
  | 27 => ⟨S4x64x1, .f32⟩
  | 28 => ⟨S4x64x1, .f32⟩
  | 29 => ⟨S4x64x1, .f32⟩
  | 30 => ⟨S4x64x1, .f32⟩
  | 31 => ⟨S4x64x128, .f32⟩
  | 32 => ⟨S4x64x128, .f32⟩
  | 33 => ⟨S4x64x128, .f32⟩
  | 34 => ⟨S_, .f32⟩
  | 35 => ⟨S64, .f32⟩
  | 36 => ⟨S64, .f32⟩
  | 37 => ⟨S1x64x1, .f32⟩
  | 38 => ⟨S4x1x1, .f32⟩
  | 39 => ⟨S4x64x1, .f32⟩
  | 40 => ⟨S4x64x1, .f32⟩
  | 41 => ⟨S4x64x1, .f32⟩
  | 42 => ⟨S4x64x1, .f32⟩
  | 43 => ⟨S4x64x128, .f32⟩
  | 44 => ⟨S4x64x128, .f32⟩
  | 45 => ⟨S4x64x128, .f32⟩
  | 46 => ⟨S_, .f32⟩
  | 47 => ⟨S4, .f32⟩
  | 48 => ⟨S4, .f32⟩
  | 49 => ⟨S4, .f32⟩
  | 50 => ⟨S4x1x1, .f32⟩
  | 51 => ⟨S4x1x128, .f32⟩
  | 52 => ⟨S4x1x128, .f32⟩
  | 53 => ⟨S4x1x128, .f32⟩
  | 54 => ⟨S32x64x512, .bf16⟩
  | 55 => ⟨S32x4x128x128, .f32⟩
  | _ => ⟨S32x64x1024, .f32⟩

abbrev hbmTy (i : Nat) : BufTy := match i / 128 with
  | 0 => hbmTy0_0 i
  | 1 => hbmTy0_1 i
  | _ => ⟨S32x64x1024, .f32⟩

abbrev bufTy : (tb : Table) → Fin (tcTables nBuf tb) → BufTy
  | .hbm, ⟨i, _⟩ => hbmTy i
  | .local _ .vmem, ⟨0, _⟩ => ⟨S36x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S36x1024, .f32⟩
  | .local _ .vmem, ⟨6, _⟩ => ⟨S36x1024, .f32⟩
  | .local _ .vmem, ⟨7, _⟩ => ⟨S8x64x1024, .f32⟩
  | .local _ .vmem, ⟨8, _⟩ => ⟨S8x64x1024, .f32⟩
  | .local _ .vmem, ⟨9, _⟩ => ⟨S8x9x1024, .f32⟩
  | .local _ .vmem, ⟨10, _⟩ => ⟨S8x9x1024, .f32⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S8x64x1024, .f32⟩
  | .local _ .vmem, ⟨15, _⟩ => ⟨S8x64x1024, .f32⟩
  | .local _ .vmem, ⟨16, _⟩ => ⟨S8x64x1024, .f32⟩
  | .local _ .vmem, ⟨17, _⟩ => ⟨S8x64x1024, .f32⟩
  | .local _ .vmem, ⟨18, _⟩ => ⟨S8x9x1024, .f32⟩
  | .local _ .vmem, ⟨19, _⟩ => ⟨S8x9x1024, .f32⟩
  | .local _ .vmem, ⟨20, _⟩ => ⟨S1x1024, .f32⟩
  | .local _ .vmem, ⟨21, _⟩ => ⟨S1024x3584, .bf16⟩
  | .local _ .vmem, ⟨22, _⟩ => ⟨S1x512, .f32⟩
  | .local _ .vmem, ⟨23, _⟩ => ⟨S1x512, .f32⟩
  | .local _ .vmem, ⟨24, _⟩ => ⟨S64x128, .f32⟩
  | .local _ .vmem, ⟨25, _⟩ => ⟨S64x128, .f32⟩
  | .local _ .vmem, ⟨26, _⟩ => ⟨S256x256, .bf16⟩
  | .local _ .vmem, ⟨27, _⟩ => ⟨S8x64x512, .bf16⟩
  | .local _ .vmem, ⟨28, _⟩ => ⟨S8x64x512, .bf16⟩
  | .local _ .vmem, ⟨29, _⟩ => ⟨S8x64x512, .f32⟩
  | .local _ .vmem, ⟨30, _⟩ => ⟨S8x64x512, .f32⟩
  | .local _ .vmem, ⟨31, _⟩ => ⟨S8x64x512, .bf16⟩
  | .local _ .vmem, ⟨32, _⟩ => ⟨S8x64x512, .bf16⟩
  | .local _ .vmem, ⟨33, _⟩ => ⟨S8x64x512, .f32⟩
  | .local _ .vmem, ⟨34, _⟩ => ⟨S8x64x512, .f32⟩
  | .local _ .vmem, ⟨35, _⟩ => ⟨S8x64x512, .bf16⟩
  | .local _ .vmem, ⟨36, _⟩ => ⟨S8x64x512, .bf16⟩
  | .local _ .vmem, ⟨37, _⟩ => ⟨S8x64x512, .bf16⟩
  | .local _ .vmem, ⟨38, _⟩ => ⟨S8x64x512, .bf16⟩
  | .local _ .vmem, ⟨39, _⟩ => ⟨S8x64x512, .bf16⟩
  | .local _ .vmem, ⟨40, _⟩ => ⟨S8x64x512, .bf16⟩
  | .local _ .vmem, ⟨41, _⟩ => ⟨S8x64x512, .bf16⟩
  | .local _ .vmem, ⟨42, _⟩ => ⟨S8x64x512, .bf16⟩
  | .local _ .vmem, ⟨43, _⟩ => ⟨S8x64x512, .bf16⟩
  | .local _ .vmem, ⟨44, _⟩ => ⟨S8x64x512, .bf16⟩
  | .local _ .vmem, ⟨45, _⟩ => ⟨S1x64x512, .bf16⟩
  | .local _ .vmem, ⟨46, _⟩ => ⟨S1x64x512, .bf16⟩
  | .local _ .vmem, ⟨47, _⟩ => ⟨S1x64x512, .bf16⟩
  | .local _ .vmem, ⟨48, _⟩ => ⟨S1x64x512, .bf16⟩
  | .local _ .vmem, ⟨49, _⟩ => ⟨S1x64x512, .bf16⟩
  | .local _ .vmem, ⟨50, _⟩ => ⟨S1x64x512, .bf16⟩
  | .local _ .vmem, ⟨51, _⟩ => ⟨S1x64x512, .bf16⟩
  | .local _ .vmem, ⟨52, _⟩ => ⟨S1x64x512, .bf16⟩
  | .local _ .vmem, ⟨53, _⟩ => ⟨S1x4x128x128, .f32⟩
  | .local _ .vmem, ⟨54, _⟩ => ⟨S1x4x128x128, .f32⟩
  | .local _ .vmem, ⟨55, _⟩ => ⟨S4x64x64, .f32⟩
  | .local _ .vmem, ⟨56, _⟩ => ⟨S4x64x128, .f32⟩
  | .local _ .vmem, ⟨57, _⟩ => ⟨S4x64x128, .f32⟩
  | .local _ .vmem, ⟨58, _⟩ => ⟨S4x1x128, .f32⟩
  | .local _ .vmem, ⟨59, _⟩ => ⟨S1x64x512, .bf16⟩
  | .local _ .vmem, ⟨60, _⟩ => ⟨S1x64x512, .bf16⟩
  | .local _ .vmem, ⟨61, _⟩ => ⟨S1x4x128x128, .f32⟩
  | .local _ .vmem, ⟨62, _⟩ => ⟨S1x4x128x128, .f32⟩
  | .local _ .vmem, ⟨63, _⟩ => ⟨S4x128x128, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_1 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_c : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_0 : Ref sig .tc := ⟨.hbm, 79, rfl⟩
abbrev main_call0_v12 : Ref sig .tc := ⟨.hbm, 80, rfl⟩
abbrev main_call0_v13 : Ref sig .tc := ⟨.hbm, 81, rfl⟩
abbrev main_v49 : Ref sig .tc := ⟨.hbm, 82, rfl⟩
abbrev main_v50 : Ref sig .tc := ⟨.hbm, 83, rfl⟩
abbrev main_c_2 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54_0 : Ref sig .tc := ⟨.hbm, 104, rfl⟩
abbrev main_v54_1 : Ref sig .tc := ⟨.hbm, 105, rfl⟩
abbrev main_v54_2 : Ref sig .tc := ⟨.hbm, 106, rfl⟩
abbrev main_v54_3 : Ref sig .tc := ⟨.hbm, 107, rfl⟩
abbrev main_v54_4 : Ref sig .tc := ⟨.hbm, 108, rfl⟩
abbrev main_v54_5 : Ref sig .tc := ⟨.hbm, 109, rfl⟩
abbrev main_v54_6 : Ref sig .tc := ⟨.hbm, 110, rfl⟩
abbrev main_v54_7 : Ref sig .tc := ⟨.hbm, 111, rfl⟩
abbrev main_v54_8 : Ref sig .tc := ⟨.hbm, 112, rfl⟩
abbrev main_v55 : Ref sig .tc := ⟨.hbm, 113, rfl⟩
abbrev main_v56 : Ref sig .tc := ⟨.hbm, 114, rfl⟩
abbrev main_cst_3 : Ref sig .tc := ⟨.hbm, 115, rfl⟩
abbrev main_v57 : Ref sig .tc := ⟨.hbm, 116, rfl⟩
abbrev main_v58 : Ref sig .tc := ⟨.hbm, 117, rfl⟩
abbrev main_cst_4 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_5 : Ref sig .tc := ⟨.hbm, 131, rfl⟩
abbrev main_v71 : Ref sig .tc := ⟨.hbm, 132, rfl⟩
abbrev main_v72 : Ref sig .tc := ⟨.hbm, 133, rfl⟩
abbrev main_cst_6 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_7 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v81 : Ref sig .tc := ⟨.hbm, 147, rfl⟩
abbrev main_cst_8 : Ref sig .tc := ⟨.hbm, 148, rfl⟩
abbrev main_v82 : Ref sig .tc := ⟨.hbm, 149, rfl⟩
abbrev main_cst_9 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_10 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_11 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112_0 : Ref sig .tc := ⟨.hbm, 182, rfl⟩
abbrev main_v112_1 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg9_1 : Ref sig .tc := ⟨.vmem, 28, rfl⟩
abbrev cc2_stg10_0 : Ref sig .tc := ⟨.vmem, 29, rfl⟩
abbrev cc2_stg10_1 : Ref sig .tc := ⟨.vmem, 30, rfl⟩
abbrev cc2_stg11_0 : Ref sig .tc := ⟨.vmem, 31, rfl⟩
abbrev cc2_stg11_1 : Ref sig .tc := ⟨.vmem, 32, rfl⟩
abbrev cc2_stg12_0 : Ref sig .tc := ⟨.vmem, 33, rfl⟩
abbrev cc2_stg12_1 : Ref sig .tc := ⟨.vmem, 34, rfl⟩
abbrev cc2_stg13_0 : Ref sig .tc := ⟨.vmem, 35, rfl⟩
abbrev cc2_stg13_1 : Ref sig .tc := ⟨.vmem, 36, rfl⟩
abbrev cc2_stg14_0 : Ref sig .tc := ⟨.vmem, 37, rfl⟩
abbrev cc2_stg14_1 : Ref sig .tc := ⟨.vmem, 38, rfl⟩
abbrev cc2_stg15_0 : Ref sig .tc := ⟨.vmem, 39, rfl⟩
abbrev cc2_stg15_1 : Ref sig .tc := ⟨.vmem, 40, rfl⟩
abbrev cc2_stg16_0 : Ref sig .tc := ⟨.vmem, 41, rfl⟩
abbrev cc2_stg16_1 : Ref sig .tc := ⟨.vmem, 42, rfl⟩
abbrev cc2_stg17_0 : Ref sig .tc := ⟨.vmem, 43, rfl⟩
abbrev cc2_stg17_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg6_0 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg9_0 : Ref sig .tc := ⟨.vmem, 59, rfl⟩
abbrev cc3_stg9_1 : Ref sig .tc := ⟨.vmem, 60, rfl⟩
abbrev cc3_stg10_0 : Ref sig .tc := ⟨.vmem, 61, rfl⟩
abbrev cc3_stg10_1 : Ref sig .tc := ⟨.vmem, 62, rfl⟩
abbrev cc3_scratch0 : Ref sig .tc := ⟨.vmem, 63, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem9_1 : DmaSem sig := 28
abbrev cc2_sem10_0 : DmaSem sig := 29
abbrev cc2_sem10_1 : DmaSem sig := 30
abbrev cc2_sem11_0 : DmaSem sig := 31
abbrev cc2_sem11_1 : DmaSem sig := 32
abbrev cc2_sem12_0 : DmaSem sig := 33
abbrev cc2_sem12_1 : DmaSem sig := 34
abbrev cc2_sem13_0 : DmaSem sig := 35
abbrev cc2_sem13_1 : DmaSem sig := 36
abbrev cc2_sem14_0 : DmaSem sig := 37
abbrev cc2_sem14_1 : DmaSem sig := 38
abbrev cc2_sem15_0 : DmaSem sig := 39
abbrev cc2_sem15_1 : DmaSem sig := 40
abbrev cc2_sem16_0 : DmaSem sig := 41
abbrev cc2_sem16_1 : DmaSem sig := 42
abbrev cc2_sem17_0 : DmaSem sig := 43
abbrev cc2_sem17_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc3_sem4_0 : DmaSem sig := 53
abbrev cc3_sem4_1 : DmaSem sig := 54
abbrev cc3_sem5_0 : DmaSem sig := 55
abbrev cc3_sem6_0 : DmaSem sig := 56
abbrev cc3_sem7_0 : DmaSem sig := 57
abbrev cc3_sem8_0 : DmaSem sig := 58
abbrev cc3_sem9_0 : DmaSem sig := 59
abbrev cc3_sem9_1 : DmaSem sig := 60
abbrev cc3_sem10_0 : DmaSem sig := 61
abbrev cc3_sem10_1 : DmaSem sig := 62

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x9x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x5632 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_17 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S8x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x9x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x3584 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, true]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, true]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S8x64x512 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S8x64x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S8x64x512 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S8x64x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S8x64x512 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S8x64x512 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev stage2_15 : Fin 2 → Memref sig .tc .vmem S8x64x512 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]

abbrev stage2_16 : Fin 2 → Memref sig .tc .vmem S8x64x512 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev stage2_17 : Fin 2 → Memref sig .tc .vmem S8x64x512 .bf16 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev grid3 : Pipeline.Grid := ⟨2, ![32, 1], ![false, false]⟩

def k3_cond2 (i : grid3.Coords) : BitVec 1 :=
  let arg1 : BitVec 32 := BitVec.ofNat 32 (i 1).val
  let c0_i32_161 : BitVec 32 := 0#32
  let v243 : BitVec 1 := Scalar.cmpi .eq arg1 c0_i32_161
  let v244 : BitVec 32 := Scalar.extui v243
  let c0_i32_162 : BitVec 32 := 0#32
  let v245 : BitVec 1 := Scalar.cmpi .ne v244 c0_i32_162
  v245

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_10 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x64x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x64x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x64x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x64x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x4x128x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S4x64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S4x64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S4x64x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S4x1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x64x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x4x128x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]
-- ==== Reference2Ideal.lean ====
abbrev S32x64x1024 : Shape := ⟨3, ![32, 64, 1024]⟩
abbrev S1x32x4x128x128 : Shape := ⟨5, ![1, 32, 4, 128, 128]⟩
abbrev S4x1024 : Shape := ⟨2, ![4, 1024]⟩
abbrev S32x1024 : Shape := ⟨2, ![32, 1024]⟩
abbrev S1x1024x9216 : Shape := ⟨3, ![1, 1024, 9216]⟩
abbrev S1x9216 : Shape := ⟨2, ![1, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S64 : Shape := ⟨1, ![64]⟩
abbrev S_ : Shape := ⟨0, ![]⟩
abbrev S1024x9216 : Shape := ⟨2, ![1024, 9216]⟩
abbrev S32x9216 : Shape := ⟨2, ![32, 9216]⟩
abbrev S9216 : Shape := ⟨1, ![9216]⟩
abbrev S1024 : Shape := ⟨1, ![1024]⟩
abbrev S32x64 : Shape := ⟨2, ![32, 64]⟩
abbrev S32x64x1 : Shape := ⟨3, ![32, 64, 1]⟩
abbrev S1x1x1024 : Shape := ⟨3, ![1, 1, 1024]⟩
abbrev S32x1x1024 : Shape := ⟨3, ![32, 1, 1024]⟩
abbrev S1024x5632 : Shape := ⟨2, ![1024, 5632]⟩
abbrev S2816x1024 : Shape := ⟨2, ![2816, 1024]⟩
abbrev S32x64x5632 : Shape := ⟨3, ![32, 64, 5632]⟩
abbrev S32x64x2816 : Shape := ⟨3, ![32, 64, 2816]⟩
abbrev S1024x3584 : Shape := ⟨2, ![1024, 3584]⟩
abbrev S32x64x3584 : Shape := ⟨3, ![32, 64, 3584]⟩
abbrev S32x64x512 : Shape := ⟨3, ![32, 64, 512]⟩
abbrev S32x64x8x64 : Shape := ⟨4, ![32, 64, 8, 64]⟩
abbrev S32x64x8 : Shape := ⟨3, ![32, 64, 8]⟩
abbrev S32x64x8x1 : Shape := ⟨4, ![32, 64, 8, 1]⟩
abbrev S1x1x1x64 : Shape := ⟨4, ![1, 1, 1, 64]⟩
abbrev S32x64x4x128 : Shape := ⟨4, ![32, 64, 4, 128]⟩
abbrev S64x1 : Shape := ⟨2, ![64, 1]⟩
abbrev S64x64 : Shape := ⟨2, ![64, 64]⟩
abbrev S1x64x1x64 : Shape := ⟨4, ![1, 64, 1, 64]⟩
abbrev S32x64x4x64 : Shape := ⟨4, ![32, 64, 4, 64]⟩
abbrev S32x4x128x128 : Shape := ⟨4, ![32, 4, 128, 128]⟩
abbrev S4 : Shape := ⟨1, ![4]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S32x1x64x4x128 : Shape := ⟨5, ![32, 1, 64, 4, 128]⟩
abbrev S32x1x4x64x64 : Shape := ⟨5, ![32, 1, 4, 64, 64]⟩
abbrev S1x1x4x64x64 : Shape := ⟨5, ![1, 1, 4, 64, 64]⟩
abbrev S32x1x4x128x64 : Shape := ⟨5, ![32, 1, 4, 128, 64]⟩
abbrev S64x4x1 : Shape := ⟨3, ![64, 4, 1]⟩
abbrev S1x1x64x4x1 : Shape := ⟨5, ![1, 1, 64, 4, 1]⟩
abbrev S32x1x4x128x128 : Shape := ⟨5, ![32, 1, 4, 128, 128]⟩
abbrev S32x4x128x64 : Shape := ⟨4, ![32, 4, 128, 64]⟩
abbrev S1x4x1x1 : Shape := ⟨4, ![1, 4, 1, 1]⟩
abbrev S32x64x4 : Shape := ⟨3, ![32, 64, 4]⟩
abbrev S32x64x4x1 : Shape := ⟨4, ![32, 64, 4, 1]⟩

abbrev nBuf : Space → Nat
  | .hbm => 356
  | .vmem => 0
  | .smem => 0
  | _ => 0

abbrev hbmTy0_0 (i : Nat) : BufTy := match i % 128 with
  | 0 => ⟨S32x64x1024, .f32⟩
  | 1 => ⟨S1x32x4x128x128, .f32⟩
  | 2 => ⟨S4x1024, .f32⟩
  | 3 => ⟨S32x1024, .f32⟩
  | 4 => ⟨S1x1024x9216, .f32⟩
  | 5 => ⟨S1x9216, .f32⟩
  | 6 => ⟨S1x1024, .f32⟩
  | 7 => ⟨S1x1024, .f32⟩
  | 8 => ⟨S1x1024x5632, .f32⟩
  | 9 => ⟨S1x2816x1024, .f32⟩
  | 10 => ⟨S1x1024x3584, .f32⟩
  | 11 => ⟨S1x64, .f32⟩
  | 12 => ⟨S1x64, .f32⟩
  | 13 => ⟨S64, .i32⟩
  | 14 => ⟨S_, .i32⟩
  | 15 => ⟨S64, .i32⟩
  | 16 => ⟨S64, .i32⟩
  | 17 => ⟨S32x1024, .f32⟩
  | 18 => ⟨S32x1024, .f32⟩
  | 19 => ⟨S_, .f32⟩
  | 20 => ⟨S32x1024, .f32⟩
  | 21 => ⟨S32x1024, .f32⟩
  | 22 => ⟨S_, .f32⟩
  | 23 => ⟨S32x1024, .f32⟩
  | 24 => ⟨S32x1024, .f32⟩
  | 25 => ⟨S32x1024, .f32⟩
  | 26 => ⟨S1024x9216, .f32⟩
  | 27 => ⟨S32x9216, .f32⟩
  | 28 => ⟨S9216, .f32⟩
  | 29 => ⟨S1x9216, .f32⟩
  | 30 => ⟨S32x9216, .f32⟩
  | 31 => ⟨S32x9216, .f32⟩
  | 32 => ⟨S32x1024, .f32⟩
  | 33 => ⟨S32x1024, .f32⟩
  | 34 => ⟨S32x1024, .f32⟩
  | 35 => ⟨S32x1024, .f32⟩
  | 36 => ⟨S32x1024, .f32⟩
  | 37 => ⟨S32x1024, .f32⟩
  | 38 => ⟨S32x1024, .f32⟩
  | 39 => ⟨S32x1024, .f32⟩
  | 40 => ⟨S32x1024, .f32⟩
  | 41 => ⟨S1024, .f32⟩
  | 42 => ⟨S32x64x1024, .f32⟩
  | 43 => ⟨S_, .f32⟩
  | 44 => ⟨S32x64, .f32⟩
  | 45 => ⟨S32x64x1, .f32⟩
  | 46 => ⟨S_, .f32⟩
  | 47 => ⟨S32x64x1, .f32⟩
  | 48 => ⟨S32x64x1, .f32⟩
  | 49 => ⟨S_, .f32⟩
  | 50 => ⟨S32x64x1, .f32⟩
  | 51 => ⟨S32x64x1, .f32⟩
  | 52 => ⟨S32x64x1, .f32⟩
  | 53 => ⟨S32x64x1024, .f32⟩
  | 54 => ⟨S32x64x1024, .f32⟩
  | 55 => ⟨S1x1x1024, .f32⟩
  | 56 => ⟨S32x64x1024, .f32⟩
  | 57 => ⟨S32x64x1024, .f32⟩
  | 58 => ⟨S32x1x1024, .f32⟩
  | 59 => ⟨S_, .f32⟩
  | 60 => ⟨S32x1x1024, .f32⟩
  | 61 => ⟨S32x1x1024, .f32⟩
  | 62 => ⟨S32x64x1024, .f32⟩
  | 63 => ⟨S32x64x1024, .f32⟩
  | 64 => ⟨S32x1x1024, .f32⟩
  | 65 => ⟨S32x64x1024, .f32⟩
  | 66 => ⟨S32x64x1024, .f32⟩
  | 67 => ⟨S32x1x1024, .f32⟩
  | 68 => ⟨S_, .f32⟩
  | 69 => ⟨S32x1x1024, .f32⟩
  | 70 => ⟨S32x1x1024, .f32⟩
  | 71 => ⟨S1024x5632, .f32⟩
  | 72 => ⟨S2816x1024, .f32⟩
  | 73 => ⟨S32x64x5632, .f32⟩
  | 74 => ⟨S32x64x2816, .f32⟩
  | 75 => ⟨S32x64x2816, .f32⟩
  | 76 => ⟨S32x64x2816, .f32⟩
  | 77 => ⟨S32x64x2816, .f32⟩
  | 78 => ⟨S_, .f32⟩
  | 79 => ⟨S32x64x2816, .f32⟩
  | 80 => ⟨S32x64x2816, .f32⟩
  | 81 => ⟨S_, .f32⟩
  | 82 => ⟨S32x64x2816, .f32⟩
  | 83 => ⟨S32x64x2816, .f32⟩
  | 84 => ⟨S32x64x2816, .f32⟩
  | 85 => ⟨S32x64x2816, .f32⟩
  | 86 => ⟨S32x64x1024, .f32⟩
  | 87 => ⟨S32x64x1024, .f32⟩
  | 88 => ⟨S32x64x1024, .f32⟩
  | 89 => ⟨S32x64x1024, .f32⟩
  | 90 => ⟨S1024, .f32⟩
  | 91 => ⟨S32x64x1024, .f32⟩
  | 92 => ⟨S_, .f32⟩
  | 93 => ⟨S32x64, .f32⟩
  | 94 => ⟨S32x64x1, .f32⟩
  | 95 => ⟨S_, .f32⟩
  | 96 => ⟨S32x64x1, .f32⟩
  | 97 => ⟨S32x64x1, .f32⟩
  | 98 => ⟨S_, .f32⟩
  | 99 => ⟨S32x64x1, .f32⟩
  | 100 => ⟨S32x64x1, .f32⟩
  | 101 => ⟨S32x64x1, .f32⟩
  | 102 => ⟨S32x64x1024, .f32⟩
  | 103 => ⟨S32x64x1024, .f32⟩
  | 104 => ⟨S1x1x1024, .f32⟩
  | 105 => ⟨S32x64x1024, .f32⟩
  | 106 => ⟨S32x64x1024, .f32⟩
  | 107 => ⟨S32x1x1024, .f32⟩
  | 108 => ⟨S_, .f32⟩
  | 109 => ⟨S32x1x1024, .f32⟩
  | 110 => ⟨S32x1x1024, .f32⟩
  | 111 => ⟨S32x64x1024, .f32⟩
  | 112 => ⟨S32x64x1024, .f32⟩
  | 113 => ⟨S32x1x1024, .f32⟩
  | 114 => ⟨S32x64x1024, .f32⟩
  | 115 => ⟨S32x64x1024, .f32⟩
  | 116 => ⟨S1024x3584, .f32⟩
  | 117 => ⟨S32x64x3584, .f32⟩
  | 118 => ⟨S32x64x512, .f32⟩
  | 119 => ⟨S32x64x512, .f32⟩
  | 120 => ⟨S32x64x512, .f32⟩
  | 121 => ⟨S32x64x512, .f32⟩
  | 122 => ⟨S32x64x512, .f32⟩
  | 123 => ⟨S32x64x512, .f32⟩
  | 124 => ⟨S32x64x512, .f32⟩
  | 125 => ⟨S32x64x8x64, .f32⟩
  | 126 => ⟨S64, .f32⟩
  | 127 => ⟨S32x64x8x64, .f32⟩
  | _ => ⟨S32x64x1024, .f32⟩

abbrev hbmTy0_1 (i : Nat) : BufTy := match i % 128 with
  | 0 => ⟨S_, .f32⟩
  | 1 => ⟨S32x64x8, .f32⟩
  | 2 => ⟨S32x64x8x1, .f32⟩
  | 3 => ⟨S_, .f32⟩
  | 4 => ⟨S32x64x8x1, .f32⟩
  | 5 => ⟨S32x64x8x1, .f32⟩
  | 6 => ⟨S_, .f32⟩
  | 7 => ⟨S32x64x8x1, .f32⟩
  | 8 => ⟨S32x64x8x1, .f32⟩
  | 9 => ⟨S32x64x8x1, .f32⟩
  | 10 => ⟨S32x64x8x64, .f32⟩
  | 11 => ⟨S32x64x8x64, .f32⟩
  | 12 => ⟨S1x1x1x64, .f32⟩
  | 13 => ⟨S32x64x8x64, .f32⟩
  | 14 => ⟨S32x64x8x64, .f32⟩
  | 15 => ⟨S32x64x8x64, .f32⟩
  | 16 => ⟨S64, .f32⟩
  | 17 => ⟨S32x64x8x64, .f32⟩
  | 18 => ⟨S_, .f32⟩
  | 19 => ⟨S32x64x8, .f32⟩
  | 20 => ⟨S32x64x8x1, .f32⟩
  | 21 => ⟨S_, .f32⟩
  | 22 => ⟨S32x64x8x1, .f32⟩
  | 23 => ⟨S32x64x8x1, .f32⟩
  | 24 => ⟨S_, .f32⟩
  | 25 => ⟨S32x64x8x1, .f32⟩
  | 26 => ⟨S32x64x8x1, .f32⟩
  | 27 => ⟨S32x64x8x1, .f32⟩
  | 28 => ⟨S32x64x8x64, .f32⟩
  | 29 => ⟨S32x64x8x64, .f32⟩
  | 30 => ⟨S1x1x1x64, .f32⟩
  | 31 => ⟨S32x64x8x64, .f32⟩
  | 32 => ⟨S32x64x8x64, .f32⟩
  | 33 => ⟨S32x64x4x128, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S64x1, .f32⟩
  | 44 => ⟨S1x64, .f32⟩
  | 45 => ⟨S64x64, .f32⟩
  | 46 => ⟨S64x64, .f32⟩
  | 47 => ⟨S64x64, .f32⟩
  | 48 => ⟨S64x64, .f32⟩
  | 49 => ⟨S1x64x1x64, .f32⟩
  | 50 => ⟨S64x64, .f32⟩
  | 51 => ⟨S1x64x1x64, .f32⟩
  | 52 => ⟨S32x64x4x64, .f32⟩
  | 53 => ⟨S32x64x4x64, .f32⟩
  | 54 => ⟨S32x64x4x64, .f32⟩
  | 55 => ⟨S32x64x4x64, .f32⟩
  | 56 => ⟨S32x64x4x64, .f32⟩
  | 57 => ⟨S32x64x4x64, .f32⟩
  | 58 => ⟨S32x64x4x64, .f32⟩
  | 59 => ⟨S32x64x4x64, .f32⟩
  | 60 => ⟨S32x64x4x64, .f32⟩
  | 61 => ⟨S32x64x4x64, .f32⟩
  | 62 => ⟨S32x64x4x64, .f32⟩
  | 63 => ⟨S32x64x4x64, .f32⟩
  | 64 => ⟨S32x64x4x128, .f32⟩
  | 65 => ⟨S32x64x4x128, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S64x1, .f32⟩
  | 76 => ⟨S1x64, .f32⟩
  | 77 => ⟨S64x64, .f32⟩
  | 78 => ⟨S64x64, .f32⟩
  | 79 => ⟨S64x64, .f32⟩
  | 80 => ⟨S64x64, .f32⟩
  | 81 => ⟨S1x64x1x64, .f32⟩
  | 82 => ⟨S64x64, .f32⟩
  | 83 => ⟨S1x64x1x64, .f32⟩
  | 84 => ⟨S32x64x4x64, .f32⟩
  | 85 => ⟨S32x64x4x64, .f32⟩
  | 86 => ⟨S32x64x4x64, .f32⟩
  | 87 => ⟨S32x64x4x64, .f32⟩
  | 88 => ⟨S32x64x4x64, .f32⟩
  | 89 => ⟨S32x64x4x64, .f32⟩
  | 90 => ⟨S32x64x4x64, .f32⟩
  | 91 => ⟨S32x64x4x64, .f32⟩
  | 92 => ⟨S32x64x4x64, .f32⟩
  | 93 => ⟨S32x64x4x64, .f32⟩
  | 94 => ⟨S32x64x4x64, .f32⟩
  | 95 => ⟨S32x64x4x64, .f32⟩
  | 96 => ⟨S32x64x4x128, .f32⟩
  | 97 => ⟨S_, .f32⟩
  | 98 => ⟨S32x64x4x128, .f32⟩
  | 99 => ⟨S32x64x4x128, .f32⟩
  | 100 => ⟨S32x64x4x128, .f32⟩
  | 101 => ⟨S32x4x128x128, .f32⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S4, .f32⟩
  | 110 => ⟨S4, .f32⟩
  | 111 => ⟨S4, .f32⟩
  | 112 => ⟨S64, .f32⟩
  | 113 => ⟨S64x1, .f32⟩
  | 114 => ⟨S1x64, .f32⟩
  | 115 => ⟨S64x64, .f32⟩
  | 116 => ⟨S64x64, .f32⟩
  | 117 => ⟨S64x64, .f32⟩
  | 118 => ⟨S1x64x64, .f32⟩
  | 119 => ⟨S_, .f32⟩
  | 120 => ⟨S1x64x64, .f32⟩
  | 121 => ⟨S1x64x64, .i1⟩
  | 122 => ⟨S_, .f32⟩
  | 123 => ⟨S64x64, .f32⟩
  | 124 => ⟨S64x64, .f32⟩
  | 125 => ⟨S1x64x64, .f32⟩
  | 126 => ⟨S4x1x1, .f32⟩
  | 127 => ⟨S4x64x64, .f32⟩
  | _ => ⟨S32x64x1024, .f32⟩

abbrev hbmTy0_2 (i : Nat) : BufTy := match i % 128 with
  | 0 => ⟨S4x64x64, .f32⟩
  | 1 => ⟨S4x64x64, .f32⟩
  | 2 => ⟨S4x64x64, .f32⟩
  | 3 => ⟨S_, .f32⟩
  | 4 => ⟨S_, .f32⟩
  | 5 => ⟨S4x64x64, .i1⟩
  | 6 => ⟨S4x64x64, .f32⟩
  | 7 => ⟨S4x64x64, .f32⟩
  | 8 => ⟨S_, .f32⟩
  | 9 => ⟨S64, .f32⟩
  | 10 => ⟨S64, .f32⟩
  | 11 => ⟨S64x1, .f32⟩
  | 12 => ⟨S1x4, .f32⟩
  | 13 => ⟨S64x4, .f32⟩
  | 14 => ⟨S64x4, .f32⟩
  | 15 => ⟨S64x4, .f32⟩
  | 16 => ⟨S64x4, .f32⟩
  | 17 => ⟨S_, .f32⟩
  | 18 => ⟨S64, .f32⟩
  | 19 => ⟨S64, .f32⟩
  | 20 => ⟨S64x1, .f32⟩
  | 21 => ⟨S1x4, .f32⟩
  | 22 => ⟨S64x4, .f32⟩
  | 23 => ⟨S64x4, .f32⟩
  | 24 => ⟨S64x4, .f32⟩
  | 25 => ⟨S64x4, .f32⟩
  | 26 => ⟨S_, .f32⟩
  | 27 => ⟨S4, .f32⟩
  | 28 => ⟨S4, .f32⟩
  | 29 => ⟨S4, .f32⟩
  | 30 => ⟨S32x1x64x4x128, .f32⟩
  | 31 => ⟨S32x1x64x4x128, .f32⟩
  | 32 => ⟨S32x1x64x4x128, .f32⟩
  | 33 => ⟨S32x1x4x64x64, .f32⟩
  | 34 => ⟨S1x1x4x64x64, .f32⟩
  | 35 => ⟨S32x1x4x64x64, .f32⟩
  | 36 => ⟨S32x1x4x64x64, .f32⟩
  | 37 => ⟨S32x1x4x128x64, .f32⟩
  | 38 => ⟨S32x1x64x4x128, .f32⟩
  | 39 => ⟨S64x4x1, .f32⟩
  | 40 => ⟨S1x1x64x4x1, .f32⟩
  | 41 => ⟨S32x1x64x4x128, .f32⟩
  | 42 => ⟨S32x1x64x4x128, .f32⟩
  | 43 => ⟨S32x1x4x128x128, .f32⟩
  | 44 => ⟨S64x4x1, .f32⟩
  | 45 => ⟨S1x1x64x4x1, .f32⟩
  | 46 => ⟨S32x1x64x4x128, .f32⟩
  | 47 => ⟨S32x1x64x4x128, .f32⟩
  | 48 => ⟨S32x64x4x128, .f32⟩
  | 49 => ⟨S32x4x128x64, .f32⟩
  | 50 => ⟨S32x64x4x128, .f32⟩
  | 51 => ⟨S1x4x1x1, .f32⟩
  | 52 => ⟨S32x4x128x128, .f32⟩
  | 53 => ⟨S32x4x128x128, .f32⟩
  | 54 => ⟨S32x4x128x128, .f32⟩
  | 55 => ⟨S32x4x128x128, .f32⟩
  | 56 => ⟨S32x1x64x4x128, .f32⟩
  | 57 => ⟨S32x1x64x4x128, .f32⟩
  | 58 => ⟨S32x64x4x128, .f32⟩
  | 59 => ⟨S32x64x512, .f32⟩
  | 60 => ⟨S32x64x512, .f32⟩
  | 61 => ⟨S_, .f32⟩
  | 62 => ⟨S32x64x512, .f32⟩
  | 63 => ⟨S32x64x512, .f32⟩
  | 64 => ⟨S_, .f32⟩
  | 65 => ⟨S32x64x512, .f32⟩
  | 66 => ⟨S32x64x512, .f32⟩
  | 67 => ⟨S32x64x512, .f32⟩
  | 68 => ⟨S_, .f32⟩
  | 69 => ⟨S32x64x4, .f32⟩
  | 70 => ⟨S32x64x4x1, .f32⟩
  | 71 => ⟨S_, .f32⟩
  | 72 => ⟨S32x64x4x1, .f32⟩
  | 73 => ⟨S32x64x4x1, .f32⟩
  | 74 => ⟨S32x64x4x128, .f32⟩
  | 75 => ⟨S32x64x4x128, .f32⟩
  | 76 => ⟨S32x64x4x128, .f32⟩
  | 77 => ⟨S_, .f32⟩
  | 78 => ⟨S32x64x4, .f32⟩
  | 79 => ⟨S32x64x4x1, .f32⟩
  | 80 => ⟨S_, .f32⟩
  | 81 => ⟨S32x64x4x1, .f32⟩
  | 82 => ⟨S32x64x4x1, .f32⟩
  | 83 => ⟨S_, .f32⟩
  | 84 => ⟨S32x64x4x1, .f32⟩
  | 85 => ⟨S32x64x4x1, .f32⟩
  | 86 => ⟨S32x64x4x1, .f32⟩
  | 87 => ⟨S32x64x4x128, .f32⟩
  | 88 => ⟨S32x64x4x128, .f32⟩
  | 89 => ⟨S32x64x512, .f32⟩
  | 90 => ⟨S32x64x512, .f32⟩
  | 91 => ⟨S_, .f32⟩
  | 92 => ⟨S32x64x8x64, .f32⟩
  | 93 => ⟨S32x64x8x64, .f32⟩
  | 94 => ⟨S32x64x512, .f32⟩
  | 95 => ⟨S32x64x512, .f32⟩
  | 96 => ⟨S32x64x512, .bf16⟩
  | 97 => ⟨S32x64x512, .bf16⟩
  | 98 => ⟨S32x64x512, .bf16⟩
  | 99 => ⟨S32x64x512, .bf16⟩
  | _ => ⟨S32x64x1024, .f32⟩

abbrev hbmTy (i : Nat) : BufTy := match i / 128 with
  | 0 => hbmTy0_0 i
  | 1 => hbmTy0_1 i
  | 2 => hbmTy0_2 i
  | _ => ⟨S32x64x1024, .f32⟩

abbrev bufTy : (tb : Table) → Fin (tcTables nBuf tb) → BufTy
  | .hbm, ⟨i, _⟩ => hbmTy i
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_4 : Ref sig .tc := ⟨.hbm, 92, rfl⟩
abbrev main_v57 : Ref sig .tc := ⟨.hbm, 93, rfl⟩
abbrev main_v58 : Ref sig .tc := ⟨.hbm, 94, rfl⟩
abbrev main_cst_5 : Ref sig .tc := ⟨.hbm, 95, rfl⟩
abbrev main_v59 : Ref sig .tc := ⟨.hbm, 96, rfl⟩
abbrev main_v60 : Ref sig .tc := ⟨.hbm, 97, rfl⟩
abbrev main_cst_6 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_7 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_8 : Ref sig .tc := ⟨.hbm, 128, rfl⟩
abbrev main_v89 : Ref sig .tc := ⟨.hbm, 129, rfl⟩
abbrev main_v90 : Ref sig .tc := ⟨.hbm, 130, rfl⟩
abbrev main_cst_9 : Ref sig .tc := ⟨.hbm, 131, rfl⟩
abbrev main_v91 : Ref sig .tc := ⟨.hbm, 132, rfl⟩
abbrev main_v92 : Ref sig .tc := ⟨.hbm, 133, rfl⟩
abbrev main_cst_10 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_11 : Ref sig .tc := ⟨.hbm, 146, rfl⟩
abbrev main_v104 : Ref sig .tc := ⟨.hbm, 147, rfl⟩
abbrev main_v105 : Ref sig .tc := ⟨.hbm, 148, rfl⟩
abbrev main_cst_12 : Ref sig .tc := ⟨.hbm, 149, rfl⟩
abbrev main_v106 : Ref sig .tc := ⟨.hbm, 150, rfl⟩
abbrev main_v107 : Ref sig .tc := ⟨.hbm, 151, rfl⟩
abbrev main_cst_13 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_14 : Ref sig .tc := ⟨.hbm, 164, rfl⟩
abbrev main_v119 : Ref sig .tc := ⟨.hbm, 165, rfl⟩
abbrev main_v120 : Ref sig .tc := ⟨.hbm, 166, rfl⟩
abbrev main_cst_15 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_16 : Ref sig .tc := ⟨.hbm, 196, rfl⟩
abbrev main_v149 : Ref sig .tc := ⟨.hbm, 197, rfl⟩
abbrev main_v150 : Ref sig .tc := ⟨.hbm, 198, rfl⟩
abbrev main_cst_17 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_18 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_19 : Ref sig .tc := ⟨.hbm, 231, rfl⟩
abbrev main_v181 : Ref sig .tc := ⟨.hbm, 232, rfl⟩
abbrev main_v182 : Ref sig .tc := ⟨.hbm, 233, rfl⟩
abbrev main_cst_20 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_21 : Ref sig .tc := ⟨.hbm, 247, rfl⟩
abbrev main_v195 : Ref sig .tc := ⟨.hbm, 248, rfl⟩
abbrev main_v196 : Ref sig .tc := ⟨.hbm, 249, rfl⟩
abbrev main_cst_22 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_23 : Ref sig .tc := ⟨.hbm, 259, rfl⟩
abbrev main_call2_v0 : Ref sig .tc := ⟨.hbm, 260, rfl⟩
abbrev main_call2_v1 : Ref sig .tc := ⟨.hbm, 261, rfl⟩
abbrev main_call2_v2 : Ref sig .tc := ⟨.hbm, 262, rfl⟩
abbrev main_v205 : Ref sig .tc := ⟨.hbm, 263, rfl⟩
abbrev main_cst_24 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_25 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_cst_26 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_call3_v0 : Ref sig .tc := ⟨.hbm, 315, rfl⟩
abbrev main_call3_v1 : Ref sig .tc := ⟨.hbm, 316, rfl⟩
abbrev main_call3_cst : Ref sig .tc := ⟨.hbm, 317, rfl⟩
abbrev main_call3_v2 : Ref sig .tc := ⟨.hbm, 318, rfl⟩
abbrev main_call3_v3 : Ref sig .tc := ⟨.hbm, 319, rfl⟩
abbrev main_call3_cst_0 : Ref sig .tc := ⟨.hbm, 320, rfl⟩
abbrev main_call3_v4 : Ref sig .tc := ⟨.hbm, 321, rfl⟩
abbrev main_call3_v5 : Ref sig .tc := ⟨.hbm, 322, rfl⟩
abbrev main_v254 : Ref sig .tc := ⟨.hbm, 323, rfl⟩
abbrev main_cst_27 : Ref sig .tc := ⟨.hbm, 324, rfl⟩
abbrev main_v255 : Ref sig .tc := ⟨.hbm, 325, rfl⟩
abbrev main_v256 : Ref sig .tc := ⟨.hbm, 326, rfl⟩
abbrev main_cst_28 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_cst_29 : Ref sig .tc := ⟨.hbm, 333, rfl⟩
abbrev main_v262 : Ref sig .tc := ⟨.hbm, 334, rfl⟩
abbrev main_v263 : Ref sig .tc := ⟨.hbm, 335, rfl⟩
abbrev main_cst_30 : Ref sig .tc := ⟨.hbm, 336, rfl⟩
abbrev main_v264 : Ref sig .tc := ⟨.hbm, 337, rfl⟩
abbrev main_v265 : Ref sig .tc := ⟨.hbm, 338, rfl⟩
abbrev main_cst_31 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_cst_32 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩

abbrev nD : Nat := 1
abbrev τ : Topo := Topo.v7x

variable {F : FTy → Type} [FloatOps F]
-- ==== Kernel3.lean ====
abbrev S32x64x1024 : Shape := ⟨3, ![32, 64, 1024]⟩
abbrev S32x64x512 : Shape := ⟨3, ![32, 64, 512]⟩
abbrev S32x9216 : Shape := ⟨2, ![32, 9216]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S32x9x1024 : Shape := ⟨3, ![32, 9, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S8x64x1024 : Shape := ⟨3, ![8, 64, 1024]⟩
abbrev S8x64x512 : Shape := ⟨3, ![8, 64, 512]⟩
abbrev S8x9x1024 : Shape := ⟨3, ![8, 9, 1024]⟩
abbrev S512x512 : Shape := ⟨2, ![512, 512]⟩
abbrev S512x1024 : Shape := ⟨2, ![512, 1024]⟩
abbrev S8x1x1024 : Shape := ⟨3, ![8, 1, 1024]⟩
abbrev S8x64 : Shape := ⟨2, ![8, 64]⟩
abbrev S8x64x1 : Shape := ⟨3, ![8, 64, 1]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 18
  | .vmem => 14
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x9216, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S32x9x1024, .f32⟩
  | .hbm, ⟨9, _⟩ => ⟨S1024, .f32⟩
  | .hbm, ⟨10, _⟩ => ⟨S1x1024, .f32⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024x1024, .f32⟩
  | .hbm, ⟨16, _⟩ => ⟨S1024x1024, .bf16⟩
  | .hbm, ⟨17, _⟩ => ⟨S32x64x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x9x1024, .f32⟩
  | .local _ .vmem, ⟨7, _⟩ => ⟨S8x9x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S8x64x1024, .f32⟩
  | .local _ .vmem, ⟨13, _⟩ => ⟨S8x64x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S32x64x1024 : Shape := ⟨3, ![32, 64, 1024]⟩
abbrev S32x64x512 : Shape := ⟨3, ![32, 64, 512]⟩
abbrev S32x9216 : Shape := ⟨2, ![32, 9216]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S32x1024 : Shape := ⟨2, ![32, 1024]⟩
abbrev S32x1x1024 : Shape := ⟨3, ![32, 1, 1024]⟩
abbrev S1024x1024 : Shape := ⟨2, ![1024, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x5632 : Shape := ⟨2, ![1024, 5632]⟩
abbrev S2816x1024 : Shape := ⟨2, ![2816, 1024]⟩
abbrev S32x64x5632 : Shape := ⟨3, ![32, 64, 5632]⟩
abbrev S32x64x2816 : Shape := ⟨3, ![32, 64, 2816]⟩

abbrev nBuf : Space → Nat
  | .hbm => 75
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S32x9216, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x64x512, .f32⟩
  | .hbm, ⟨18, _⟩ => ⟨S32x64x512, .f32⟩
  | .hbm, ⟨19, _⟩ => ⟨S32x64x1024, .f32⟩
  | .hbm, ⟨20, _⟩ => ⟨S32x1x1024, .f32⟩
  | .hbm, ⟨21, _⟩ => ⟨S1024x1024, .f32⟩
  | .hbm, ⟨22, _⟩ => ⟨S32x64x1024, .f32⟩
  | .hbm, ⟨23, _⟩ => ⟨S32x64x1024, .f32⟩
  | .hbm, ⟨24, _⟩ => ⟨S32x64x1024, .f32⟩
  | .hbm, ⟨25, _⟩ => ⟨S32x64x1024, .f32⟩
  | .hbm, ⟨26, _⟩ => ⟨S1024, .f32⟩
  | .hbm, ⟨27, _⟩ => ⟨S32x64x1024, .f32⟩
  | .hbm, ⟨28, _⟩ => ⟨S_, .f32⟩
  | .hbm, ⟨29, _⟩ => ⟨S32x64, .f32⟩
  | .hbm, ⟨30, _⟩ => ⟨S32x64x1, .f32⟩
  | .hbm, ⟨31, _⟩ => ⟨S_, .f32⟩
  | .hbm, ⟨32, _⟩ => ⟨S32x64x1, .f32⟩
  | .hbm, ⟨33, _⟩ => ⟨S32x64x1, .f32⟩
  | .hbm, ⟨34, _⟩ => ⟨S_, .f32⟩
  | .hbm, ⟨35, _⟩ => ⟨S32x64x1, .f32⟩
  | .hbm, ⟨36, _⟩ => ⟨S32x64x1, .f32⟩
  | .hbm, ⟨37, _⟩ => ⟨S32x64x1, .f32⟩
  | .hbm, ⟨38, _⟩ => ⟨S32x64x1024, .f32⟩
  | .hbm, ⟨39, _⟩ => ⟨S32x64x1024, .f32⟩
  | .hbm, ⟨40, _⟩ => ⟨S1x1x1024, .f32⟩
  | .hbm, ⟨41, _⟩ => ⟨S32x64x1024, .f32⟩
  | .hbm, ⟨42, _⟩ => ⟨S32x64x1024, .f32⟩
  | .hbm, ⟨43, _⟩ => ⟨S32x1x1024, .f32⟩
  | .hbm, ⟨44, _⟩ => ⟨S_, .f32⟩
  | .hbm, ⟨45, _⟩ => ⟨S32x1x1024, .f32⟩
  | .hbm, ⟨46, _⟩ => ⟨S32x1x1024, .f32⟩
  | .hbm, ⟨47, _⟩ => ⟨S32x64x1024, .f32⟩
  | .hbm, ⟨48, _⟩ => ⟨S32x64x1024, .f32⟩
  | .hbm, ⟨49, _⟩ => ⟨S32x1x1024, .f32⟩
  | .hbm, ⟨50, _⟩ => ⟨S32x64x1024, .f32⟩
  | .hbm, ⟨51, _⟩ => ⟨S32x64x1024, .f32⟩
  | .hbm, ⟨52, _⟩ => ⟨S32x1x1024, .f32⟩
  | .hbm, ⟨53, _⟩ => ⟨S_, .f32⟩
  | .hbm, ⟨54, _⟩ => ⟨S32x1x1024, .f32⟩
  | .hbm, ⟨55, _⟩ => ⟨S32x1x1024, .f32⟩
  | .hbm, ⟨56, _⟩ => ⟨S1024x5632, .f32⟩
  | .hbm, ⟨57, _⟩ => ⟨S2816x1024, .f32⟩
  | .hbm, ⟨58, _⟩ => ⟨S32x64x5632, .f32⟩
  | .hbm, ⟨59, _⟩ => ⟨S32x64x2816, .f32⟩
  | .hbm, ⟨60, _⟩ => ⟨S32x64x2816, .f32⟩
  | .hbm, ⟨61, _⟩ => ⟨S32x64x2816, .f32⟩
  | .hbm, ⟨62, _⟩ => ⟨S32x64x2816, .f32⟩
  | .hbm, ⟨63, _⟩ => ⟨S_, .f32⟩
  | .hbm, ⟨64, _⟩ => ⟨S32x64x2816, .f32⟩
  | .hbm, ⟨65, _⟩ => ⟨S32x64x2816, .f32⟩
  | .hbm, ⟨66, _⟩ => ⟨S_, .f32⟩
  | .hbm, ⟨67, _⟩ => ⟨S32x64x2816, .f32⟩
  | .hbm, ⟨68, _⟩ => ⟨S32x64x2816, .f32⟩
  | .hbm, ⟨69, _⟩ => ⟨S32x64x2816, .f32⟩
  | .hbm, ⟨70, _⟩ => ⟨S32x64x2816, .f32⟩
  | .hbm, ⟨71, _⟩ => ⟨S32x64x1024, .f32⟩
  | .hbm, ⟨72, _⟩ => ⟨S32x64x1024, .f32⟩
  | .hbm, ⟨73, _⟩ => ⟨S32x64x1024, .f32⟩
  | .hbm, ⟨74, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1024 : Shape := ⟨2, ![4, 1024]⟩
abbrev S32x1024 : Shape := ⟨2, ![32, 1024]⟩
abbrev S1x1024x9216 : Shape := ⟨3, ![1, 1024, 9216]⟩
abbrev S1x9216 : Shape := ⟨2, ![1, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S8192 : Shape := ⟨1, ![8192]⟩
abbrev S36x1024 : Shape := ⟨2, ![36, 1024]⟩
abbrev S1024x9216 : Shape := ⟨2, ![1024, 9216]⟩
abbrev S9216 : Shape := ⟨1, ![9216]⟩
abbrev S36x9216 : Shape := ⟨2, ![36, 9216]⟩
abbrev S1024x1024 : Shape := ⟨2, ![1024, 1024]⟩
abbrev S36x9x1024 : Shape := ⟨3, ![36, 9, 1024]⟩
abbrev S4x9x1024 : Shape := ⟨3, ![4, 9, 1024]⟩
abbrev S1024 : Shape := ⟨1, ![1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S64 : Shape := ⟨1, ![64]⟩
abbrev S_ : Shape := ⟨0, ![]⟩
abbrev S8192x1 : Shape := ⟨2, ![8192, 1]⟩
abbrev S8192x64 : Shape := ⟨2, ![8192, 64]⟩
abbrev S8192x128 : Shape := ⟨2, ![8192, 128]⟩
abbrev S1024x3584 : Shape := ⟨2, ![1024, 3584]⟩
abbrev S8x64 : Shape := ⟨2, ![8, 64]⟩
abbrev S512 : Shape := ⟨1, ![512]⟩
abbrev S256x256 : Shape := ⟨2, ![256, 256]⟩
abbrev S4x8192x512 : Shape := ⟨3, ![4, 8192, 512]⟩
abbrev S512x128 : Shape := ⟨2, ![512, 128]⟩
abbrev S1x512x512 : Shape := ⟨3, ![1, 512, 512]⟩
abbrev S512x256 : Shape := ⟨2, ![512, 256]⟩
abbrev S512x512 : Shape := ⟨2, ![512, 512]⟩
abbrev S1024x512 : Shape := ⟨2, ![1024, 512]⟩
abbrev S1x512x128 : Shape := ⟨3, ![1, 512, 128]⟩

abbrev nBuf : Space → Nat
  | .hbm => 109
  | .vmem => 47
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S32x1024, .f32⟩
  | .hbm, ⟨3, _⟩ => ⟨S1x1024x9216, .f32⟩
  | .hbm, ⟨4, _⟩ => ⟨S1x9216, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1x1024x3584, .f32⟩
  | .hbm, ⟨10, _⟩ => ⟨S1x64, .f32⟩
  | .hbm, ⟨11, _⟩ => ⟨S1x64, .f32⟩
  | .hbm, ⟨12, _⟩ => ⟨S8192, .i32⟩
  | .hbm, ⟨13, _⟩ => ⟨S36x1024, .f32⟩
  | .hbm, ⟨14, _⟩ => ⟨S1024x9216, .f32⟩
  | .hbm, ⟨15, _⟩ => ⟨S9216, .f32⟩
  | .hbm, ⟨16, _⟩ => ⟨S1x9216, .f32⟩
  | .hbm, ⟨17, _⟩ => ⟨S36x9216, .f32⟩
  | .hbm, ⟨18, _⟩ => ⟨S36x9x1024, .f32⟩
  | .hbm, ⟨19, _⟩ => ⟨S4x9x1024, .f32⟩
  | .hbm, ⟨20, _⟩ => ⟨S1024, .f32⟩
  | .hbm, ⟨21, _⟩ => ⟨S1x1024, .f32⟩
  | .hbm, ⟨22, _⟩ => ⟨S1024x5632, .f32⟩
  | .hbm, ⟨23, _⟩ => ⟨S1024x5632, .bf16⟩
  | .hbm, ⟨24, _⟩ => ⟨S2816x1024, .f32⟩
  | .hbm, ⟨25, _⟩ => ⟨S2816x1024, .bf16⟩
  | .hbm, ⟨26, _⟩ => ⟨S4x8192x1024, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S8192, .f32⟩
  | .hbm, ⟨36, _⟩ => ⟨S8192x1, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x128, .f32⟩
  | .hbm, ⟨44, _⟩ => ⟨S8192x64, .f32⟩
  | .hbm, ⟨45, _⟩ => ⟨S8192x128, .f32⟩
  | .hbm, ⟨46, _⟩ => ⟨S1024, .f32⟩
  | .hbm, ⟨47, _⟩ => ⟨S1x1024, .f32⟩
  | .hbm, ⟨48, _⟩ => ⟨S1024x3584, .f32⟩
  | .hbm, ⟨49, _⟩ => ⟨S1024x3584, .bf16⟩
  | .hbm, ⟨50, _⟩ => ⟨S64, .f32⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S64, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S1x512, .f32⟩
  | .hbm, ⟨60, _⟩ => ⟨S256x256, .i32⟩
  | .hbm, ⟨61, _⟩ => ⟨S_, .i32⟩
  | .hbm, ⟨62, _⟩ => ⟨S_, .i32⟩
  | .hbm, ⟨63, _⟩ => ⟨S256x256, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i1⟩
  | .hbm, ⟨74, _⟩ => ⟨S256x256, .i1⟩
  | .hbm, ⟨75, _⟩ => ⟨S_, .i32⟩
  | .hbm, ⟨76, _⟩ => ⟨S256x256, .i32⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S_, .i32⟩
  | .hbm, ⟨82, _⟩ => ⟨S256x256, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i1⟩
  | .hbm, ⟨88, _⟩ => ⟨S256x256, .i32⟩
  | .hbm, ⟨89, _⟩ => ⟨S256x256, .i32⟩
  | .hbm, ⟨90, _⟩ => ⟨S_, .i32⟩
  | .hbm, ⟨91, _⟩ => ⟨S256x256, .i32⟩
  | .hbm, ⟨92, _⟩ => ⟨S256x256, .i1⟩
  | .hbm, ⟨93, _⟩ => ⟨S256x256, .i1⟩
  | .hbm, ⟨94, _⟩ => ⟨S_, .i32⟩
  | .hbm, ⟨95, _⟩ => ⟨S256x256, .i32⟩
  | .hbm, ⟨96, _⟩ => ⟨S256x256, .i32⟩
  | .hbm, ⟨97, _⟩ => ⟨S256x256, .i32⟩
  | .hbm, ⟨98, _⟩ => ⟨S256x256, .i1⟩
  | .hbm, ⟨99, _⟩ => ⟨S256x256, .bf16⟩
  | .hbm, ⟨100, _⟩ => ⟨S4x8192x512, .bf16⟩
  | .hbm, ⟨101, _⟩ => ⟨S4x8192x512, .f32⟩
  | .hbm, ⟨102, _⟩ => ⟨S4x8192x512, .bf16⟩
  | .hbm, ⟨103, _⟩ => ⟨S4x8192x512, .f32⟩
  | .hbm, ⟨104, _⟩ => ⟨S4x8192x512, .bf16⟩
  | .hbm, ⟨105, _⟩ => ⟨S4x8192x512, .bf16⟩
  | .hbm, ⟨106, _⟩ => ⟨S4x8192x512, .bf16⟩
  | .hbm, ⟨107, _⟩ => ⟨S4x8192x512, .bf16⟩
  | .hbm, ⟨108, _⟩ => ⟨S4x8192x512, .bf16⟩
  | .local _ .vmem, ⟨0, _⟩ => ⟨S36x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S36x1024, .f32⟩
  | .local _ .vmem, ⟨6, _⟩ => ⟨S36x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x9x1024, .f32⟩
  | .local _ .vmem, ⟨10, _⟩ => ⟨S1x9x1024, .f32⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x9x1024, .f32⟩
  | .local _ .vmem, ⟨19, _⟩ => ⟨S1x9x1024, .f32⟩
  | .local _ .vmem, ⟨20, _⟩ => ⟨S1x1024, .f32⟩
  | .local _ .vmem, ⟨21, _⟩ => ⟨S1024x3584, .bf16⟩
  | .local _ .vmem, ⟨22, _⟩ => ⟨S1x512, .f32⟩
  | .local _ .vmem, ⟨23, _⟩ => ⟨S1x512, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S256x256, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .f32⟩
  | .local _ .vmem, ⟨32, _⟩ => ⟨S1x512x512, .f32⟩
  | .local _ .vmem, ⟨33, _⟩ => ⟨S1x512x512, .bf16⟩
  | .local _ .vmem, ⟨34, _⟩ => ⟨S1x512x512, .bf16⟩
  | .local _ .vmem, ⟨35, _⟩ => ⟨S1x512x512, .f32⟩
  | .local _ .vmem, ⟨36, _⟩ => ⟨S1x512x512, .f32⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x512, .bf16⟩
  | .local _ .vmem, ⟨42, _⟩ => ⟨S1x512x512, .bf16⟩
  | .local _ .vmem, ⟨43, _⟩ => ⟨S1x512x512, .bf16⟩
  | .local _ .vmem, ⟨44, _⟩ => ⟨S1x512x512, .bf16⟩
  | .local _ .vmem, ⟨45, _⟩ => ⟨S1x512x512, .bf16⟩
  | .local _ .vmem, ⟨46, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v47 : Ref sig .tc := ⟨.hbm, 78, rfl⟩
abbrev main_v48 : Ref sig .tc := ⟨.hbm, 79, rfl⟩
abbrev main_c_1 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52_0 : Ref sig .tc := ⟨.hbm, 100, rfl⟩
abbrev main_v52_1 : Ref sig .tc := ⟨.hbm, 101, rfl⟩
abbrev main_v52_2 : Ref sig .tc := ⟨.hbm, 102, rfl⟩
abbrev main_v52_3 : Ref sig .tc := ⟨.hbm, 103, rfl⟩
abbrev main_v52_4 : Ref sig .tc := ⟨.hbm, 104, rfl⟩
abbrev main_v52_5 : Ref sig .tc := ⟨.hbm, 105, rfl⟩
abbrev main_v52_6 : Ref sig .tc := ⟨.hbm, 106, rfl⟩
abbrev main_v52_7 : Ref sig .tc := ⟨.hbm, 107, rfl⟩
abbrev main_v52_8 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc2_stg11_0 : Ref sig .tc := ⟨.vmem, 33, rfl⟩
abbrev cc2_stg11_1 : Ref sig .tc := ⟨.vmem, 34, rfl⟩
abbrev cc2_stg12_0 : Ref sig .tc := ⟨.vmem, 35, rfl⟩
abbrev cc2_stg12_1 : Ref sig .tc := ⟨.vmem, 36, rfl⟩
abbrev cc2_stg13_0 : Ref sig .tc := ⟨.vmem, 37, rfl⟩
abbrev cc2_stg13_1 : Ref sig .tc := ⟨.vmem, 38, rfl⟩
abbrev cc2_stg14_0 : Ref sig .tc := ⟨.vmem, 39, rfl⟩
abbrev cc2_stg14_1 : Ref sig .tc := ⟨.vmem, 40, rfl⟩
abbrev cc2_stg15_0 : Ref sig .tc := ⟨.vmem, 41, rfl⟩
abbrev cc2_stg15_1 : Ref sig .tc := ⟨.vmem, 42, rfl⟩
abbrev cc2_stg16_0 : Ref sig .tc := ⟨.vmem, 43, rfl⟩
abbrev cc2_stg16_1 : Ref sig .tc := ⟨.vmem, 44, rfl⟩
abbrev cc2_stg17_0 : Ref sig .tc := ⟨.vmem, 45, rfl⟩
abbrev cc2_stg17_1 : Ref sig .tc := ⟨.vmem, 46, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem9_0 : DmaSem sig := 29
abbrev cc2_sem9_1 : DmaSem sig := 30
abbrev cc2_sem10_0 : DmaSem sig := 31
abbrev cc2_sem10_1 : DmaSem sig := 32
abbrev cc2_sem11_0 : DmaSem sig := 33
abbrev cc2_sem11_1 : DmaSem sig := 34
abbrev cc2_sem12_0 : DmaSem sig := 35
abbrev cc2_sem12_1 : DmaSem sig := 36
abbrev cc2_sem13_0 : DmaSem sig := 37
abbrev cc2_sem13_1 : DmaSem sig := 38
abbrev cc2_sem14_0 : DmaSem sig := 39
abbrev cc2_sem14_1 : DmaSem sig := 40
abbrev cc2_sem15_0 : DmaSem sig := 41
abbrev cc2_sem15_1 : DmaSem sig := 42
abbrev cc2_sem16_0 : DmaSem sig := 43
abbrev cc2_sem16_1 : DmaSem sig := 44
abbrev cc2_sem17_0 : DmaSem sig := 45
abbrev cc2_sem17_1 : DmaSem sig := 46

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x9x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x5632 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_17 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x9x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x3584 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x512x512 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x512x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x512x512 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S1x512x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S1x512x512 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S1x512x512 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev stage2_15 : Fin 2 → Memref sig .tc .vmem S1x512x512 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]

abbrev stage2_16 : Fin 2 → Memref sig .tc .vmem S1x512x512 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev stage2_17 : Fin 2 → Memref sig .tc .vmem S1x512x512 .bf16 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]
-- ==== Reference4Ideal.lean ====
abbrev S4x8192x1024 : Shape := ⟨3, ![4, 8192, 1024]⟩
abbrev S4x1024 : Shape := ⟨2, ![4, 1024]⟩
abbrev S32x1024 : Shape := ⟨2, ![32, 1024]⟩
abbrev S1x1024x9216 : Shape := ⟨3, ![1, 1024, 9216]⟩
abbrev S1x9216 : Shape := ⟨2, ![1, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3584 : Shape := ⟨3, ![1, 1024, 3584]⟩
abbrev S1x64 : Shape := ⟨2, ![1, 64]⟩
abbrev S_ : Shape := ⟨0, ![]⟩
abbrev S1024x9216 : Shape := ⟨2, ![1024, 9216]⟩
abbrev S4x9216 : Shape := ⟨2, ![4, 9216]⟩
abbrev S9216 : Shape := ⟨1, ![9216]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S1024x3584 : Shape := ⟨2, ![1024, 3584]⟩
abbrev S4x8192x3584 : Shape := ⟨3, ![4, 8192, 3584]⟩
abbrev S4x8192x512 : Shape := ⟨3, ![4, 8192, 512]⟩
abbrev S4x8192x2048 : Shape := ⟨3, ![4, 8192, 2048]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩

abbrev nBuf : Space → Nat
  | .hbm => 136
  | .vmem => 0
  | .smem => 0
  | _ => 0

abbrev hbmTy0_0 (i : Nat) : BufTy := match i % 128 with
  | 0 => ⟨S4x8192x1024, .f32⟩
  | 1 => ⟨S4x1024, .f32⟩
  | 2 => ⟨S32x1024, .f32⟩
  | 3 => ⟨S1x1024x9216, .f32⟩
  | 4 => ⟨S1x9216, .f32⟩
  | 5 => ⟨S1x1024, .f32⟩
  | 6 => ⟨S1x1024, .f32⟩
  | 7 => ⟨S1x1024x5632, .f32⟩
  | 8 => ⟨S1x2816x1024, .f32⟩
  | 9 => ⟨S1x1024x3584, .f32⟩
  | 10 => ⟨S1x64, .f32⟩
  | 11 => ⟨S1x64, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S4x1024, .f32⟩
  | 21 => ⟨S1024x9216, .f32⟩
  | 22 => ⟨S4x9216, .f32⟩
  | 23 => ⟨S9216, .f32⟩
  | 24 => ⟨S1x9216, .f32⟩
  | 25 => ⟨S4x9216, .f32⟩
  | 26 => ⟨S4x9216, .f32⟩
  | 27 => ⟨S4x1024, .f32⟩
  | 28 => ⟨S4x1024, .f32⟩
  | 29 => ⟨S4x1024, .f32⟩
  | 30 => ⟨S4x1024, .f32⟩
  | 31 => ⟨S4x1024, .f32⟩
  | 32 => ⟨S4x1024, .f32⟩
  | 33 => ⟨S4x1024, .f32⟩
  | 34 => ⟨S4x1024, .f32⟩
  | 35 => ⟨S4x1024, .f32⟩
  | 36 => ⟨S1024, .f32⟩
  | 37 => ⟨S4x8192x1024, .f32⟩
  | 38 => ⟨S_, .f32⟩
  | 39 => ⟨S4x8192, .f32⟩
  | 40 => ⟨S4x8192x1, .f32⟩
  | 41 => ⟨S_, .f32⟩
  | 42 => ⟨S4x8192x1, .f32⟩
  | 43 => ⟨S4x8192x1, .f32⟩
  | 44 => ⟨S_, .f32⟩
  | 45 => ⟨S4x8192x1, .f32⟩
  | 46 => ⟨S4x8192x1, .f32⟩
  | 47 => ⟨S4x8192x1, .f32⟩
  | 48 => ⟨S4x8192x1024, .f32⟩
  | 49 => ⟨S4x8192x1024, .f32⟩
  | 50 => ⟨S1x1x1024, .f32⟩
  | 51 => ⟨S4x8192x1024, .f32⟩
  | 52 => ⟨S4x8192x1024, .f32⟩
  | 53 => ⟨S4x1x1024, .f32⟩
  | 54 => ⟨S_, .f32⟩
  | 55 => ⟨S4x1x1024, .f32⟩
  | 56 => ⟨S4x1x1024, .f32⟩
  | 57 => ⟨S4x8192x1024, .f32⟩
  | 58 => ⟨S4x8192x1024, .f32⟩
  | 59 => ⟨S4x1x1024, .f32⟩
  | 60 => ⟨S4x8192x1024, .f32⟩
  | 61 => ⟨S4x8192x1024, .f32⟩
  | 62 => ⟨S4x1x1024, .f32⟩
  | 63 => ⟨S_, .f32⟩
  | 64 => ⟨S4x1x1024, .f32⟩
  | 65 => ⟨S4x1x1024, .f32⟩
  | 66 => ⟨S1024x5632, .f32⟩
  | 67 => ⟨S2816x1024, .f32⟩
  | 68 => ⟨S4x8192x5632, .f32⟩
  | 69 => ⟨S4x8192x2816, .f32⟩
  | 70 => ⟨S4x8192x2816, .f32⟩
  | 71 => ⟨S4x8192x2816, .f32⟩
  | 72 => ⟨S4x8192x2816, .f32⟩
  | 73 => ⟨S_, .f32⟩
  | 74 => ⟨S4x8192x2816, .f32⟩
  | 75 => ⟨S4x8192x2816, .f32⟩
  | 76 => ⟨S_, .f32⟩
  | 77 => ⟨S4x8192x2816, .f32⟩
  | 78 => ⟨S4x8192x2816, .f32⟩
  | 79 => ⟨S4x8192x2816, .f32⟩
  | 80 => ⟨S4x8192x2816, .f32⟩
  | 81 => ⟨S4x8192x1024, .f32⟩
  | 82 => ⟨S4x8192x1024, .f32⟩
  | 83 => ⟨S4x8192x1024, .f32⟩
  | 84 => ⟨S4x8192x1024, .f32⟩
  | 85 => ⟨S1024, .f32⟩
  | 86 => ⟨S4x8192x1024, .f32⟩
  | 87 => ⟨S_, .f32⟩
  | 88 => ⟨S4x8192, .f32⟩
  | 89 => ⟨S4x8192x1, .f32⟩
  | 90 => ⟨S_, .f32⟩
  | 91 => ⟨S4x8192x1, .f32⟩
  | 92 => ⟨S4x8192x1, .f32⟩
  | 93 => ⟨S_, .f32⟩
  | 94 => ⟨S4x8192x1, .f32⟩
  | 95 => ⟨S4x8192x1, .f32⟩
  | 96 => ⟨S4x8192x1, .f32⟩
  | 97 => ⟨S4x8192x1024, .f32⟩
  | 98 => ⟨S4x8192x1024, .f32⟩
  | 99 => ⟨S1x1x1024, .f32⟩
  | 100 => ⟨S4x8192x1024, .f32⟩
  | 101 => ⟨S4x8192x1024, .f32⟩
  | 102 => ⟨S4x1x1024, .f32⟩
  | 103 => ⟨S_, .f32⟩
  | 104 => ⟨S4x1x1024, .f32⟩
  | 105 => ⟨S4x1x1024, .f32⟩
  | 106 => ⟨S4x8192x1024, .f32⟩
  | 107 => ⟨S4x8192x1024, .f32⟩
  | 108 => ⟨S4x1x1024, .f32⟩
  | 109 => ⟨S4x8192x1024, .f32⟩
  | 110 => ⟨S4x8192x1024, .f32⟩
  | 111 => ⟨S1024x3584, .f32⟩
  | 112 => ⟨S4x8192x3584, .f32⟩
  | 113 => ⟨S4x8192x512, .f32⟩
  | 114 => ⟨S4x8192x512, .f32⟩
  | 115 => ⟨S4x8192x512, .f32⟩
  | 116 => ⟨S4x8192x2048, .f32⟩
  | 117 => ⟨S4x8192x8x64, .f32⟩
  | 118 => ⟨S64, .f32⟩
  | 119 => ⟨S4x8192x8x64, .f32⟩
  | 120 => ⟨S_, .f32⟩
  | 121 => ⟨S4x8192x8, .f32⟩
  | 122 => ⟨S4x8192x8x1, .f32⟩
  | 123 => ⟨S_, .f32⟩
  | 124 => ⟨S4x8192x8x1, .f32⟩
  | 125 => ⟨S4x8192x8x1, .f32⟩
  | 126 => ⟨S_, .f32⟩
  | 127 => ⟨S4x8192x8x1, .f32⟩
  | _ => ⟨S4x8192x1024, .f32⟩

abbrev hbmTy0_1 (i : Nat) : BufTy := match i % 128 with
  | 0 => ⟨S4x8192x8x1, .f32⟩
  | 1 => ⟨S4x8192x8x1, .f32⟩
  | 2 => ⟨S4x8192x8x64, .f32⟩
  | 3 => ⟨S4x8192x8x64, .f32⟩
  | 4 => ⟨S1x1x1x64, .f32⟩
  | 5 => ⟨S4x8192x8x64, .f32⟩
  | 6 => ⟨S4x8192x8x64, .f32⟩
  | 7 => ⟨S4x8192x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_4 : Ref sig .tc := ⟨.hbm, 87, rfl⟩
abbrev main_v54 : Ref sig .tc := ⟨.hbm, 88, rfl⟩
abbrev main_v55 : Ref sig .tc := ⟨.hbm, 89, rfl⟩
abbrev main_cst_5 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_8 : Ref sig .tc := ⟨.hbm, 120, rfl⟩
abbrev main_v83 : Ref sig .tc := ⟨.hbm, 121, rfl⟩
abbrev main_v84 : Ref sig .tc := ⟨.hbm, 122, rfl⟩
abbrev main_cst_9 : Ref sig .tc := ⟨.hbm, 123, rfl⟩
abbrev main_v85 : Ref sig .tc := ⟨.hbm, 124, rfl⟩
abbrev main_v86 : Ref sig .tc := ⟨.hbm, 125, rfl⟩
abbrev main_cst_10 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S4x9216 : Shape := ⟨2, ![4, 9216]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S4x9x1024 : Shape := ⟨3, ![4, 9, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1x512x1024 : Shape := ⟨3, ![1, 512, 1024]⟩
abbrev S1x512x512 : Shape := ⟨3, ![1, 512, 512]⟩
abbrev S1x9x1024 : Shape := ⟨3, ![1, 9, 1024]⟩
abbrev S512x512 : Shape := ⟨2, ![512, 512]⟩
abbrev S512x1024 : Shape := ⟨2, ![512, 1024]⟩
abbrev S1x1x1024 : Shape := ⟨3, ![1, 1, 1024]⟩
abbrev S1x512 : Shape := ⟨2, ![1, 512]⟩
abbrev S1x512x1 : Shape := ⟨3, ![1, 512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x9216, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S4x9x1024, .f32⟩
  | .hbm, ⟨9, _⟩ => ⟨S1024, .f32⟩
  | .hbm, ⟨10, _⟩ => ⟨S1x1024, .f32⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024x1024, .f32⟩
  | .hbm, ⟨16, _⟩ => ⟨S1024x1024, .bf16⟩
  | .hbm, ⟨17, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4x8192x1024 : Shape := ⟨3, ![4, 8192, 1024]⟩
abbrev S4x8192x512 : Shape := ⟨3, ![4, 8192, 512]⟩
abbrev S4x9216 : Shape := ⟨2, ![4, 9216]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S4x1024 : Shape := ⟨2, ![4, 1024]⟩
abbrev S4x1x1024 : Shape := ⟨3, ![4, 1, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x9216, .f32⟩
  | .hbm, ⟨4, _⟩ => ⟨S1x1024, .f32⟩
  | .hbm, ⟨5, _⟩ => ⟨S1x1024x1024, .f32⟩
  | .hbm, ⟨6, _⟩ => ⟨S1x1024x5632, .f32⟩
  | .hbm, ⟨7, _⟩ => ⟨S1x2816x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x8192x512, .f32⟩
  | .hbm, ⟨18, _⟩ => ⟨S4x8192x512, .f32⟩
  | .hbm, ⟨19, _⟩ => ⟨S4x8192x1024, .f32⟩
  | .hbm, ⟨20, _⟩ => ⟨S4x1x1024, .f32⟩
  | .hbm, ⟨21, _⟩ => ⟨S1024x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S1024, .f32⟩
  | .hbm, ⟨27, _⟩ => ⟨S4x8192x1024, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S4x1x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x1x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S1024x5632, .f32⟩
  | .hbm, ⟨57, _⟩ => ⟨S2816x1024, .f32⟩
  | .hbm, ⟨58, _⟩ => ⟨S4x8192x5632, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S_, .f32⟩
  | .hbm, ⟨64, _⟩ => ⟨S4x8192x2816, .f32⟩
  | .hbm, ⟨65, _⟩ => ⟨S4x8192x2816, .f32⟩
  | .hbm, ⟨66, _⟩ => ⟨S_, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel6.lean ====
abbrev S4x8192x512 : Shape := ⟨3, ![4, 8192, 512]⟩
abbrev S_ : Shape := ⟨0, ![]⟩
abbrev S4x4x128x128 : Shape := ⟨4, ![4, 4, 128, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x1x128 : Shape := ⟨3, ![1, 1, 128]⟩
abbrev S1x256x1 : Shape := ⟨3, ![1, 256, 1]⟩
abbrev S4x256x1 : Shape := ⟨3, ![4, 256, 1]⟩
abbrev S4x256x128 : Shape := ⟨3, ![4, 256, 128]⟩
abbrev S4x1x128 : Shape := ⟨3, ![4, 1, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 76
  | .vmem => 19
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S_, .f32⟩
  | .hbm, ⟨5, _⟩ => ⟨S4x4x128x128, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S256, .f32⟩
  | .hbm, ⟨17, _⟩ => ⟨S256x1, .f32⟩
  | .hbm, ⟨18, _⟩ => ⟨S1x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S1x256x256, .f32⟩
  | .hbm, ⟨23, _⟩ => ⟨S_, .f32⟩
  | .hbm, ⟨24, _⟩ => ⟨S1x256x256, .f32⟩
  | .hbm, ⟨25, _⟩ => ⟨S1x256x256, .i1⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S1x256x256, .f32⟩
  | .hbm, ⟨30, _⟩ => ⟨S4x1x1, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S_, .f32⟩
  | .hbm, ⟨36, _⟩ => ⟨S_, .f32⟩
  | .hbm, ⟨37, _⟩ => ⟨S4x256x256, .i1⟩
  | .hbm, ⟨38, _⟩ => ⟨S4x256x256, .f32⟩
  | .hbm, ⟨39, _⟩ => ⟨S4x256x256, .f32⟩
  | .hbm, ⟨40, _⟩ => ⟨S_, .f32⟩
  | .hbm, ⟨41, _⟩ => ⟨S1x1x128, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256x1, .f32⟩
  | .hbm, ⟨46, _⟩ => ⟨S4x1x1, .f32⟩
  | .hbm, ⟨47, _⟩ => ⟨S4x256x1, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x128, .f32⟩
  | .hbm, ⟨52, _⟩ => ⟨S4x256x128, .f32⟩
  | .hbm, ⟨53, _⟩ => ⟨S4x256x128, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256x1, .f32⟩
  | .hbm, ⟨58, _⟩ => ⟨S4x1x1, .f32⟩
  | .hbm, ⟨59, _⟩ => ⟨S4x256x1, .f32⟩
  | .hbm, ⟨60, _⟩ => ⟨S4x256x1, .f32⟩
  | .hbm, ⟨61, _⟩ => ⟨S4x256x1, .f32⟩
  | .hbm, ⟨62, _⟩ => ⟨S4x256x1, .f32⟩
  | .hbm, ⟨63, _⟩ => ⟨S4x256x128, .f32⟩
  | .hbm, ⟨64, _⟩ => ⟨S4x256x128, .f32⟩
  | .hbm, ⟨65, _⟩ => ⟨S4x256x128, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4x1x1, .f32⟩
  | .hbm, ⟨71, _⟩ => ⟨S4x1x128, .f32⟩
  | .hbm, ⟨72, _⟩ => ⟨S4x1x128, .f32⟩
  | .hbm, ⟨73, _⟩ => ⟨S4x1x128, .f32⟩
  | .hbm, ⟨74, _⟩ => ⟨S4x8192x512, .bf16⟩
  | .hbm, ⟨75, _⟩ => ⟨S4x4x128x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x4x128x128, .f32⟩
  | .local _ .vmem, ⟨9, _⟩ => ⟨S1x4x128x128, .f32⟩
  | .local _ .vmem, ⟨10, _⟩ => ⟨S4x256x256, .f32⟩
  | .local _ .vmem, ⟨11, _⟩ => ⟨S4x256x128, .f32⟩
  | .local _ .vmem, ⟨12, _⟩ => ⟨S4x256x128, .f32⟩
  | .local _ .vmem, ⟨13, _⟩ => ⟨S4x1x128, .f32⟩
  | .local _ .vmem, ⟨14, _⟩ => ⟨S1x256x512, .bf16⟩
  | .local _ .vmem, ⟨15, _⟩ => ⟨S1x256x512, .bf16⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v243 : BitVec 1 := Scalar.cmpi .eq arg1 c31_i32
  let v244 : BitVec 32 := Scalar.extui v243
  let c0_i32_161 : BitVec 32 := 0#32
  let v245 : BitVec 1 := Scalar.cmpi .ne v244 c0_i32_161
  v245

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S4x8192x512 : Shape := ⟨3, ![4, 8192, 512]⟩
abbrev S4x8192x4x128 : Shape := ⟨4, ![4, 8192, 4, 128]⟩
abbrev S_ : Shape := ⟨0, ![]⟩
abbrev S4x4x128x128 : Shape := ⟨4, ![4, 4, 128, 128]⟩
abbrev S4 : Shape := ⟨1, ![4]⟩
abbrev S64 : Shape := ⟨1, ![64]⟩
abbrev S64x1 : Shape := ⟨2, ![64, 1]⟩
abbrev S1x4 : Shape := ⟨2, ![1, 4]⟩
abbrev S64x4 : Shape := ⟨2, ![64, 4]⟩
abbrev S4x128x64x4x128 : Shape := ⟨5, ![4, 128, 64, 4, 128]⟩
abbrev S64x4x1 : Shape := ⟨3, ![64, 4, 1]⟩
abbrev S1x1x64x4x1 : Shape := ⟨5, ![1, 1, 64, 4, 1]⟩
abbrev S128x4x4x128x128 : Shape := ⟨5, ![128, 4, 4, 128, 128]⟩
abbrev S1x4x4x128x128 : Shape := ⟨5, ![1, 4, 4, 128, 128]⟩
abbrev S1x4x1x1 : Shape := ⟨4, ![1, 4, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S4x8192x512, .f32⟩
  | .hbm, ⟨5, _⟩ => ⟨S4x8192x4x128, .f32⟩
  | .hbm, ⟨6, _⟩ => ⟨S4x8192x512, .f32⟩
  | .hbm, ⟨7, _⟩ => ⟨S4x8192x4x128, .f32⟩
  | .hbm, ⟨8, _⟩ => ⟨S_, .f32⟩
  | .hbm, ⟨9, _⟩ => ⟨S4x4x128x128, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S1x4, .f32⟩
  | .hbm, ⟨26, _⟩ => ⟨S64x4, .f32⟩
  | .hbm, ⟨27, _⟩ => ⟨S64x4, .f32⟩
  | .hbm, ⟨28, _⟩ => ⟨S64x4, .f32⟩
  | .hbm, ⟨29, _⟩ => ⟨S64x4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4x128x64x4x128, .f32⟩
  | .hbm, ⟨35, _⟩ => ⟨S4x128x64x4x128, .f32⟩
  | .hbm, ⟨36, _⟩ => ⟨S64x4x1, .f32⟩
  | .hbm, ⟨37, _⟩ => ⟨S1x1x64x4x1, .f32⟩
  | .hbm, ⟨38, _⟩ => ⟨S4x128x64x4x128, .f32⟩
  | .hbm, ⟨39, _⟩ => ⟨S4x128x64x4x128, .f32⟩
  | .hbm, ⟨40, _⟩ => ⟨S128x4x4x128x128, .f32⟩
  | .hbm, ⟨41, _⟩ => ⟨S_, .i32⟩
  | .hbm, ⟨42, _⟩ => ⟨S128x4x4x128x128, .f32⟩
  | .hbm, ⟨43, _⟩ => ⟨S4, .f32⟩
  | .hbm, ⟨44, _⟩ => ⟨S_, .i32⟩
  | .hbm, ⟨45, _⟩ => ⟨S4x4x128x128, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x4x128x128, .f32⟩
  | .hbm, ⟨53, _⟩ => ⟨S4x4x128x128, .f32⟩
  | .hbm, ⟨54, _⟩ => ⟨S1x4x1x1, .f32⟩
  | .hbm, ⟨55, _⟩ => ⟨S4x4x128x128, .f32⟩
  | .hbm, ⟨56, _⟩ => ⟨S4x4x128x128, .f32⟩
  | .hbm, ⟨57, _⟩ => ⟨S4x4x128x128, .f32⟩
  | .hbm, ⟨58, _⟩ => ⟨S_, .i32⟩
  | .hbm, ⟨59, _⟩ => ⟨S_, .i32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_while0c_c_7 : Ref sig .tc := ⟨.hbm, 46, rfl⟩
abbrev main_while0c_v33 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v0 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_c_7 : Ref sig .tc := ⟨.hbm, 58, rfl⟩
abbrev main_while0b_v38 : Ref sig .tc := ⟨.hbm, 59, rfl⟩

abbrev nD : Nat := 1
abbrev τ : Topo := Topo.v7x

variable {F : FTy → Type} [FloatOps F]

abbrev main_while0_count : Scf.Loop 32 := ⟨0#32, 128#32, 1#32⟩
-- ==== Proof.RetMath.lean ====
module
public import Idealize.ShloMosaic.Lib.Pointwise
@[expose] public section
noncomputable section
/-! The retention of one chunk of frames, one head at a time, as plain sums: the mixed frames, their normalisation
    over a head's entries, and the state the chunk leaves. -/
namespace Cert.RetMath
open Idealize.ShloMosaic
open scoped BigOperators

/-- Column `e` of head `h`. -/
def col (h : Fin 4) (e : Fin 128) : Fin 512 := ⟨h.val * 128 + e.val, by omega⟩

/-- One head's mixed frames before the normalisation: the decayed scores inside the chunk and the
    carried state's part. -/
def mixAt (q k v : Fin 64 → Fin 128 → EReal) (S : Fin 128 → Fin 128 → EReal) (dm : Fin 64 → Fin 64 → EReal)
    (qd : Fin 64 → Fin 128 → EReal) (i : Fin 64) (e : Fin 128) : EReal :=
  ∑ j, (∑ d, q i d * k j d) * dm i j * v j e + ∑ d, q i d * qd i d * S d e

/-- A row less its mean. -/
def centred (o : Fin 128 → EReal) (e : Fin 128) : EReal :=
  o e - Ideal.div (∑ x, o x) (Ideal.ofBits FTy.f32 1124073472#32)

/-- A row normalised over its entries. -/
def normed (o : Fin 128 → EReal) (e : Fin 128) : EReal :=
  centred o e * Ideal.rsqrt (Ideal.div (∑ x, centred o x * centred o x) (Ideal.ofBits FTy.f32 1124073472#32)
    + Ideal.ofBits FTy.f32 897988541#32)

/-- One head's state after the chunk. -/
def stateAt (k v : Fin 64 → Fin 128 → EReal) (S : Fin 128 → Fin 128 → EReal) (kd : Fin 64 → Fin 128 → EReal)
    (cd : Fin 128 → EReal) (d e : Fin 128) : EReal :=
  cd e * S d e + ∑ j, k j d * kd j d * v j e

theorem col_div (h : Fin 4) (e : Fin 128) (p) : (⟨(col h e).val / 128, p⟩ : Fin 4) = h :=
  Fin.ext (by show (h.val * 128 + e.val) / 128 = h.val; omega)
theorem col_mod (h : Fin 4) (e : Fin 128) (p) : (⟨(col h e).val % 128, p⟩ : Fin 128) = e :=
  Fin.ext (by show (h.val * 128 + e.val) % 128 = e.val; omega)
theorem exists_col (w : Fin 512) : ∃ h e, w = col h e :=
  ⟨⟨w.val / 128, by omega⟩, ⟨w.val % 128, by omega⟩, Fin.ext (by show w.val = w.val / 128 * 128 + w.val % 128; omega)⟩
-- ==== Proof.RetBody.lean ====
module
public import proofs.«01_k».proof.Proof.Gen.KernelIdeal.Value
public import proofs.«01_k».proof.Proof.RetMath
public import Idealize.ShloMosaic.Lib.Pipeline.ReadBack
public import Idealize.ShloMosaic.Lib.Pipeline.ValueKit
@[expose] public section
set_option maxRecDepth 16384
noncomputable section
/-! What one grid point of the retention call writes: the rows of its sequence and the state after its chunk. -/
namespace Cert.KernelIdeal.RetValue
open Cert.KernelIdeal Cert.KernelIdeal.Gen Idealize.ShloMosaic Idealize.ShloMosaic.TcCoe Idealize.SL.Sem
open Idealize.ShloMosaic.Pipeline (Dat)
open scoped BigOperators
open Cert.RetMath

abbrev Blk : Type := FVec Ideal S1x64x512 .bf16

section heads
variable (q k v g : Vec Ideal S1x64x128 .bf16) (S : Vec Ideal S1x128x128 .f32) (dm : Vec Ideal S1x64x64 .f32)
  (qd kd : Vec Ideal S1x64x128 .f32) (cd : Vec Ideal S1x1x128 .f32)

/-- A head's output block, as the first head computes it. -/
def headO : FVec Ideal S1x64x128 .bf16 := k0_pay12 (k0_pay8 q k v dm) (k0_pay9 q S qd) g
/-- A head's new state, as the first head computes it. -/
def headS : FVec Ideal S1x128x128 .f32 := k0_pay11 (k0_pay7 S) (k0_pay10 k v kd) cd

theorem head1 : k0_pay19 (k0_pay18 (k0_pay13 q) k v S dm qd) g = headO q k v g S dm qd := rfl
theorem head2 : k0_pay28 (k0_pay26 (k0_pay20 q) (k0_pay22 v) (k0_pay23 S) (k0_pay24 q k) dm qd)
    (k0_pay27 (k0_pay20 q) (k0_pay22 v) (k0_pay23 S) (k0_pay24 q k) dm qd) (FloatOps.ofBits FTy.f32 897988541#32) g
      = headO q k v g S dm qd := rfl
theorem head3 : k0_pay1 (k0_pay37 (k0_pay33 q k v dm) (k0_pay34 q qd) (k0_pay35 S) g) = headO q k v g S dm qd := rfl
theorem state1 : k0_pay17 k v S kd cd = headS k v S kd cd := rfl
theorem state2 : k0_pay25 (k0_pay21 k) (k0_pay22 v) (k0_pay23 S) kd cd = headS k v S kd cd := rfl
theorem state3 : k0_pay36 (k0_pay30 k) (k0_pay31 v) (k0_pay32 S) kd cd = headS k v S kd cd := rfl

theorem headO_apply (i : Fin 64) (e : Fin 128) :
    headO q k v g S dm qd (ix3 0 i e) = g (ix3 0 i e) * normed (mixAt (fun i d => q (ix3 0 i d)) (fun i d => k (ix3 0 i d))
      (fun i d => v (ix3 0 i d)) (fun d e => S (ix3 0 d e)) (fun i j => dm (ix3 0 i j)) (fun i d => qd (ix3 0 i d)) i) e := by
  unfold headO
  have h8 : ∀ e, k0_pay8 q k v dm (ix2 i e) + k0_pay9 q S qd (ix2 i e) = mixAt (fun i d => q (ix3 0 i d)) (fun i d => k (ix3 0 i d))
      (fun i d => v (ix3 0 i d)) (fun d e => S (ix3 0 d e)) (fun i j => dm (ix3 0 i j)) (fun i d => qd (ix3 0 i d)) i e := by
    intro e
    unfold mixAt
    pointwise [k0_pay8, k0_pay9, k0_pay4, k0_pay5, k0_pay6, k0_pay7]
  pointwise [k0_pay12]
  simp only [h8]
  rfl

theorem headS_apply (d e : Fin 128) :
    headS k v S kd cd (ix3 0 d e) = stateAt (fun i d => k (ix3 0 i d)) (fun i d => v (ix3 0 i d)) (fun d e => S (ix3 0 d e))
      (fun i d => kd (ix3 0 i d)) (fun e => cd (ix3 0 0 e)) d e := by
  unfold headS stateAt
  pointwise [k0_pay11, k0_pay7, k0_pay10, k0_pay5, k0_pay6]
end heads

/-- The scratch after its four stores, or before any, as the one array of states. -/
theorem pay3_apply (s : Vec Ideal S1x4x128x128 .f32) (h : Fin 4) (d e : Fin 128) : k0_pay3 s (ix3 h d e) = s (ix4 0 h d e) := by
  pointwise [k0_pay3]
theorem pay2_apply (s : Vec Ideal S4x128x128 .f32) (h : Fin 4) (d e : Fin 128) : k0_pay2 s (ix4 0 h d e) = s (ix3 h d e) := by
  pointwise [k0_pay2]

variable (m : (ℓ : Loc nD τ sig) → Buf (Elt Ideal) ℓ)
section blocks
variable (q k v g : FVec Ideal S1x64x512 .bf16) (s : FVec Ideal S1x4x128x128 .f32) (dm : FVec Ideal S4x64x64 .f32)
  (qd kd : FVec Ideal S4x64x128 .f32) (cd : FVec Ideal S4x1x128 .f32)
/-- The rows a grid point writes, column `w` of row `i`. -/
def outRow (h : Fin 4) (i : Fin 64) (e : Fin 128) : EReal :=
  g (ix3 0 i (col h e)) * normed (mixAt (fun i d => q (ix3 0 i (col h d))) (fun i d => k (ix3 0 i (col h d)))
      (fun i d => v (ix3 0 i (col h d))) (fun d e => s (ix4 0 h d e)) (fun i j => dm (ix3 h i j)) (fun i d => qd (ix3 h i d)) i) e
def outBlk (y : S1x64x512.Idx) : EReal :=
  outRow q k v g s dm qd ⟨(y 2).val / 128, Nat.div_lt_of_lt_mul (y 2).isLt⟩ (y 1) ⟨(y 2).val % 128, Nat.mod_lt _ (by decide)⟩
def stBlk (h : Fin 4) (d e : Fin 128) : EReal :=
  stateAt (fun i d => k (ix3 0 i (col h d))) (fun i d => v (ix3 0 i (col h d))) (fun d e => s (ix4 0 h d e))
      (fun i d => kd (ix3 h i d)) (fun e => cd (ix3 h 0 e)) d e

theorem outBlk_col (h : Fin 4) (i : Fin 64) (e : Fin 128) : outBlk q k v g s dm qd (ix3 0 i (col h e)) = outRow q k v g s dm qd h i e := by
  unfold outBlk
  congr 1
  · apply Fin.ext; show (h.val * 128 + e.val) / 128 = h.val; omega
  · apply Fin.ext; show (h.val * 128 + e.val) % 128 = e.val; omega

/-- A head's block read off its own columns and tables is its part of the rows. -/
theorem headO_eq (h : Fin 4) (q' k' v' g' : Vec Ideal S1x64x128 .bf16) (S' : Vec Ideal S1x128x128 .f32) (dm' : Vec Ideal S1x64x64 .f32)
    (qd' : Vec Ideal S1x64x128 .f32)
    (hq : ∀ i d, q' (ix3 0 i d) = q (ix3 0 i (col h d))) (hk : ∀ i d, k' (ix3 0 i d) = k (ix3 0 i (col h d)))
    (hv : ∀ i d, v' (ix3 0 i d) = v (ix3 0 i (col h d))) (hg : ∀ i d, g' (ix3 0 i d) = g (ix3 0 i (col h d)))
    (hS : ∀ d e, S' (ix3 0 d e) = s (ix4 0 h d e)) (hdm : ∀ i j, dm' (ix3 0 i j) = dm (ix3 h i j))
    (hqd : ∀ i d, qd' (ix3 0 i d) = qd (ix3 h i d)) (o : Nat) (ho : o = h.val * 128) (p) (x : S1x64x128.Idx) :
    headO q' k' v' g' S' dm' qd' x = outBlk q k v g s dm qd ((Rect.unit (s := S1x64x512) ![0, 0, o] ![1, 64, 128] p).emb x) := by
  have h1 : ((Rect.unit (s := S1x64x512) ![0, 0, o] ![1, 64, 128] p).emb x 1 : ℕ) = x 1 :=
    (ValueKit.rect_emb_unit_val (s := S1x64x512) _ _ p x 1).trans (Nat.zero_add _)
  have h2 : ((Rect.unit (s := S1x64x512) ![0, 0, o] ![1, 64, 128] p).emb x 2 : ℕ) = h.val * 128 + x 2 :=
    (ValueKit.rect_emb_unit_val (s := S1x64x512) _ _ p x 2).trans (by rw [← ho]; rfl)
  generalize (Rect.unit (s := S1x64x512) ![0, 0, o] ![1, 64, 128] p).emb x = y at h1 h2 ⊢
  obtain ⟨z, i, e, rfl⟩ : ∃ z i e, x = ix3 z i e := ⟨x 0, x 1, x 2, (ix3_eta x).symm⟩
  obtain ⟨z', i', w, rfl⟩ : ∃ z i e, y = ix3 z i e := ⟨y 0, y 1, y 2, (ix3_eta y).symm⟩
  obtain rfl : z = 0 := Subsingleton.elim _ _
  obtain rfl : z' = 0 := Subsingleton.elim _ _
  obtain rfl : i' = i := Fin.ext h1
  obtain rfl : w = col h e := Fin.ext h2
  rw [headO_apply, outBlk_col]
  simp only [hq, hk, hv, hg, hS, hdm, hqd]
  rfl

theorem headS_eq (h : Fin 4) (k' v' : Vec Ideal S1x64x128 .bf16) (S' : Vec Ideal S1x128x128 .f32)
    (kd' : Vec Ideal S1x64x128 .f32) (cd' : Vec Ideal S1x1x128 .f32)
    (hk : ∀ i d, k' (ix3 0 i d) = k (ix3 0 i (col h d)))
    (hv : ∀ i d, v' (ix3 0 i d) = v (ix3 0 i (col h d)))
    (hS : ∀ d e, S' (ix3 0 d e) = s (ix4 0 h d e))
    (hkd : ∀ i d, kd' (ix3 0 i d) = kd (ix3 h i d)) (hcd : ∀ e, cd' (ix3 0 0 e) = cd (ix3 h 0 e)) (p) (x : S1x128x128.Idx) :
    headS k' v' S' kd' cd' x = (fun y : S4x128x128.Idx => stBlk k v s kd cd (y 0) (y 1) (y 2))
      ((Rect.unit (s := S4x128x128) ![h.val, 0, 0] ![1, 128, 128] p).emb x) := by
  have h0 : ((Rect.unit (s := S4x128x128) ![h.val, 0, 0] ![1, 128, 128] p).emb x 0 : ℕ) = h.val + x 0 :=
    (ValueKit.rect_emb_unit_val (s := S4x128x128) _ _ p x 0)
  have h1 : ((Rect.unit (s := S4x128x128) ![h.val, 0, 0] ![1, 128, 128] p).emb x 1 : ℕ) = x 1 :=
    (ValueKit.rect_emb_unit_val (s := S4x128x128) _ _ p x 1).trans (Nat.zero_add _)
  have h2 : ((Rect.unit (s := S4x128x128) ![h.val, 0, 0] ![1, 128, 128] p).emb x 2 : ℕ) = x 2 :=
    (ValueKit.rect_emb_unit_val (s := S4x128x128) _ _ p x 2).trans (Nat.zero_add _)
  generalize (Rect.unit (s := S4x128x128) ![h.val, 0, 0] ![1, 128, 128] p).emb x = y at h0 h1 h2 ⊢
  obtain ⟨z, i, e, rfl⟩ : ∃ z i e, x = ix3 z i e := ⟨x 0, x 1, x 2, (ix3_eta x).symm⟩
  obtain ⟨h', i', w, rfl⟩ : ∃ z i e, y = ix3 z i e := ⟨y 0, y 1, y 2, (ix3_eta y).symm⟩
  obtain rfl : z = 0 := Subsingleton.elim _ _
  obtain rfl : h' = h := Fin.ext h0
  obtain rfl : i' = i := Fin.ext h1
  obtain rfl : w = e := Fin.ext h2
  rw [headS_apply]
  simp only [hk, hv, hS, hkd, hcd]
  rfl

/-- A window of columns of the rows. -/
theorem ld_rows (X : S1x64x512.Idx → Elt Ideal .bf16) (o : Nat) (h : Fin 4) (ho : o = h.val * 128) (p) (i : Fin 64) (d : Fin 128) :
    View.ld (Val := Elt Ideal) (e' := .bf16) X (Rect.unit ![0, 0, o] ![1, 64, 128] p) (ix3 0 i d) = X (ix3 0 i (col h d)) := by
  apply View.ld_unit_apply_of
  intro a
  match a with
  | 0 => rfl
  | 1 => show i.val = 0 + i.val; omega
  | 2 => show h.val * 128 + d.val = o + d.val; omega

/-- One head's plane of a table. -/
theorem ld_plane {n1 n2 : Nat} (X : (⟨3, ![4, n1, n2]⟩ : Shape).Idx → Elt Ideal .f32) (h : Fin 4) (p) (i : Fin n1) (d : Fin n2) :
    View.ld (Val := Elt Ideal) (e' := .f32) X (Rect.unit ![h.val, 0, 0] ![1, n1, n2] p) (ix3 0 i d) = X (ix3 h i d) := by
  apply View.ld_unit_apply_of
  intro a
  match a with
  | 0 => show h.val = h.val + 0; omega
  | 1 => show i.val = 0 + i.val; omega
  | 2 => show d.val = 0 + d.val; omega

end blocks

/-- The column window that holds an index. -/
theorem mem_rows (o : Nat) (p) (y : S1x64x512.Idx) (h0 : o ≤ (y 2).val) (h1 : (y 2).val < o + 128) :
    y ∈ (Rect.unit (s := S1x64x512) ![0, 0, o] ![1, 64, 128] p).set := by
  rw [Rect.mem_set_unit]
  intro a
  match a with
  | 0 => exact ⟨Nat.zero_le _, (y 0).isLt⟩
  | 1 => exact ⟨Nat.zero_le _, by have := (y 1).isLt; simpa using this⟩
  | 2 => exact ⟨h0, h1⟩

/-- The plane that holds an index. -/
theorem mem_plane (h : Fin 4) (p) (y : S4x128x128.Idx) (h0 : (y 0) = h) :
    y ∈ (Rect.unit (s := S4x128x128) ![h.val, 0, 0] ![1, 128, 128] p).set := by
  rw [Rect.mem_set_unit]
  intro a
  match a with
  | 0 => exact ⟨by rw [h0]; exact le_refl _, by rw [h0]; exact Nat.lt_succ_self _⟩
  | 1 => exact ⟨Nat.zero_le _, by have := (y 1).isLt; simpa using this⟩
  | 2 => exact ⟨Nat.zero_le _, by have := (y 2).isLt; simpa using this⟩

theorem o_eq (c : Dev nD) (t : Fin cfg0.N) : (outsAt0 m c t).1 =
    outBlk (iblk m c 0 t) (iblk m c 1 t) (iblk m c 2 t) (iblk m c 3 t) (iblk m c 4 t) (iblk m c 5 t) (iblk m c 6 t) := by
  unfold outsAt0; dsimp only
  frame_open
  simp (disch := decide) only [↓ View.readCov_skip, ↓ View.readCov_cons_toLoadRect, ↓ View.readCov_fill]
  frame_out
  simp only [head1, head2, head3, show k0_pay12 (k0_pay8 _ _ _ _) (k0_pay9 _ _ _) _ = headO _ _ _ _ _ _ _ from rfl]
  funext y
  refine View.canon_apply_of_pieces _ _ (View.PiecesOf.mem ?_) y ?_
  refine ⟨?_, ?_, ?_, ?_, trivial⟩
  · intro x
    refine headO_eq _ _ _ _ _ _ _ 3 _ _ _ _ _ _ _ (ld_rows _ _ 3 rfl _) (ld_rows _ _ 3 rfl _) (ld_rows _ _ 3 rfl _) (ld_rows _ _ 3 rfl _)
      (fun d e => (ld_plane _ 3 _ d e).trans (pay3_apply _ 3 d e)) (ld_plane _ 3 _) (ld_plane _ 3 _) 384 rfl
      inb_S1x64x512_S1x64x128_0_0_384 x
  · intro x
    refine headO_eq _ _ _ _ _ _ _ 2 _ _ _ _ _ _ _ (ld_rows _ _ 2 rfl _) (ld_rows _ _ 2 rfl _) (ld_rows _ _ 2 rfl _) (ld_rows _ _ 2 rfl _)
      (fun d e => (ld_plane _ 2 _ d e).trans (pay3_apply _ 2 d e)) (ld_plane _ 2 _) (ld_plane _ 2 _) 256 rfl
      inb_S1x64x512_S1x64x128_0_0_256 x
  · intro x
    refine headO_eq _ _ _ _ _ _ _ 1 _ _ _ _ _ _ _ (ld_rows _ _ 1 rfl _) (ld_rows _ _ 1 rfl _) (ld_rows _ _ 1 rfl _) (ld_rows _ _ 1 rfl _)
      (fun d e => (ld_plane _ 1 _ d e).trans (pay3_apply _ 1 d e)) (ld_plane _ 1 _) (ld_plane _ 1 _) 128 rfl
      inb_S1x64x512_S1x64x128_0_0_128 x
  · intro x
    refine headO_eq _ _ _ _ _ _ _ 0 _ _ _ _ _ _ _ (ld_rows _ _ 0 rfl _) (ld_rows _ _ 0 rfl _) (ld_rows _ _ 0 rfl _) (ld_rows _ _ 0 rfl _)
      (fun d e => (ld_plane _ 0 _ d e).trans (pay3_apply _ 0 d e)) (ld_plane _ 0 _) (ld_plane _ 0 _) 0 rfl
      inb_S1x64x512_S1x64x128_0_0_0 x
  · have hy : (y 2).val < 512 := (y 2).isLt
    rcases Nat.lt_or_ge (y 2).val 128 with h | h
    · exact ⟨_, .tail _ (.tail _ (.tail _ (.head _))), mem_rows 0 inb_S1x64x512_S1x64x128_0_0_0 y (Nat.zero_le _) (by omega)⟩
    rcases Nat.lt_or_ge (y 2).val 256 with h' | h'
    · exact ⟨_, .tail _ (.tail _ (.head _)), mem_rows 128 inb_S1x64x512_S1x64x128_0_0_128 y h (by omega)⟩
    rcases Nat.lt_or_ge (y 2).val 384 with h'' | h''
    · exact ⟨_, .tail _ (.head _), mem_rows 256 inb_S1x64x512_S1x64x128_0_0_256 y h' (by omega)⟩
    · exact ⟨_, .head _, mem_rows 384 inb_S1x64x512_S1x64x128_0_0_384 y h'' (by omega)⟩

/-- A scratch written whole by one store and then by four that cover it holds what the four wrote. -/
theorem scratch4 (G : S4x128x128.Idx → Elt Ideal .f32) (p1 p2 p3 p4 p5 : View.Piece (Elt Ideal) S4x128x128 .f32)
    (h1 : ∀ x, p1.2 x = G (p1.1.emb x)) (h2 : ∀ x, p2.2 x = G (p2.1.emb x)) (h3 : ∀ x, p3.2 x = G (p3.1.emb x))
    (h4 : ∀ x, p4.2 x = G (p4.1.emb x)) (y : S4x128x128.Idx) (hc : ∃ p ∈ [p1, p2, p3, p4], y ∈ p.1.set) :
    View.canon [p1, p2, p3, p4, p5] y = G y :=
  View.canon_append_of_piecesOf G [p5] [p1, p2, p3, p4] ⟨h1, h2, h3, h4, trivial⟩ y hc

theorem s_eq (c : Dev nD) (t : Fin cfg0.N) (h : Fin 4) (d e : Fin 128) : (outsAt0 m c t).2 (ix4 0 h d e) =
    stBlk (iblk m c 1 t) (iblk m c 2 t) (iblk m c 4 t) (iblk m c 7 t) (iblk m c 8 t) h d e := by
  unfold outsAt0; dsimp only
  frame_open
  simp (disch := decide) only [↓ View.readCov_skip, ↓ View.readCov_cons_toLoadRect, ↓ View.readCov_fill]
  frame_out
  simp only [state1, state2, state3, show k0_pay11 (k0_pay7 _) (k0_pay10 _ _ _) _ = headS _ _ _ _ _ from rfl]
  rw [pay2_apply, View.readCov_eq_canon']
  refine (congrFun (View.ld_unit_lit (Val := Elt Ideal) (e := .f32) (S := S4x128x128) _ (View.canon _) (by decide)) _).trans ?_
  refine scratch4 (fun y => stBlk (iblk m c 1 t) (iblk m c 2 t) (iblk m c 4 t) (iblk m c 7 t) (iblk m c 8 t) (y 0) (y 1) (y 2))
    _ _ _ _ _ ?_ ?_ ?_ ?_ (ix3 h d e) ?_
  · intro x
    refine headS_eq _ _ _ _ _ 3 _ _ _ _ _ (ld_rows _ _ 3 rfl _) (ld_rows _ _ 3 rfl _)
      (fun d e => (ld_plane _ 3 _ d e).trans (pay3_apply _ 3 d e)) (ld_plane _ 3 _) (ld_plane _ 3 _ 0)
      inb_S4x128x128_S1x128x128_3_0_0 x
  · intro x
    refine headS_eq _ _ _ _ _ 2 _ _ _ _ _ (ld_rows _ _ 2 rfl _) (ld_rows _ _ 2 rfl _)
      (fun d e => (ld_plane _ 2 _ d e).trans (pay3_apply _ 2 d e)) (ld_plane _ 2 _) (ld_plane _ 2 _ 0)
      inb_S4x128x128_S1x128x128_2_0_0 x
  · intro x
    refine headS_eq _ _ _ _ _ 1 _ _ _ _ _ (ld_rows _ _ 1 rfl _) (ld_rows _ _ 1 rfl _)
      (fun d e => (ld_plane _ 1 _ d e).trans (pay3_apply _ 1 d e)) (ld_plane _ 1 _) (ld_plane _ 1 _ 0)
      inb_S4x128x128_S1x128x128_1_0_0 x
  · intro x
    refine headS_eq _ _ _ _ _ 0 _ _ _ _ _ (ld_rows _ _ 0 rfl _) (ld_rows _ _ 0 rfl _)
      (fun d e => (ld_plane _ 0 _ d e).trans (pay3_apply _ 0 d e)) (ld_plane _ 0 _) (ld_plane _ 0 _ 0)
      inb_S4x128x128_S1x128x128_0_0_0 x
  · match h with
    | 0 => exact ⟨_, .tail _ (.tail _ (.tail _ (.head _))), mem_plane 0 inb_S4x128x128_S1x128x128_0_0_0 _ rfl⟩
    | 1 => exact ⟨_, .tail _ (.tail _ (.head _)), mem_plane 1 inb_S4x128x128_S1x128x128_1_0_0 _ rfl⟩
    | 2 => exact ⟨_, .tail _ (.head _), mem_plane 2 inb_S4x128x128_S1x128x128_2_0_0 _ rfl⟩
    | 3 => exact ⟨_, .head _, mem_plane 3 inb_S4x128x128_S1x128x128_3_0_0 _ rfl⟩
-- ==== Proof.RetValue.lean ====
module
public import proofs.«01_k».proof.Proof.RetBody
public import Idealize.ShloMosaic.Lib.Claim
@[expose] public section
set_option maxRecDepth 16384
noncomputable section
/-! The two arrays the retention call leaves, at an index. -/
namespace Cert.KernelIdeal.RetValue
open Cert.KernelIdeal Cert.KernelIdeal.Gen Idealize.ShloMosaic Idealize.ShloMosaic.TcCoe Idealize.SL.Sem
open Idealize.ShloMosaic.Pipeline (Dat)
open scoped BigOperators
open Cert.RetMath
variable (m : (ℓ : Loc nD τ sig) → Buf (Elt Ideal) ℓ)

/-- Sequence `b`'s rows of an array of rows. -/
def rowsOf (X : FVec Ideal S32x64x512 .bf16) (b : Fin 32) : FVec Ideal S1x64x512 .bf16 := fun y => X (ix3 b (y 1) (y 2))
/-- Sequence `b`'s state. -/
def stOf (X : FVec Ideal S32x4x128x128 .f32) (b : Fin 32) : FVec Ideal S1x4x128x128 .f32 := fun y => X (ix4 b (y 1) (y 2) (y 3))

variable (c : Dev nD)
/-- The two results, as functions of the call's operands. -/
def oArrOf (q k v g : FVec Ideal S32x64x512 .bf16) (s : FVec Ideal S32x4x128x128 .f32) (dm : FVec Ideal S4x64x64 .f32)
    (qd : FVec Ideal S4x64x128 .f32) (i : S32x64x512.Idx) : EReal :=
  outBlk (rowsOf q (i 0)) (rowsOf k (i 0)) (rowsOf v (i 0)) (rowsOf g (i 0)) (stOf s (i 0)) dm qd (ix3 0 (i 1) (i 2))
def sArrOf (k v : FVec Ideal S32x64x512 .bf16) (s : FVec Ideal S32x4x128x128 .f32) (kd : FVec Ideal S4x64x128 .f32)
    (cd : FVec Ideal S4x1x128 .f32) (i : S32x4x128x128.Idx) : EReal :=
  stBlk (rowsOf k (i 0)) (rowsOf v (i 0)) (stOf s (i 0)) kd cd (i 1) (i 2) (i 3)

def oArr : S32x64x512.Idx → EReal :=
  oArrOf (V m c main_arg0) (V m c main_arg1) (V m c main_arg2) (V m c main_arg3) (V m c main_arg4)
    (V m c (Pipeline.arrRef spec0 5)) (V m c (Pipeline.arrRef spec0 6))
def sArr : S32x4x128x128.Idx → EReal :=
  sArrOf (V m c main_arg1) (V m c main_arg2) (V m c main_arg4) (V m c (Pipeline.arrRef spec0 7)) (V m c (Pipeline.arrRef spec0 8))

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx9 : ∀ t : Fin grid0.N, win0_9.index t = ![t.val, 0, 0] := by decide +kernel
theorem idx4 : ∀ t : Fin grid0.N, win0_4.index t = ![t.val, 0, 0, 0] := by decide +kernel
theorem idx10 : ∀ t : Fin grid0.N, win0_10.index t = ![t.val, 0, 0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![0, 0, 0] := by decide +kernel
theorem blk0 (t : Fin cfg0.N) : iblk m c 0 t = rowsOf (V m c main_arg0) t := by
  funext y
  blk_ext [iblk, rowsOf, idx0 t]
theorem blk1 (t : Fin cfg0.N) : iblk m c 1 t = rowsOf (V m c main_arg1) t := by
  funext y
  blk_ext [iblk, rowsOf, idx1 t]
theorem blk2 (t : Fin cfg0.N) : iblk m c 2 t = rowsOf (V m c main_arg2) t := by
  funext y
  blk_ext [iblk, rowsOf, idx2 t]
theorem blk3 (t : Fin cfg0.N) : iblk m c 3 t = rowsOf (V m c main_arg3) t := by
  funext y
  blk_ext [iblk, rowsOf, idx3 t]
theorem blk4 (t : Fin cfg0.N) : iblk m c 4 t = stOf (V m c main_arg4) t := by
  funext y
  blk_ext [iblk, stOf, idx4 t]
theorem blk5 (t : Fin cfg0.N) : iblk m c 5 t = V m c (Pipeline.arrRef spec0 5) := by
  funext y
  blk_ext [iblk, idx5 t]
theorem blk6 (t : Fin cfg0.N) : iblk m c 6 t = V m c (Pipeline.arrRef spec0 6) := by
  funext y
  blk_ext [iblk, idx6 t]
theorem blk7 (t : Fin cfg0.N) : iblk m c 7 t = V m c (Pipeline.arrRef spec0 7) := by
  funext y
  blk_ext [iblk, idx7 t]
theorem blk8 (t : Fin cfg0.N) : iblk m c 8 t = V m c (Pipeline.arrRef spec0 8) := by
  funext y
  blk_ext [iblk, idx8 t]

theorem o_arr : (dats m 0 c).arrAt 9 (cfgs 0).N = oArr m c := by
  refine (dats m 0 c).arrAt_eq_of_covers 9 _ (by decide +kernel) fun t hf y => ?_
  blk_simp
  rw [after0_9, o_eq, blk0, blk1, blk2, blk3, blk4, blk5, blk6]
  unfold oArr oArrOf
  have h0 : (win0_9.blk t).view.emb y 0 = (t : Fin 32) := Fin.ext (by blk_simp [idx9 t])
  have h1 : (win0_9.blk t).view.emb y 1 = (y 1 : Fin 64) := Fin.ext (by blk_simp [idx9 t])
  have h2 : (win0_9.blk t).view.emb y 2 = (y 2 : Fin 512) := Fin.ext (by blk_simp [idx9 t])
  rw [h0, h1, h2]
  rfl

theorem s_eq' (t : Fin cfg0.N) (y : S1x4x128x128.Idx) : (outsAt0 m c t).2 y =
    stBlk (iblk m c 1 t) (iblk m c 2 t) (iblk m c 4 t) (iblk m c 7 t) (iblk m c 8 t) (y 1) (y 2) (y 3) := by
  obtain ⟨z, h, d, e, rfl⟩ : ∃ z h d e, y = ix4 z h d e := ⟨y 0, y 1, y 2, y 3, (ix4_eta y).symm⟩
  obtain rfl : z = 0 := Subsingleton.elim _ _
  exact s_eq m c t h d e

theorem s_arr : (dats m 0 c).arrAt 10 (cfgs 0).N = sArr m c := by
  refine (dats m 0 c).arrAt_eq_of_covers 10 _ (by decide +kernel) fun t hf y => ?_
  blk_simp
  rw [after0_10]
  rw [s_eq', blk1, blk2, blk4, blk7, blk8]
  unfold sArr sArrOf
  have h0 : (win0_10.blk t).view.emb y 0 = (t : Fin 32) := Fin.ext (by blk_simp [idx10 t])
  have h1 : (win0_10.blk t).view.emb y 1 = (y 1 : Fin 4) := Fin.ext (by blk_simp [idx10 t])
  have h2 : (win0_10.blk t).view.emb y 2 = (y 2 : Fin 128) := Fin.ext (by blk_simp [idx10 t])
  have h3 : (win0_10.blk t).view.emb y 3 = (y 3 : Fin 128) := Fin.ext (by blk_simp [idx10 t])
  rw [h0, h1, h2, h3]
-- ==== Proof.RetTables.lean ====
module
public import proofs.«01_k».proof.Proof.Gen.KernelIdeal.Value
public import proofs.«01_k».proof.Proof.Gen.ReferenceIdeal.Read
public import Idealize.ShloMosaic.Lib.Pointwise
public import Idealize.ShloMosaic.Lib.Pipeline.ReadBack
public import Idealize.ShloMosaic.Lib.Pipeline.ValueKit
public import Idealize.ShloMosaic.Lib.Claim
public import Idealize.ShloMosaic.Lib.StableHlo.ReadAt
@[expose] public section
set_option maxRecDepth 16384
noncomputable section
/-! The tables the call's host code makes are the reference's decays. -/
namespace Cert.KernelIdeal.RetValue
open Cert.KernelIdeal Cert.KernelIdeal.Gen Idealize.ShloMosaic Idealize.ShloMosaic.TcCoe Idealize.SL.Sem
variable (m : (ℓ : Loc nD τ sig) → Buf (Elt Ideal) ℓ) (c : Dev nD)

open Cert.ReferenceIdeal.Read
theorem dm_eq (h i j) : (V m c (Pipeline.arrRef spec0 5) : Vec Ideal S4x64x64 .f32) (ix3 h i j) = val_main_v31 (F := Ideal) (ix3 h i j) := by
  show V m c main_v25 _ = _
  unfold V
  after_reads_at
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_call0_v2, val_main_call0_v1, val_main_call0_v0, val_main_cst, val_main_cst_0, val_main_cst_1, val_main_cst_2, val_main_cst_3]

theorem qd_eq (h i d) : (V m c (Pipeline.arrRef spec0 6) : Vec Ideal S4x64x128 .f32) (ix3 h i d) = val_main_v39 (F := Ideal) (ix2 i h)  := by
  show V m c main_v37 _ = _
  unfold V
  after_reads_at
  pointwise [val_main_v39, val_main_v38, val_main_v37, val_main_v36, val_main_v35, val_main_v34, val_main_v33, val_main_v32, val_main_v14, val_main_v13, val_main_v12,
    val_main_v11, val_main_v10, val_main_v9, val_main_v8, val_main_v7, val_main_v6, val_main_cst, val_main_cst_0, val_main_cst_4, val_main_cst_5, val_main_cst_6]

theorem kd_eq (h i d) : (V m c (Pipeline.arrRef spec0 7) : Vec Ideal S4x64x128 .f32) (ix3 h i d) = val_main_v47 (F := Ideal) (ix2 i h)  := by
  show V m c main_v48 _ = _
  unfold V
  after_reads_at
  pointwise [val_main_v47, val_main_v46, val_main_v45, val_main_v44, val_main_v43, val_main_v42, val_main_v41, val_main_v40, val_main_v14, val_main_v13, val_main_v12,
    val_main_v11, val_main_v10, val_main_v9, val_main_v8, val_main_v7, val_main_v6, val_main_cst, val_main_cst_0, val_main_cst_4, val_main_cst_5, val_main_cst_6]

theorem cd_eq (h z d) : (V m c (Pipeline.arrRef spec0 8) : Vec Ideal S4x1x128 .f32) (ix3 h z d) = val_main_v50 (F := Ideal) (ix1 h)  := by
  show V m c main_v55 _ = _
  unfold V
  after_reads_at
  pointwise [val_main_v50, val_main_v49, val_main_v48, val_main_v13, val_main_v12,
    val_main_v11, val_main_v10, val_main_v9, val_main_v8, val_main_v7, val_main_v6, val_main_cst, val_main_cst_0, val_main_cst_4, val_main_cst_5, val_main_cst_6]
-- ==== Proof.RetRef.lean ====
module
public import proofs.«01_k».proof.Proof.Gen.ReferenceIdeal.Read
public import proofs.«01_k».proof.Proof.RetMath
@[expose] public section
set_option maxRecDepth 16384
noncomputable section
/-! The reference's two results at an index, in the plain sums of `RetMath`. -/
namespace Cert.RetRef
open Cert.ReferenceIdeal Cert.ReferenceIdeal.Gen Idealize.ShloMosaic Idealize.ShloMosaic.TcCoe Idealize.SL.Sem
open Cert.ReferenceIdeal.Read Cert.RetMath
open scoped BigOperators
variable (x0 x1 x2 x3 : (⟨S32x64x512, .bf16⟩ : BufTy).Contents (Elt Ideal)) (x4 : (⟨S32x4x128x128, .f32⟩ : BufTy).Contents (Elt Ideal))

theorem scores (b : Fin 32) (h : Fin 4) (i j : Fin 64) : val_main_v57 x0 x1 (ix5 b 0 h i j) =
    (∑ d, x0 (ix3 b i (col h d)) * x1 (ix3 b j (col h d))) * val_main_v31 (F := Ideal) (ix3 h i j) := by
  pointwise [val_main_v57, val_main_v54, val_main_v51, val_main_v52, val_main_v56, val_main_v55, val_main_v1, val_main_v0,
    val_main_v3, val_main_v2]
  rfl

theorem mixed (b : Fin 32) (h : Fin 4) (i : Fin 64) (e : Fin 128) : val_main_v79 x0 x1 x2 x4 (ix4 b i h e) =
    mixAt (fun i d => x0 (ix3 b i (col h d))) (fun i d => x1 (ix3 b i (col h d))) (fun i d => x2 (ix3 b i (col h d)))
      (fun d e => x4 (ix4 b h d e)) (fun i j => val_main_v31 (F := Ideal) (ix3 h i j)) (fun i _ => val_main_v39 (F := Ideal) (ix2 i h)) i e := by
  unfold mixAt
  pointwise [val_main_v79, val_main_v78, val_main_v59, val_main_v58, val_main_v77, val_main_v71, val_main_v70, val_main_v69,
    val_main_v68, val_main_v67, val_main_v66, val_main_v65, val_main_v53, val_main_v5, val_main_v4, val_main_v51, val_main_v1,
    val_main_v0]
  refine congrArg₂ (· + ·) (Finset.sum_congr rfl fun j _ => ?_) (Finset.sum_congr rfl fun d _ => ?_)
  · rw [scores, mul_comm]; rfl
  · rw [mul_comm]; rfl

theorem state (b : Fin 32) (h : Fin 4) (d e : Fin 128) : val_main_v76 x1 x2 x4 (ix4 b h d e) =
    stateAt (fun i d => x1 (ix3 b i (col h d))) (fun i d => x2 (ix3 b i (col h d)))
      (fun d e => x4 (ix4 b h d e)) (fun i _ => val_main_v47 (F := Ideal) (ix2 i h)) (fun _ => val_main_v50 (F := Ideal) (ix1 h)) d e := by
  unfold stateAt
  pointwise [val_main_v76, val_main_v75, val_main_v74, val_main_v73, val_main_v72, val_main_v64, val_main_v63, val_main_v62, val_main_v61,
    val_main_v60, val_main_v53, val_main_v5, val_main_v4, val_main_v52, val_main_v3, val_main_v2]
  rfl

theorem out (b : Fin 32) (h : Fin 4) (i : Fin 64) (e : Fin 128) : val_main_v99 x0 x1 x2 x3 x4 (ix3 b i (col h e)) =
    x3 (ix3 b i (col h e)) * normed (mixAt (fun i d => x0 (ix3 b i (col h d))) (fun i d => x1 (ix3 b i (col h d))) (fun i d => x2 (ix3 b i (col h d)))
      (fun d e => x4 (ix4 b h d e)) (fun i j => val_main_v31 (F := Ideal) (ix3 h i j)) (fun i _ => val_main_v39 (F := Ideal) (ix2 i h)) i) e := by
  unfold normed centred
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80,
    val_main_cst_7, val_main_cst_8, val_main_cst_9, val_main_cst_10, val_main_cst_11]
  simp only [col_div, col_mod, mixed, Ideal.ofBits_zero, zero_add]
-- ==== Proof.Retention.lean ====
module
public import proofs.«01_k».proof.Defs
public import proofs.«01_k».proof.Proof.Gen.ReferenceIdeal.Run
public import proofs.«01_k».proof.Proof.Gen.ReferenceIdeal.Read
public import proofs.«01_k».proof.Proof.RetValue
public import proofs.«01_k».proof.Proof.RetTables
public import proofs.«01_k».proof.Proof.RetRef
@[expose] public section
set_option maxRecDepth 16384
noncomputable section
/-! The retention call and the plain retention leave the same two arrays. -/
namespace Cert.KernelIdeal.RetValue
open Cert.KernelIdeal Cert.KernelIdeal.Gen Idealize.ShloMosaic Idealize.ShloMosaic.TcCoe Idealize.SL.Sem
open Cert.RetMath Cert.ReferenceIdeal.Read
variable (m : (ℓ : Loc nD τ sig) → Buf (Elt Ideal) ℓ) (c : Dev nD)

theorem oArrOf_eq (q k v g : FVec Ideal S32x64x512 .bf16) (s : FVec Ideal S32x4x128x128 .f32) (dm : FVec Ideal S4x64x64 .f32)
    (qd : FVec Ideal S4x64x128 .f32) (hdm : ∀ h i j, dm (ix3 h i j) = val_main_v31 (F := Ideal) (ix3 h i j))
    (hqd : ∀ h i d, qd (ix3 h i d) = val_main_v39 (F := Ideal) (ix2 i h)) :
    oArrOf q k v g s dm qd = val_main_v99 (F := Ideal) q k v g s := by
  funext i
  obtain ⟨b, r, w, rfl⟩ : ∃ b r w, i = ix3 b r w := ⟨i 0, i 1, i 2, (ix3_eta i).symm⟩
  obtain ⟨h, e, rfl⟩ := exists_col w
  refine Eq.trans ?_ (Cert.RetRef.out _ _ _ _ _ b h r e).symm
  refine (outBlk_col _ _ _ _ _ _ _ h r e).trans ?_
  unfold outRow
  simp only [hdm, hqd]
  rfl

theorem sArrOf_eq (k v : FVec Ideal S32x64x512 .bf16) (s : FVec Ideal S32x4x128x128 .f32) (kd : FVec Ideal S4x64x128 .f32)
    (cd : FVec Ideal S4x1x128 .f32) (hkd : ∀ h i d, kd (ix3 h i d) = val_main_v47 (F := Ideal) (ix2 i h))
    (hcd : ∀ h z e, cd (ix3 h z e) = val_main_v50 (F := Ideal) (ix1 h)) :
    sArrOf k v s kd cd = val_main_v76 (F := Ideal) k v s := by
  funext i
  obtain ⟨b, h, d, e, rfl⟩ : ∃ b h d e, i = ix4 b h d e := ⟨i 0, i 1, i 2, i 3, (ix4_eta i).symm⟩
  refine Eq.trans ?_ (Cert.RetRef.state _ _ _ b h d e).symm
  show stBlk _ _ _ _ _ h d e = _
  unfold stBlk
  simp only [hkd, hcd]
  rfl

theorem oArr_eq : oArr m c = val_main_v99 (F := Ideal) (V m c main_arg0) (V m c main_arg1) (V m c main_arg2) (V m c main_arg3) (V m c main_arg4) :=
  oArrOf_eq _ _ _ _ _ _ _ (dm_eq m c) (qd_eq m c)
theorem sArr_eq : sArr m c = val_main_v76 (F := Ideal) (V m c main_arg1) (V m c main_arg2) (V m c main_arg4) :=
  sArrOf_eq _ _ _ _ _ (kd_eq m c) (cd_eq m c)

theorem algebraic [Cert.KernelIdeal.Facts] [Cert.ReferenceIdeal.Facts] : Cert.algebraic_KernelIdeal_ReferenceIdeal := by
  intro m g m' g' _ hargs
  refine ⟨fun c => oArr m c, fun c => sArr m c, ?_, ?_⟩
  · refine (θ_run _ _ _).mono (fun r h c => ?_) (Cert.KernelIdeal.Value.run_blocks (F := Ideal) m g)
    obtain ⟨h0, h1, h2⟩ := h c
    exact ⟨h0.trans (o_arr m c), h1.trans (s_arr m c), h2⟩
  · refine (θ_run _ _ _).mono (fun r h c => ?_) (Cert.ReferenceIdeal.Value.run (F := Ideal) m' g')
    obtain ⟨h0, h1, h2⟩ := h c
    obtain ⟨a0, a1, a2, a3, a4⟩ := hargs c
    refine ⟨h0.trans ?_, h1.trans ?_, h2⟩
    · refine Eq.trans ?_ (oArr_eq m c).symm
      rw [val_main_v99_eq, a0, a1, a2, a3, a4, V_main_arg0, V_main_arg1, V_main_arg2, V_main_arg3, V_main_arg4]
    · refine ((val_main_v76_eq _ _ _).trans ?_).trans (sArr_eq m c).symm
      rw [a1, a2, a4, V_main_arg1, V_main_arg2, V_main_arg4]

end Cert.KernelIdeal.RetValue
-- ==== Proof.ChainRun.lean ====
module
public import proofs.«01_k».proof.Proof.Gen.Kernel2Ideal.Frame
@[expose] public section
set_option maxRecDepth 16384
noncomputable section
/-! The chain of calls, run: every buffer of a core's own memory ends at the last boundary's contents. -/
namespace Cert.Kernel2Ideal.Chain
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The launch over the segments, its last state read whole. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => h)

end Cert.Kernel2Ideal.Chain
-- ==== Proof.ChainMath.lean ====
module
public import proofs.«01_k».proof.Proof.RetMath
@[expose] public section
noncomputable section
/-! Feature mixing and the projection's plain mathematics at an entry. -/
namespace Cert.ChainMath
open Idealize.ShloMosaic
open scoped BigOperators

/-- Token `t` of sequence `s`, among a block's 8 sequences' tokens. -/
def row (s : Fin 8) (t : Fin 64) : Fin 512 := ⟨s.val * 64 + t.val, by omega⟩
theorem row_div (s : Fin 8) (t : Fin 64) (p) : (⟨(row s t).val / 64, p⟩ : Fin 8) = s :=
  Fin.ext (by show (s.val * 64 + t.val) / 64 = s.val; omega)
theorem row_mod (s : Fin 8) (t : Fin 64) (p) : (⟨(row s t).val % 64, p⟩ : Fin 64) = t :=
  Fin.ext (by show (s.val * 64 + t.val) % 64 = t.val; omega)
/-- Sequence `s` of block `t` of 8. -/
def seq (t : Fin 4) (s : Fin 8) : Fin 32 := ⟨t.val * 8 + s.val, by omega⟩
theorem exists_seq (b : Fin 32) : ∃ t s, b = seq t s :=
  ⟨⟨b.val / 8, by omega⟩, ⟨b.val % 8, by omega⟩, Fin.ext (by show b.val = b.val / 8 * 8 + b.val % 8; omega)⟩
/-- Column `k` of the `j`-th of the nine modulations. -/
def mcol (j : Fin 9) (k : Fin 1024) : Fin 9216 := ⟨j.val * 1024 + k.val, by omega⟩
theorem exists_mcol (w : Fin 9216) : ∃ j k, w = mcol j k :=
  ⟨⟨w.val / 1024, by omega⟩, ⟨w.val % 1024, by omega⟩, Fin.ext (by show w.val = w.val / 1024 * 1024 + w.val % 1024; omega)⟩

theorem mcol0 (k : Fin 1024) (p) : (⟨k.val, p⟩ : Fin 9216) = mcol 0 k := Fin.ext (by show k.val = 0 * 1024 + k.val; omega)
theorem mcol1 (k : Fin 1024) (p) : (⟨1024 + k.val, p⟩ : Fin 9216) = mcol 1 k := Fin.ext (by show _ + k.val = 1 * 1024 + k.val; omega)
theorem mcol2 (k : Fin 1024) (p) : (⟨2048 + k.val, p⟩ : Fin 9216) = mcol 2 k := Fin.ext (by show _ + k.val = 2 * 1024 + k.val; omega)
theorem mcol3 (k : Fin 1024) (p) : (⟨3072 + k.val, p⟩ : Fin 9216) = mcol 3 k := Fin.ext (by show _ + k.val = 3 * 1024 + k.val; omega)
theorem mcol4 (k : Fin 1024) (p) : (⟨4096 + k.val, p⟩ : Fin 9216) = mcol 4 k := Fin.ext (by show _ + k.val = 4 * 1024 + k.val; omega)

def silu (z : EReal) : EReal := z * Ideal.div 1 (1 + Ideal.exp (-z))
theorem silu_sub (z : EReal) : z * Ideal.div 1 (1 + Ideal.exp (0 - z)) = silu z := by rw [zero_sub]; rfl

/-- An entry of one modulation: the conditioning row against a column, and the bias. -/
def modAt (x : Fin 1024 → EReal) (w : Fin 1024 → EReal) (b : EReal) : EReal := ∑ k, silu (x k) * w k + b

/-- A row scaled by its root mean square. -/
def rmsAt (x : Fin 1024 → EReal) (k : Fin 1024) : EReal :=
  x k * Ideal.rsqrt (Ideal.div (∑ k, x k * x k) (Ideal.ofBits FTy.f32 0x44800000#32) + Ideal.ofBits FTy.f32 0x358637BD#32)
/-- A row normalised, with a gain, then scaled and shifted by the conditioning. -/
def normAt (x g sh sc : Fin 1024 → EReal) (k : Fin 1024) : EReal := rmsAt x k * g k * (1 + sc k) + sh k

/-- Gated features of a normalised row. -/
def gatedAt (y : Fin 1024 → EReal) (wg wu : Fin 1024 → EReal) : EReal := silu (∑ k, y k * wg k) * ∑ k, y k * wu k

/-- Column `j` of the gates, and of the values they gate. -/
def gcol (j : Fin 2816) : Fin 5632 := ⟨j.val, by omega⟩
def ucol (j : Fin 2816) : Fin 5632 := ⟨2816 + j.val, by omega⟩
/-- One entry of the feature mixing, with its residual. -/
def ffnAt (x g sh sc gt : Fin 1024 → EReal) (wu : Fin 1024 → Fin 5632 → EReal) (wd : Fin 2816 → Fin 1024 → EReal) (k : Fin 1024) : EReal :=
  x k + Ideal.ofBits FTy.f32 0x3F000000#32 * gt k *
    ∑ j, gatedAt (normAt x g sh sc) (fun i => wu i (gcol j)) (fun i => wu i (ucol j)) * wd j k

/-- A sum over the inner features, as the two halves the call takes one after the other. -/
theorem sum_halves (f : Fin 2816 → EReal) :
    ∑ j, f j = ∑ j : Fin 1408, f ⟨j.val, by omega⟩ + ∑ j : Fin 1408, f ⟨1408 + j.val, by omega⟩ :=
  Fin.sum_univ_add (a := 1408) (b := 1408) f

end Cert.ChainMath
-- ==== Proof.ProjMath.lean ====
module
public import proofs.«01_k».proof.Proof.ChainMath
@[expose] public section
noncomputable section
/-! The projections' plain mathematics at an entry: a head normalised, a head rotated. -/
namespace Cert.ChainMath
open Idealize.ShloMosaic
open scoped BigOperators

/-- Column `j` of the `g`-th of the seven projections. -/
def pcol (g : Fin 7) (j : Fin 512) : Fin 3584 := ⟨g.val * 512 + j.val, by omega⟩
theorem pcol_of (g : Fin 7) (j : Fin 512) (n : Nat) (p) (hn : n = g.val * 512 + j.val) : (⟨n, p⟩ : Fin 3584) = pcol g j := Fin.ext hn
theorem pcol0 (j : Fin 512) (p) : (⟨j.val, p⟩ : Fin 3584) = pcol 0 j := pcol_of 0 j _ p (by show j.val = 0 * 512 + j.val; omega)
theorem pcol1 (j : Fin 512) (p) : (⟨512 + j.val, p⟩ : Fin 3584) = pcol 1 j := pcol_of 1 j _ p (by show _ = 1 * 512 + j.val; omega)
theorem pcol2 (j : Fin 512) (p) : (⟨1024 + j.val, p⟩ : Fin 3584) = pcol 2 j := pcol_of 2 j _ p (by show _ = 2 * 512 + j.val; omega)
theorem pcol3 (j : Fin 512) (p) : (⟨1536 + j.val, p⟩ : Fin 3584) = pcol 3 j := pcol_of 3 j _ p (by show _ = 3 * 512 + j.val; omega)
theorem pcol4 (j : Fin 512) (p) : (⟨2048 + j.val, p⟩ : Fin 3584) = pcol 4 j := pcol_of 4 j _ p (by show _ = 4 * 512 + j.val; omega)
theorem pcol5 (j : Fin 512) (p) : (⟨2560 + j.val, p⟩ : Fin 3584) = pcol 5 j := pcol_of 5 j _ p (by show _ = 5 * 512 + j.val; omega)
theorem pcol6 (j : Fin 512) (p) : (⟨3072 + j.val, p⟩ : Fin 3584) = pcol 6 j := pcol_of 6 j _ p (by show _ = 6 * 512 + j.val; omega)
/-- Entry `d` of the `h`-th of eight heads. -/
def hcol (h : Fin 8) (d : Fin 64) : Fin 512 := ⟨h.val * 64 + d.val, by omega⟩
theorem hcol_div (h : Fin 8) (d : Fin 64) (p) : (⟨(hcol h d).val / 64, p⟩ : Fin 8) = h :=
  Fin.ext (by show (h.val * 64 + d.val) / 64 = h.val; omega)
theorem hcol_mod (h : Fin 8) (d : Fin 64) (p) : (⟨(hcol h d).val % 64, p⟩ : Fin 64) = d :=
  Fin.ext (by show (h.val * 64 + d.val) % 64 = d.val; omega)
theorem phead0 (h : Fin 8) (d e : Fin 64) (p) : (⟨(hcol h d).val / 64 * 64 + e.val, p⟩ : Fin 3584) = pcol 0 (hcol h e) :=
  pcol_of 0 _ _ p (by show (h.val * 64 + d.val) / 64 * 64 + e.val = 0 * 512 + (h.val * 64 + e.val); omega)
theorem phead1 (h : Fin 8) (d e : Fin 64) (p) : (⟨512 + ((hcol h d).val / 64 * 64 + e.val), p⟩ : Fin 3584) = pcol 1 (hcol h e) :=
  pcol_of 1 _ _ p (by show 512 + ((h.val * 64 + d.val) / 64 * 64 + e.val) = 1 * 512 + (h.val * 64 + e.val); omega)
theorem exists_hcol (w : Fin 512) : ∃ h d, w = hcol h d :=
  ⟨⟨w.val / 64, by omega⟩, ⟨w.val % 64, by omega⟩, Fin.ext (by show w.val = w.val / 64 * 64 + w.val % 64; omega)⟩

/-- A row against a column. -/
def projAt (y : Fin 1024 → EReal) (w : Fin 1024 → Fin 3584 → EReal) (j : Fin 3584) : EReal := ∑ k, y k * w k j

/-- A head scaled by its root mean square. -/
def hrmsAt (p : Fin 64 → EReal) (d : Fin 64) : EReal :=
  p d * Ideal.rsqrt (Ideal.div (∑ e, p e * p e) (Ideal.ofBits FTy.f32 0x42800000#32) + Ideal.ofBits FTy.f32 0x358637BD#32)

/-- A head's two halves, turned by the angles whose cosines and sines are `cs` and `sn`. -/
def rotAt (x : Fin 128 → EReal) (cs sn : Fin 64 → EReal) (d : Fin 128) : EReal :=
  if h : d.val < 64 then x d * cs ⟨d.val, h⟩ - x ⟨64 + d.val, by omega⟩ * sn ⟨d.val, h⟩
  else x ⟨d.val - 64, by omega⟩ * sn ⟨d.val - 64, by omega⟩ + x d * cs ⟨d.val - 64, by omega⟩

/-- The entry half a head further on, around the end. -/
def half (d : Fin 128) : Fin 128 := ⟨(d.val + 64) % 128, by omega⟩

/-- The turn as one product with the cosines, twice over, and one with the sines, the first half's negated. -/
theorem rot_eq (x C S : Fin 128 → EReal) (cs sn : Fin 64 → EReal) (d : Fin 128)
    (hC : C d = if h : d.val < 64 then cs ⟨d.val, h⟩ else cs ⟨d.val - 64, by omega⟩)
    (hS : S d = if h : d.val < 64 then -sn ⟨d.val, h⟩ else sn ⟨d.val - 64, by omega⟩) :
    x d * C d + x (half d) * S d = rotAt x cs sn d := by
  rw [hC, hS]
  unfold rotAt
  split
  · rw [mul_neg, sub_eq_add_neg, show half d = ⟨64 + d.val, by omega⟩ from Fin.ext (by show (d.val + 64) % 128 = 64 + d.val; omega)]
  · rw [add_comm, show half d = ⟨d.val - 64, by omega⟩ from Fin.ext (by show (d.val + 64) % 128 = d.val - 64; omega)]

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
theorem mul_64th (s : EReal) : s * Ideal.ofBits .f32 0x3C800000#32 = Ideal.div s (Ideal.ofBits .f32 0x42800000#32) := by
  rw [ofBits_64, ofBits_64th, Ideal.div_coe (by norm_num)]

/-- A sum over four heads' entries against a head's indicator is the sum over that head's. -/
theorem sum_head (f b : Fin 256 → EReal) (a : Fin 4) (hb : ∀ j, b j = if j.val / 64 = a.val then 1 else 0) :
    ∑ j, f j * b j = ∑ e : Fin 64, f ⟨a.val * 64 + e.val, by omega⟩ := by
  have hj : ∀ (x : Fin 4) (e : Fin 64), (finProdFinEquiv (x, e) : Fin 256) = ⟨x.val * 64 + e.val, by omega⟩ := fun x e =>
    Fin.ext (by show e.val + 64 * x.val = x.val * 64 + e.val; omega)
  rw [← (finProdFinEquiv (m := 4) (n := 64)).sum_comp, Fintype.sum_prod_type, Finset.sum_eq_single a]
  · refine Finset.sum_congr rfl fun e _ => ?_
    rw [hb, hj, if_pos (by show (a.val * 64 + e.val) / 64 = a.val; omega), mul_one]
  · intro x _ hx
    refine Finset.sum_eq_zero fun e _ => ?_
    rw [hb, hj, if_neg (fun h => hx (Fin.ext (by have : (x.val * 64 + e.val) / 64 = a.val := h; omega))), mul_zero]
  · exact fun h => absurd (Finset.mem_univ _) h

end Cert.ChainMath
-- ==== Proof.ProjPay.lean ====
module
public import proofs.«01_k».proof.Proof.ProjMath
public import proofs.«01_k».proof.Proof.Gen.Kernel2Ideal.Frame
@[expose] public section
set_option maxRecDepth 16384
noncomputable section
/-! The projection call's stored vectors at an entry. -/
namespace Cert.Kernel2Ideal.Proj
open Cert.Kernel2Ideal Cert.Kernel2Ideal.Gen Idealize.ShloMosaic Idealize.ShloMosaic.TcCoe Idealize.SL.Sem
open Cert.ChainMath Cert.RetMath
open scoped BigOperators

variable (x0 : Vec Ideal S8x64x1024 .f32) (x1 : Vec Ideal S8x9x1024 .f32) (x2 : Vec Ideal S1x1024 .f32)
theorem norm_pay (s : Fin 8) (t : Fin 64) (k : Fin 1024) : k2_pay1 x1 x0 x2 (ix2 (row s t) k) =
    normAt (fun k => x0 (ix3 s t k)) (fun k => x2 (ix2 0 k)) (fun k => x1 (ix3 s 3 k)) (fun k => x1 (ix3 s 4 k)) k := by
  pointwise [k2_pay1]
  simp only [row_div, row_mod]
  rfl
theorem qk_pay (w : Vec Ideal S1024x1024 .bf16) (r : Fin 512) (j : Fin 1024) : k2_pay2 x1 x0 x2 w (ix2 r j) =
    ∑ k, k2_pay1 x1 x0 x2 (ix2 r k) * w (ix2 k j) := by
  pointwise [k2_pay2]

theorem head_sum (P : Fin 1024 → EReal) (B : Vec Ideal S256x256 .bf16) (hB : ∀ i j, B (ix2 i j) = if i.val / 64 = j.val / 64 then 1 else 0)
    (g : Fin 16) (d : Fin 64) (o : Nat) (ho : o = g.val / 4 * 256) (u : Fin 256 → Fin 1024) (hu : ∀ x, (u x).val = o + x.val)
    (c : Fin 256) (hc : c.val = g.val * 64 + d.val - o) :
    ∑ x, P (u x) * P (u x) * B (ix2 x c) = ∑ e : Fin 64, P ⟨g.val * 64 + e.val, by omega⟩ * P ⟨g.val * 64 + e.val, by omega⟩ := by
  refine (sum_head (fun x => P (u x) * P (u x)) (fun x => B (ix2 x c)) ⟨g.val % 4, by omega⟩ fun j => (hB j c).trans ?_).trans
    (Finset.sum_congr rfl fun e _ => ?_)
  · rw [show c.val / 64 = g.val % 4 by omega]
  · have he : u ⟨g.val % 4 * 64 + e.val, by omega⟩ = ⟨g.val * 64 + e.val, by omega⟩ := Fin.ext (by
      rw [hu]; show o + (g.val % 4 * 64 + e.val) = g.val * 64 + e.val; omega)
    show P (u _) * P (u _) = _
    rw [he]

theorem norms (w : Vec Ideal S1024x1024 .bf16) (B : Vec Ideal S256x256 .bf16) (hB : ∀ i j, B (ix2 i j) = if i.val / 64 = j.val / 64 then 1 else 0)
    (r : Fin 512) (g : Fin 16) (d : Fin 64) (j : Fin 1024) (hj : j.val = g.val * 64 + d.val) :
    k2_pay6 (k2_pay2 x1 x0 x2 w) (k2_pay3 x1 x0 x2 w) (k2_pay4 x1 x0 x2 w B) (k2_pay5 x1 x0 x2 w) B B B (ix2 r j) =
      hrmsAt (fun e => k2_pay2 x1 x0 x2 w (ix2 r ⟨g.val * 64 + e.val, by omega⟩)) d := by
  have hb : g.val * 64 + d.val < 1024 := by omega
  rw [show j = ⟨g.val * 64 + d.val, hb⟩ from Fin.ext hj]
  pointwise [k2_pay6, k2_pay5, k2_pay4, k2_pay3]
  unfold hrmsAt
  rw [← mul_64th]
  refine congrArg (fun z => _ * Ideal.rsqrt (z * _ + _)) ?_
  split
  · exact head_sum (fun j => k2_pay2 x1 x0 x2 w (ix2 r j)) B hB g d 0 (by omega) _ (fun x => (Nat.zero_add _).symm) _ (Nat.sub_zero _).symm
  split
  · exact head_sum (fun j => k2_pay2 x1 x0 x2 w (ix2 r j)) B hB g d 256 (by omega) _ (fun x => rfl) _ rfl
  split
  · exact head_sum (fun j => k2_pay2 x1 x0 x2 w (ix2 r j)) B hB g d 512 (by omega) _ (fun x => rfl) _ (Nat.sub_sub _ _ _)
  · exact head_sum (fun j => k2_pay2 x1 x0 x2 w (ix2 r j)) B hB g d 768 (by omega) _ (fun x => rfl) _ ((Nat.sub_sub _ 256 256).trans (Nat.sub_sub _ 256 512))

section heads
variable (w : Vec Ideal S1024x1024 .bf16) (B : Vec Ideal S256x256 .bf16) (hB : ∀ i j, B (ix2 i j) = if i.val / 64 = j.val / 64 then 1 else 0)
  (g : Vec Ideal S1x512 .f32) (s : Fin 8) (t : Fin 64) (h : Fin 8) (d : Fin 64)
include hB
theorem q_pay : k2_pay8 (k2_pay2 x1 x0 x2 w) (k2_pay3 x1 x0 x2 w) (k2_pay4 x1 x0 x2 w B) (k2_pay5 x1 x0 x2 w) B B B g (ix3 s t (hcol h d)) =
    hrmsAt (fun e => k2_pay2 x1 x0 x2 w (ix2 (row s t) ⟨(hcol h e).val, by omega⟩)) d * g (ix2 0 (hcol h d)) * Ideal.ofBits FTy.f32 0x3E000000#32 := by
  pointwise [k2_pay8]
  exact congrArg (· * _ * _) (norms x0 x1 x2 w B hB (row s t) ⟨h.val, by omega⟩ d _ rfl)
theorem k_pay : k2_pay9 (k2_pay2 x1 x0 x2 w) (k2_pay3 x1 x0 x2 w) (k2_pay4 x1 x0 x2 w B) (k2_pay5 x1 x0 x2 w) B B B g (ix3 s t (hcol h d)) =
    hrmsAt (fun e => k2_pay2 x1 x0 x2 w (ix2 (row s t) ⟨512 + (hcol h e).val, by omega⟩)) d * g (ix2 0 (hcol h d)) := by
  pointwise [k2_pay9, k2_pay7]
  refine congrArg (· * _) ((norms x0 x1 x2 w B hB (row s t) ⟨8 + h.val, by omega⟩ d _ ?_).trans ?_)
  · show 512 + (h.val * 64 + d.val) = (8 + h.val) * 64 + d.val; omega
  · refine congrArg (hrmsAt · d) (funext fun e => congrArg (fun z => k2_pay2 x1 x0 x2 w (ix2 (row s t) z)) (Fin.ext ?_))
    show (8 + h.val) * 64 + e.val = 512 + (h.val * 64 + e.val); omega
end heads
theorem k_pay' (P Q R T B B' B'' g) : k2_pay10 (F := Ideal) P Q R T B B' B'' g = k2_pay9 P Q R T B B' B'' g := by
  funext i
  pointwise [k2_pay10, k2_pay9]

section plain
variable (y : FVec Ideal S512x1024 .bf16) (w : Vec Ideal S1024x512 .bf16) (C S : Vec Ideal S64x128 .f32) (s : Fin 8) (t : Fin 64) (j : Fin 512)
theorem v_pay : k2_pay12 y w (ix3 s t j) = ∑ k, y (ix2 (row s t) k) * w (ix2 k j) := by
  pointwise [k2_pay12, k2_pay11]
  rfl
theorem v_pay' : k2_pay13 y w (ix3 s t j) = ∑ k, y (ix2 (row s t) k) * w (ix2 k j) := by
  pointwise [k2_pay13, k2_pay11]
  rfl
theorem rv_pay : k2_pay27 y w (ix3 s t j) = ∑ k, y (ix2 (row s t) k) * w (ix2 k j) := by
  pointwise [k2_pay27]
  rfl
theorem rg_pay : k2_pay28 y w (ix3 s t j) = silu (∑ k, y (ix2 (row s t) k) * w (ix2 k j)) := by
  pointwise [k2_pay28]
  exact silu_sub _

/-- The four heads' rotations, put side by side, are each head's own. -/
theorem rope_ext (P : Fin 512 → EReal) (h : Fin 4) (d : Fin 128) (a a' : Fin 512) (e : Fin 128)
    (ha : a.val = (col h d).val) (ha' : a'.val = (col h (half d)).val) (he : e.val = d.val) :
    P a * C (ix2 t e) + P a' * S (ix2 t e) = P (col h d) * C (ix2 t d) + P (col h (half d)) * S (ix2 t d) := by
  rw [Fin.ext ha, Fin.ext ha', Fin.ext he]
theorem rq_pay (h : Fin 4) (d : Fin 128) :
    k2_pay19 (k2_pay14 C) (k2_pay15 S) (k2_pay16 y w) (k2_pay17 y C S w) (k2_pay18 y C S w) (ix3 s t (col h d)) =
      (∑ k, y (ix2 (row s t) k) * w (ix2 k (col h d))) * C (ix2 t d) + (∑ k, y (ix2 (row s t) k) * w (ix2 k (col h (half d)))) * S (ix2 t d) := by
  pointwise [k2_pay19, k2_pay17, k2_pay18, k2_pay14, k2_pay15, k2_pay16]
  have hv : (col h d).val = h.val * 128 + d.val := rfl
  have hw : (col h (half d)).val = h.val * 128 + (d.val + 64) % 128 := rfl
  split_ifs <;> refine rope_ext C S t (fun j => ∑ k, y (ix2 (row s t) k) * w (ix2 k j)) h d _ _ _ ?_ ?_ ?_ <;> simp only [hv, hw] <;> omega
theorem rk_pay (h : Fin 4) (d : Fin 128) :
    k2_pay26 (k2_pay14 C) (k2_pay15 S) (k2_pay20 y w) (k2_pay21 y (k2_pay14 C) (k2_pay15 S) w) (k2_pay22 y (k2_pay14 C) (k2_pay15 S) w) (k2_pay24 y (k2_pay14 C) w) (k2_pay25 y w) (ix3 s t (col h d)) =
      ((∑ k, y (ix2 (row s t) k) * w (ix2 k (col h d))) * C (ix2 t d) + (∑ k, y (ix2 (row s t) k) * w (ix2 k (col h (half d)))) * S (ix2 t d))
        * Ideal.ofBits FTy.f32 0x3DB504F3#32 := by
  pointwise [k2_pay26, k2_pay25, k2_pay24, k2_pay23, k2_pay22, k2_pay21, k2_pay20, k2_pay14, k2_pay15]
  refine congrArg (· * _) ?_
  have hv : (col h d).val = h.val * 128 + d.val := rfl
  have hw : (col h (half d)).val = h.val * 128 + (d.val + 64) % 128 := rfl
  split_ifs <;> refine rope_ext C S t (fun j => ∑ k, y (ix2 (row s t) k) * w (ix2 k j)) h d _ _ _ ?_ ?_ ?_ <;> simp only [hv, hw] <;> omega
end plain

end Cert.Kernel2Ideal.Proj
-- ==== Proof.ProjOut.lean ====
module
public import proofs.«01_k».proof.Proof.ProjPay
public import Idealize.ShloMosaic.Lib.Pipeline.ReadBack
public import Idealize.ShloMosaic.Lib.Pipeline.ValueKit
public import Idealize.ShloMosaic.Lib.Claim
@[expose] public section
set_option maxRecDepth 16384
noncomputable section
/-! The projection call's nine blocks at an entry, as functions of its nine operands. -/
namespace Cert.Kernel2Ideal.Proj
open Cert.Kernel2Ideal Cert.Kernel2Ideal.Gen Idealize.ShloMosaic Idealize.ShloMosaic.TcCoe Idealize.SL.Sem
open Cert.ChainMath Cert.RetMath
open scoped BigOperators

/-- A projected row: features normalised, modulated, and against the weights. -/
def projRow (x : Fin 1024 → EReal) (g : Fin 1024 → EReal) (sh sc : Fin 1024 → EReal) (w : Fin 1024 → Fin 3584 → EReal) (j : Fin 3584) : EReal :=
  projAt (normAt x g sh sc) w j

variable (x0 : Vec Ideal S8x64x1024 .f32) (x1 : Vec Ideal S8x9x1024 .f32) (x2 : Vec Ideal S1x1024 .f32)
  (x3 : Vec Ideal S1024x3584 .bf16) (x4 x5 : Vec Ideal S1x512 .f32) (x6 x7 : Vec Ideal S64x128 .f32) (x8 : Vec Ideal S256x256 .bf16)

/-- The block's projected rows. -/
def bp (s : Fin 8) (t : Fin 64) : Fin 3584 → EReal :=
  projRow (fun k => x0 (ix3 s t k)) (fun k => x2 (ix2 0 k)) (fun k => x1 (ix3 s 3 k)) (fun k => x1 (ix3 s 4 k)) (fun k j => x3 (ix2 k j))

theorem proj_wide (s : Fin 8) (t : Fin 64) (j : Fin 1024) (j' : Fin 3584) (hj : j'.val = j.val) :
    k2_pay2 x1 x0 x2 (View.ld (Val := Elt Ideal) x3 r2_3) (ix2 (row s t) j) = bp x0 x1 x2 x3 s t j' := by
  unfold bp projRow projAt
  refine (qk_pay x0 x1 x2 _ _ _).trans (Finset.sum_congr rfl fun k _ => congrArg₂ (· * ·) (norm_pay x0 x1 x2 s t k) ?_)
  exact View.ld_unit_apply_of (Val := Elt Ideal) (e := .bf16) (S := S1024x3584) _ _ _ _ _ _ fun a => match a with
    | 0 => (Nat.zero_add _).symm
    | 1 => hj.trans (Nat.zero_add _).symm
theorem proj_cols (s : Fin 8) (t : Fin 64) (o : Nat) (h) (j : Fin 512) (g : Fin 7) (ho : g.val * 512 = o) :
    ∑ k, k2_pay1 x1 x0 x2 (ix2 (row s t) k) *
      (View.ld (Val := Elt Ideal) x3 (Rect.unit (s := S1024x3584) ![0, o] S1024x512.size h) : Vec Ideal S1024x512 .bf16) (ix2 k j) = bp x0 x1 x2 x3 s t (pcol g j) := by
  unfold bp projRow projAt
  refine Finset.sum_congr rfl fun k _ => congrArg₂ (· * ·) (norm_pay x0 x1 x2 s t k) ?_
  exact View.ld_unit_apply_of (Val := Elt Ideal) (e := .bf16) (S := S1024x3584) _ _ _ _ _ _ fun a => match a with
    | 0 => (Nat.zero_add _).symm
    | 1 => congrArg (· + j.val) ho

theorem l29 : k2_pay29 x0 x1 x2 x3 x4 x5 x6 x7 x8 = k2_pay1 x1 x0 x2 := by
  unfold k2_pay29
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide)]
theorem l8 : View.ld (Val := Elt Ideal) x8 r2_4 = x8 := View.ld_unit_lit (Val := Elt Ideal) (e := .bf16) (S := S256x256) _ x8 (by decide)
theorem lg (x : Vec Ideal S1x512 .f32) : View.ld (Val := Elt Ideal) x r2_5 = x := View.ld_unit_lit (Val := Elt Ideal) (e := .f32) (S := S1x512) _ x (by decide)
theorem lt (x : Vec Ideal S64x128 .f32) : View.ld (Val := Elt Ideal) x r2_8 = x := View.ld_unit_lit (Val := Elt Ideal) (e := .f32) (S := S64x128) _ x (by decide)
theorem l30 : k2_pay30 x0 x1 x2 x3 x4 x5 x6 x7 x8 = k2_pay2 x1 x0 x2 (View.ld x3 r2_3) := by
  unfold k2_pay30
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide)]
theorem l31 : k2_pay31 x0 x1 x2 x3 x4 x5 x6 x7 x8 = k2_pay3 x1 x0 x2 (View.ld x3 r2_3) := by
  unfold k2_pay31
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide)]
theorem l32 : k2_pay32 x0 x1 x2 x3 x4 x5 x6 x7 x8 = k2_pay4 x1 x0 x2 (View.ld x3 r2_3) x8 := by
  unfold k2_pay32
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide), l8]
theorem l33 : k2_pay33 x0 x1 x2 x3 x4 x5 x6 x7 x8 = k2_pay5 x1 x0 x2 (View.ld x3 r2_3) := by
  unfold k2_pay33
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide)]
theorem l34 : k2_pay34 x0 x1 x2 x3 x4 x5 x6 x7 x8 = k2_pay14 x6 := by
  unfold k2_pay34
  rw [lt]
theorem l35 : k2_pay35 x0 x1 x2 x3 x4 x5 x6 x7 x8 = k2_pay15 x7 := by
  unfold k2_pay35
  rw [lt]

section heads
variable (hB : ∀ i j, x8 (ix2 i j) = if i.val / 64 = j.val / 64 then 1 else 0) (s : Fin 8) (t : Fin 64) (h : Fin 8) (d : Fin 64)
include hB
theorem out9 : out2_9 x0 x1 x2 x3 x4 x5 x6 x7 x8 (ix3 s t (hcol h d)) =
    hrmsAt (fun e => bp x0 x1 x2 x3 s t (pcol 0 (hcol h e))) d * x4 (ix2 0 (hcol h d)) * Ideal.ofBits FTy.f32 0x3E000000#32 := by
  unfold out2_9
  refine (congrFun (View.canon_cons_unit_lit (Val := Elt Ideal) (e := .bf16) (S := S8x64x512) _ _ [] (by decide)) _).trans ?_
  rw [l30, l31, l32, l33, l8, lg]
  refine (q_pay x0 x1 x2 _ x8 hB x4 s t h d).trans (congrArg (· * _ * _) (congrArg (hrmsAt · d) (funext fun e => ?_)))
  exact proj_wide x0 x1 x2 x3 s t _ _ (by show 0 * 512 + (hcol h e).val = (hcol h e).val; omega)
theorem out10 : out2_10 x0 x1 x2 x3 x4 x5 x6 x7 x8 (ix3 s t (hcol h d)) =
    hrmsAt (fun e => bp x0 x1 x2 x3 s t (pcol 1 (hcol h e))) d * x5 (ix2 0 (hcol h d)) := by
  unfold out2_10
  refine (congrFun (View.canon_cons_unit_lit (Val := Elt Ideal) (e := .f32) (S := S8x64x512) _ _ [] (by decide)) _).trans ?_
  rw [l30, l31, l32, l33, l8, lg]
  refine (k_pay x0 x1 x2 _ x8 hB x5 s t h d).trans (congrArg (· * _) (congrArg (hrmsAt · d) (funext fun e => ?_)))
  exact proj_wide x0 x1 x2 x3 s t _ _ (by show 1 * 512 + (hcol h e).val = 512 + (hcol h e).val; omega)
omit hB in
theorem out11 : out2_11 x0 x1 x2 x3 x4 x5 x6 x7 x8 = out2_10 x0 x1 x2 x3 x4 x5 x6 x7 x8 := by
  unfold out2_11 out2_10
  refine (View.canon_cons_unit_lit (Val := Elt Ideal) (e := .bf16) (S := S8x64x512) _ _ [] (by decide)).trans ?_
  refine Eq.trans ?_ (View.canon_cons_unit_lit (Val := Elt Ideal) (e := .f32) (S := S8x64x512) _ _ [] (by decide)).symm
  exact k_pay' _ _ _ _ _ _ _ _
end heads

section plain
variable (s : Fin 8) (t : Fin 64) (j : Fin 512)
theorem out12 : out2_12 x0 x1 x2 x3 x4 x5 x6 x7 x8 (ix3 s t j) = bp x0 x1 x2 x3 s t (pcol 2 j) := by
  unfold out2_12
  refine (congrFun (View.canon_cons_unit_lit (Val := Elt Ideal) (e := .f32) (S := S8x64x512) _ _ [] (by decide)) _).trans ?_
  rw [l29]
  exact (v_pay _ _ s t j).trans (proj_cols x0 x1 x2 x3 s t 1024 _ j 2 rfl)
theorem out13 : out2_13 x0 x1 x2 x3 x4 x5 x6 x7 x8 (ix3 s t j) = bp x0 x1 x2 x3 s t (pcol 2 j) := by
  unfold out2_13
  refine (congrFun (View.canon_cons_unit_lit (Val := Elt Ideal) (e := .bf16) (S := S8x64x512) _ _ [] (by decide)) _).trans ?_
  rw [l29]
  exact (v_pay' _ _ s t j).trans (proj_cols x0 x1 x2 x3 s t 1024 _ j 2 rfl)
theorem out16 : out2_16 x0 x1 x2 x3 x4 x5 x6 x7 x8 (ix3 s t j) = bp x0 x1 x2 x3 s t (pcol 5 j) := by
  unfold out2_16
  refine (congrFun (View.canon_cons_unit_lit (Val := Elt Ideal) (e := .bf16) (S := S8x64x512) _ _ [] (by decide)) _).trans ?_
  rw [l29]
  exact (rv_pay _ _ s t j).trans (proj_cols x0 x1 x2 x3 s t 2560 _ j 5 rfl)
theorem out17 : out2_17 x0 x1 x2 x3 x4 x5 x6 x7 x8 (ix3 s t j) = silu (bp x0 x1 x2 x3 s t (pcol 6 j)) := by
  unfold out2_17
  refine (congrFun (View.canon_cons_unit_lit (Val := Elt Ideal) (e := .bf16) (S := S8x64x512) _ _ [] (by decide)) _).trans ?_
  rw [l29]
  exact (rg_pay _ _ s t j).trans (congrArg silu (proj_cols x0 x1 x2 x3 s t 3072 _ j 6 rfl))
end plain

section rot
variable (s : Fin 8) (t : Fin 64) (h : Fin 4) (d : Fin 128)
theorem out14 : out2_14 x0 x1 x2 x3 x4 x5 x6 x7 x8 (ix3 s t (col h d)) =
    bp x0 x1 x2 x3 s t (pcol 3 (col h d)) * x6 (ix2 t d) + bp x0 x1 x2 x3 s t (pcol 3 (col h (half d))) * x7 (ix2 t d) := by
  unfold out2_14
  refine (congrFun (View.canon_cons_unit_lit (Val := Elt Ideal) (e := .bf16) (S := S8x64x512) _ _ [] (by decide)) _).trans ?_
  rw [l29, l34, l35, lt, lt]
  refine (rq_pay _ _ x6 x7 s t h d).trans ?_
  exact congrArg₂ (· * _ + · * _) (proj_cols x0 x1 x2 x3 s t 1536 _ _ 3 rfl) (proj_cols x0 x1 x2 x3 s t 1536 _ _ 3 rfl)
theorem out15 : out2_15 x0 x1 x2 x3 x4 x5 x6 x7 x8 (ix3 s t (col h d)) =
    (bp x0 x1 x2 x3 s t (pcol 4 (col h d)) * x6 (ix2 t d) + bp x0 x1 x2 x3 s t (pcol 4 (col h (half d))) * x7 (ix2 t d))
      * Ideal.ofBits FTy.f32 0x3DB504F3#32 := by
  unfold out2_15
  refine (congrFun (View.canon_cons_unit_lit (Val := Elt Ideal) (e := .bf16) (S := S8x64x512) _ _ [] (by decide)) _).trans ?_
  rw [l29, l34, l35]
  refine (rk_pay _ _ x6 x7 s t h d).trans (congrArg (· * _) ?_)
  exact congrArg₂ (· * _ + · * _) (proj_cols x0 x1 x2 x3 s t 2048 _ _ 4 rfl) (proj_cols x0 x1 x2 x3 s t 2048 _ _ 4 rfl)
end rot
end Cert.Kernel2Ideal.Proj
-- ==== Proof.ProjRef.lean ====
module
public import proofs.«01_k».proof.Proof.ProjMath
public import proofs.«01_k».proof.Proof.Gen.Reference2Ideal.Read
@[expose] public section
set_option maxRecDepth 16384
noncomputable section
/-! The reference's projections at an entry. -/
namespace Cert.ProjRef
open Cert.Reference2Ideal Cert.Reference2Ideal.Gen Idealize.ShloMosaic Idealize.ShloMosaic.TcCoe Idealize.SL.Sem
open Cert.Reference2Ideal.Read Cert.ChainMath Cert.RetMath
open scoped BigOperators
variable (x0 : (⟨S32x64x1024, .f32⟩ : BufTy).Contents (Elt Ideal)) (x3 : (⟨S32x1024, .f32⟩ : BufTy).Contents (Elt Ideal))
  (x4 : (⟨S1x1024x9216, .f32⟩ : BufTy).Contents (Elt Ideal)) (x5 : (⟨S1x9216, .f32⟩ : BufTy).Contents (Elt Ideal))
  (x6 x7 : (⟨S1x1024, .f32⟩ : BufTy).Contents (Elt Ideal)) (x8 : (⟨S1x1024x5632, .f32⟩ : BufTy).Contents (Elt Ideal))
  (x9 : (⟨S1x2816x1024, .f32⟩ : BufTy).Contents (Elt Ideal)) (x10 : (⟨S1x1024x3584, .f32⟩ : BufTy).Contents (Elt Ideal))
  (x11 x12 : (⟨S1x64, .f32⟩ : BufTy).Contents (Elt Ideal)) (b : Fin 32) (t : Fin 64)

/-- The row of token `t` of sequence `b`, normalised for the mixing. -/
def mixRow : Fin 1024 → EReal :=
  normAt (fun k => val_main_v54 (F := Ideal) x0 x3 x4 x5 x6 x8 x9 (ix3 b t k)) (fun k => x7 (ix2 0 k))
    (fun k => val_main_v9 (F := Ideal) x3 x4 x5 (ix2 b (mcol 3 k))) (fun k => val_main_v9 (F := Ideal) x3 x4 x5 (ix2 b (mcol 4 k)))

theorem mix (k : Fin 1024) : val_main_v76 (F := Ideal) x0 x3 x4 x5 x6 x7 x8 x9 (ix3 b t k) = mixRow x0 x3 x4 x5 x6 x7 x8 x9 b t k := by
  unfold mixRow
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v13, val_main_v14, val_main_cst_4, val_main_cst_5, val_main_cst_6, val_main_cst_7]
  simp only [mcol3, mcol4]
  rfl

theorem proj (j : Fin 3584) : val_main_v78 (F := Ideal) x0 x3 x4 x5 x6 x7 x8 x9 x10 (ix3 b t j) =
    projAt (mixRow x0 x3 x4 x5 x6 x7 x8 x9 b t) (fun k j => x10 (ix3 0 k j)) j := by
  pointwise [val_main_v78, val_main_v77]
  simp only [mix]
  rfl

/-- The seven projections of the row, side by side. -/
def P (j : Fin 3584) : EReal := val_main_v78 (F := Ideal) x0 x3 x4 x5 x6 x7 x8 x9 x10 (ix3 b t j)

theorem q (h : Fin 8) (d : Fin 64) : val_main_v277 (F := Ideal) x0 x3 x4 x5 x6 x7 x8 x9 x10 x11 (ix3 b t (hcol h d)) =
    hrmsAt (fun e => P x0 x3 x4 x5 x6 x7 x8 x9 x10 b t (pcol 0 (hcol h e))) d * x11 (ix2 0 d) * Ideal.ofBits FTy.f32 0x3E000000#32 := by
  pointwise [val_main_v277, val_main_v275, val_main_v274, val_main_v273, val_main_cst_32, val_main_v100, val_main_v99, val_main_v98, val_main_v97, val_main_v96, val_main_v95, val_main_v94, val_main_v93, val_main_v92, val_main_v91, val_main_v90, val_main_v89, val_main_v88, val_main_v87, val_main_v86, val_main_v79, val_main_cst_8, val_main_cst_9, val_main_cst_10]
  simp only [phead0, pcol0, hcol_mod, hrmsAt, P]
theorem k (h : Fin 8) (d : Fin 64) : val_main_v276 (F := Ideal) x0 x3 x4 x5 x6 x7 x8 x9 x10 x12 (ix3 b t (hcol h d)) =
    hrmsAt (fun e => P x0 x3 x4 x5 x6 x7 x8 x9 x10 b t (pcol 1 (hcol h e))) d * x12 (ix2 0 d) := by
  pointwise [val_main_v276, val_main_v115, val_main_v114, val_main_v113, val_main_v112, val_main_v111, val_main_v110, val_main_v109, val_main_v108, val_main_v107, val_main_v106, val_main_v105, val_main_v104, val_main_v103, val_main_v102, val_main_v101, val_main_v80, val_main_cst_11, val_main_cst_12, val_main_cst_13]
  simp only [phead1, pcol1, hcol_mod, hrmsAt, P]
theorem v (j : Fin 512) : val_main_v81 (F := Ideal) x0 x3 x4 x5 x6 x7 x8 x9 x10 (ix3 b t j) = P x0 x3 x4 x5 x6 x7 x8 x9 x10 b t (pcol 2 j) := by
  pointwise [val_main_v81]
  rw [pcol2]
  rfl

/-- The cosines and sines of the rotation. -/
def cs (d : Fin 64) : EReal := val_main_v129 (F := Ideal) (ix2 t d)
def sn (d : Fin 64) : EReal := val_main_v131 (F := Ideal) (ix2 t d)

theorem colrot (g : Fin 7) (o : Nat) (ho : o = g.val * 512) (h : Fin 4) (d : Fin 128) (n : Nat) (hn : n = d.val) (p) :
    (⟨o + (h.val * 128 + n), p⟩ : Fin 3584) = pcol g (col h d) := Fin.ext (by subst ho hn; rfl)
theorem rq (h : Fin 4) (d : Fin 128) : val_main_v145 (F := Ideal) x0 x3 x4 x5 x6 x7 x8 x9 x10 (ix4 b t h d) =
    rotAt (fun d => P x0 x3 x4 x5 x6 x7 x8 x9 x10 b t (pcol 3 (col h d))) (cs t) (sn t) d := by
  pointwise [val_main_v145, val_main_v144, val_main_v143, val_main_v142, val_main_v141, val_main_v140, val_main_v139, val_main_v138, val_main_v137, val_main_v136, val_main_v135, val_main_v134, val_main_v133, val_main_v132, val_main_v130, val_main_v116, val_main_v82]
  unfold rotAt
  split
  · rw [colrot 3 1536 rfl h d _ rfl, colrot 3 1536 rfl h ⟨64 + d.val, by omega⟩ _ rfl]
    rfl
  · rw [colrot 3 1536 rfl h ⟨d.val - 64, by omega⟩ _ rfl, colrot 3 1536 rfl h d _ (by omega)]
    rfl
theorem cs_eq : val_main_v159 (F := Ideal) = val_main_v129 := rfl
theorem sn_eq : val_main_v161 (F := Ideal) = val_main_v131 := rfl
theorem rk (h : Fin 4) (d : Fin 128) : val_main_v177 (F := Ideal) x0 x3 x4 x5 x6 x7 x8 x9 x10 (ix4 b t h d) =
    rotAt (fun d => P x0 x3 x4 x5 x6 x7 x8 x9 x10 b t (pcol 4 (col h d))) (cs t) (sn t) d * Ideal.ofBits FTy.f32 0x3DB504F3#32 := by
  pointwise [val_main_v177, val_main_v176, val_main_v175, val_main_v174, val_main_v173, val_main_v172, val_main_v171, val_main_v170, val_main_v169, val_main_v168, val_main_v167, val_main_v166, val_main_v165, val_main_v164, val_main_v163, val_main_v162, val_main_v160, val_main_v146, val_main_v83, val_main_cst_18]
  refine congrArg (· * _) ?_
  rw [cs_eq, sn_eq]
  unfold rotAt
  split
  · rw [colrot 4 2048 rfl h d _ rfl, colrot 4 2048 rfl h ⟨64 + d.val, by omega⟩ _ rfl]
    rfl
  · rw [colrot 4 2048 rfl h ⟨d.val - 64, by omega⟩ _ rfl, colrot 4 2048 rfl h d _ (by omega)]
    rfl
theorem rv (h : Fin 4) (d : Fin 128) : val_main_v178 (F := Ideal) x0 x3 x4 x5 x6 x7 x8 x9 x10 (ix4 b t h d) = P x0 x3 x4 x5 x6 x7 x8 x9 x10 b t (pcol 5 (col h d)) := by
  pointwise [val_main_v178, val_main_v84]
  rw [colrot 5 2560 rfl h d _ rfl]
  rfl
theorem rg (j : Fin 512) : val_main_v254 (F := Ideal) x0 x3 x4 x5 x6 x7 x8 x9 x10 (ix3 b t j) = silu (P x0 x3 x4 x5 x6 x7 x8 x9 x10 b t (pcol 6 j)) := by
  pointwise [val_main_v254, val_main_call3_v5, val_main_call3_v4, val_main_call3_v3, val_main_call3_v2, val_main_call3_v1, val_main_call3_v0, val_main_call3_cst, val_main_call3_cst_0, val_main_v85]
  rw [pcol6]
  rfl
end Cert.ProjRef
-- ==== Proof.ChainMod.lean ====
module
public import proofs.«01_k».proof.Proof.Gen.Kernel2Ideal.Frame
public import proofs.«01_k».proof.Proof.Gen.Reference2Ideal.Read
public import proofs.«01_k».proof.Proof.ChainMath
public import Idealize.ShloMosaic.Lib.Pointwise
public import Idealize.ShloMosaic.Lib.Pipeline.ReadBack
public import Idealize.ShloMosaic.Lib.Pipeline.ValueKit
public import Idealize.ShloMosaic.Lib.StableHlo.ReadAt
@[expose] public section
set_option maxRecDepth 16384
noncomputable section
/-! The modulation call: the nine modulations of every sequence. -/
namespace Cert.Kernel2Ideal.Chain
open Cert.Kernel2Ideal Cert.Kernel2Ideal.Gen Idealize.ShloMosaic Idealize.ShloMosaic.TcCoe Idealize.SL.Sem
open Idealize.ShloMosaic.Pipeline (Dat)
open Cert.Reference2Ideal.Read Cert.ChainMath
open scoped BigOperators

/-- The reference's modulation. -/
theorem ref_mod (x3 x4 x5) (s : Fin 32) (w : Fin 9216) : val_main_v9 (F := Ideal) x3 x4 x5 (ix2 s w) =
    modAt (fun x => x3 (ix2 s x)) (fun x => x4 (ix3 0 x w)) (x5 (ix2 0 w)) := by
  pointwise [val_main_v9, val_main_v8, val_main_v7, val_main_v6, val_main_v5, val_main_v4, val_main_v3, val_main_call0_v5, val_main_call0_v4, val_main_call0_v3, val_main_call0_v2, val_main_call0_v1, val_main_call0_v0, val_main_call0_cst, val_main_call0_cst_0]
  rfl

section region
variable (V : (c : Dev nD) → (b : Ref sig .tc) → Buf (Elt Ideal) ((c : Thread nD τ).loc b)) (c : Dev nD)
theorem pay0 (x0 : Vec Ideal S36x1024 .f32) (x1 : Vec Ideal S1024x1024 .f32) (x2 : Vec Ideal S1x1024 .f32) (r : Fin 36) (k : Fin 1024) :
    k0_pay1 x0 x1 x2 (ix2 r k) = modAt (fun x => x0 (ix2 r x)) (fun x => x1 (ix2 x k)) (x2 (ix2 0 k)) := by
  pointwise [k0_pay1]
  simp only [silu_sub]
  rfl

theorem out0 (x0 : Vec Ideal S36x1024 .f32) (x1 : Vec Ideal S1024x1024 .f32) (x2 : Vec Ideal S1x1024 .f32) (r : Fin 36) (k : Fin 1024) :
    out0_3 x0 x1 x2 (ix2 r k) = modAt (fun x => x0 (ix2 r x)) (fun x => x1 (ix2 x k)) (x2 (ix2 0 k)) := by
  unfold out0_3
  rw [← pay0]
  rw [View.ld_unit_lit (Val := Elt Ideal) (e := .f32) (S := S36x1024) _ x0 (by decide),
    View.ld_unit_lit (Val := Elt Ideal) (e := .f32) (S := S1024x1024) _ x1 (by decide),
    View.ld_unit_lit (Val := Elt Ideal) (e := .f32) (S := S1x1024) _ x2 (by decide)]
  exact congrFun (View.canon_cons_unit_lit (Val := Elt Ideal) (e := .f32) (S := S36x1024) _ _ [] (by decide)) _
theorem idx0_0 : ∀ t : Fin grid0.N, win0_0.index t = ![0, 0] := by decide +kernel
theorem idx0_1 : ∀ t : Fin grid0.N, win0_1.index t = ![0, t.val] := by decide +kernel
theorem idx0_2 : ∀ t : Fin grid0.N, win0_2.index t = ![0, t.val] := by decide +kernel
theorem idx0_3 : ∀ t : Fin grid0.N, win0_3.index t = ![0, t.val] := by decide +kernel

theorem b0 (t : Fin cfg0.N) : iblk0 V c 0 t = V c (Pipeline.arrRef spec0 0) := by
  funext y
  blk_ext [iblk0, idx0_0 t]
theorem b1 (t : Fin cfg0.N) : iblk0 V c 1 t = fun y => V c (Pipeline.arrRef spec0 1) (ix2 (y 0) (mcol t (y 1))) := by
  funext y
  blk_ext [iblk0, mcol, idx0_1 t]
theorem b2 (t : Fin cfg0.N) : iblk0 V c 2 t = fun y => V c (Pipeline.arrRef spec0 2) (ix2 (y 0) (mcol t (y 1))) := by
  funext y
  blk_ext [iblk0, mcol, idx0_2 t]

/-- The call's result as a function of its operands. -/
def modArr (x : FVec Ideal S36x1024 .f32) (w : FVec Ideal S1024x9216 .f32) (b : FVec Ideal S1x9216 .f32) (i : S36x9216.Idx) : EReal :=
  modAt (fun x' => x (ix2 (i 0) x')) (fun x' => w (ix2 x' (i 1))) (b (ix2 0 (i 1)))

theorem arr0 : (dat0 V c).arrAt 3 cfg0.N =
    modArr (V c (Pipeline.arrRef spec0 0)) (V c (Pipeline.arrRef spec0 1)) (V c (Pipeline.arrRef spec0 2)) := by
  refine (dat0 V c).arrAt_eq_of_covers 3 _ (by decide +kernel) fun t hf y => ?_
  blk_simp
  rw [after0_3, b0, b1, b2]
  obtain ⟨r, k, rfl⟩ : ∃ r k, y = ix2 r k := ⟨y 0, y 1, (ix2_eta y).symm⟩
  rw [out0]
  unfold modArr
  have h0 : (win0_3.blk t).view.emb (ix2 r k) 0 = (r : Fin 36) := Fin.ext (by blk_simp [idx0_3 t])
  have h1 : (win0_3.blk t).view.emb (ix2 r k) 1 = mcol t k := Fin.ext (by blk_simp [mcol, idx0_3 t])
  rw [h0, h1]
  rfl
end region

variable (m : (ℓ : Loc nD τ sig) → Buf (Elt Ideal) ℓ) (ρ : Dev nD → PrngReg) (c : Dev nD)
/-- Row of the sequence `s` among the conditioning rows: after the four prompts. -/
def srow (s : Fin 32) : Fin 36 := ⟨4 + s.val, by omega⟩
theorem cond_eq (s : Fin 32) (x : Fin 1024) : (W1 m ρ c main_v3 : Vec Ideal S36x1024 .f32) (ix2 (srow s) x) = (W0 m ρ c main_arg3 : Vec Ideal S32x1024 .f32) (ix2 s x) := by
  show StableHlo.after hostOps0 (W0 m ρ c) main_v3 _ = _
  after_reads_at
  rw [dif_neg (by show ¬ 4 + s.val < 4; omega)]
  exact congrArg _ (congrArg (ix2 · x) (Fin.ext (by show 4 + s.val - 4 = s.val; omega)))
theorem wada_eq (x : Fin 1024) (w : Fin 9216) : (W1 m ρ c main_v4 : Vec Ideal S1024x9216 .f32) (ix2 x w) = (W0 m ρ c main_arg4 : Vec Ideal S1x1024x9216 .f32) (ix3 0 x w) := by
  show StableHlo.after hostOps0 (W0 m ρ c) main_v4 _ = _
  after_reads_at
theorem bada_eq (w : Fin 9216) : (W1 m ρ c main_v6 : Vec Ideal S1x9216 .f32) (ix2 0 w) = (W0 m ρ c main_arg5 : Vec Ideal S1x9216 .f32) (ix2 0 w) := by
  show StableHlo.after hostOps0 (W0 m ρ c) main_v6 _ = _
  after_reads_at

theorem v9_read (s : Fin 32) (j : Fin 9) (k : Fin 1024) : (W3 m ρ c main_v9 : Vec Ideal S32x9x1024 .f32) (ix3 s j k) =
    (W2 m ρ c main_v7 : Vec Ideal S36x9216 .f32) (ix2 (srow s) (mcol j k)) := by
  show StableHlo.after hostOps1 (W2 m ρ c) main_v9 _ = _
  after_reads_at
  rfl

/-- The modulations as the second call finds them are the reference's. -/
theorem mod_eq (s : Fin 32) (j : Fin 9) (k : Fin 1024) : (W3 m ρ c main_v9 : Vec Ideal S32x9x1024 .f32) (ix3 s j k) =
    val_main_v9 (F := Ideal) (m ((c : Thread nD τ).loc main_arg3)) (m ((c : Thread nD τ).loc main_arg4)) (m ((c : Thread nD τ).loc main_arg5)) (ix2 s (mcol j k)) := by
  rw [v9_read, ref_mod]
  refine (congrFun ((W2_arr m ρ c 3).trans (arr0 (V1 m ρ) c)) _).trans ?_
  show modAt _ _ _ = _
  exact congr (congrArg₂ modAt (funext fun x => cond_eq m ρ c s x) (funext fun x => wada_eq m ρ c x (mcol j k))) (bada_eq m ρ c (mcol j k))
end Cert.Kernel2Ideal.Chain
-- ==== Proof.ChainFfn.lean ====
module
public import proofs.«01_k».proof.Proof.ChainMod
@[expose] public section
set_option maxRecDepth 16384
noncomputable section
/-! The feature-mixing call. -/
namespace Cert.Kernel2Ideal.Chain
open Cert.Kernel2Ideal Cert.Kernel2Ideal.Gen Idealize.ShloMosaic Idealize.ShloMosaic.TcCoe Idealize.SL.Sem
open Idealize.ShloMosaic.Pipeline (Dat)
open Cert.Reference2Ideal.Read Cert.ChainMath
open scoped BigOperators

section payload
variable (x0 : Vec Ideal S8x64x1024 .f32) (x1 : Vec Ideal S8x9x1024 .f32) (x2 : Vec Ideal S1x1024 .f32)
theorem ffn_norm (s : Fin 8) (t : Fin 64) (k : Fin 1024) : k1_pay3 x0 x1 x2 (ix2 (row s t) k) =
    normAt (fun k => x0 (ix3 s t k)) (fun k => x2 (ix2 0 k)) (fun k => x1 (ix3 s 0 k)) (fun k => x1 (ix3 s 1 k)) k := by
  pointwise [k1_pay3, k1_pay1]
  simp only [row_div, row_mod]
  rfl

theorem ffn_pay (wg0 wu0 wg1 wu1 : Vec Ideal S1024x1408 .bf16) (wd0 wd1 : Vec Ideal S1408x1024 .bf16) (s : Fin 8) (t : Fin 64) (k : Fin 1024) :
    k1_pay8 x0 (k1_pay2 x1) (k1_pay3 x0 x1 x2) (k1_pay4 (F := Ideal)) (k1_pay5 x0 x1 x2 wg0) (k1_pay6 x0 x1 x2 wu0) (k1_pay7 x0 x1 x2 wg0)
      wd0 wg1 wu1 wd1 (ix3 s t k) =
    x0 (ix3 s t k) + Ideal.ofBits FTy.f32 0x3F000000#32 * x1 (ix3 s 2 k) *
      (∑ j, gatedAt (fun k => k1_pay3 x0 x1 x2 (ix2 (row s t) k)) (fun i => wg0 (ix2 i j)) (fun i => wu0 (ix2 i j)) * wd0 (ix2 j k)
        + ∑ j, gatedAt (fun k => k1_pay3 x0 x1 x2 (ix2 (row s t) k)) (fun i => wg1 (ix2 i j)) (fun i => wu1 (ix2 i j)) * wd1 (ix2 j k)) := by
  pointwise [k1_pay8, k1_pay2, k1_pay4, k1_pay5, k1_pay6, k1_pay7, k1_pay1]
  simp only [silu_sub, gatedAt, row]
end payload

section block
variable (x0 : Vec Ideal S8x64x1024 .f32) (x1 : Vec Ideal S8x9x1024 .f32) (x2 : Vec Ideal S1x1024 .f32)
  (x3 : Vec Ideal S1024x5632 .bf16) (x4 : Vec Ideal S2816x1024 .bf16)
theorem ld_cols (o : Nat) (h) (i : Fin 1024) (j : Fin 1408) (j' : Fin 5632) (hj : j'.val = o + j.val) :
    View.ld (Val := Elt Ideal) x3 (Rect.unit (s := S1024x5632) ![0, o] S1024x1408.size h) (ix2 i j) = x3 (ix2 i j') :=
  View.ld_unit_apply_of (Val := Elt Ideal) (e := .bf16) (S := S1024x5632) _ _ _ _ _ _ fun a => match a with
    | 0 => (Nat.zero_add _).symm
    | 1 => hj
theorem ld_rows' (o : Nat) (h) (j : Fin 1408) (k : Fin 1024) (j' : Fin 2816) (hj : j'.val = o + j.val) :
    View.ld (Val := Elt Ideal) x4 (Rect.unit (s := S2816x1024) ![o, 0] S1408x1024.size h) (ix2 j k) = x4 (ix2 j' k) :=
  View.ld_unit_apply_of (Val := Elt Ideal) (e := .bf16) (S := S2816x1024) _ _ _ _ _ _ fun a => match a with
    | 0 => hj
    | 1 => (Nat.zero_add _).symm

theorem out1 (s : Fin 8) (t : Fin 64) (k : Fin 1024) : out1_5 x0 x1 x2 x3 x4 (ix3 s t k) =
    ffnAt (fun k => x0 (ix3 s t k)) (fun k => x2 (ix2 0 k)) (fun k => x1 (ix3 s 0 k)) (fun k => x1 (ix3 s 1 k)) (fun k => x1 (ix3 s 2 k))
      (fun i j => x3 (ix2 i j)) (fun j k => x4 (ix2 j k)) k := by
  unfold out1_5
  rw [View.ld_unit_lit (Val := Elt Ideal) (e := .f32) (S := S8x64x1024) _ x0 (by decide),
    View.ld_unit_lit (Val := Elt Ideal) (e := .f32) (S := S8x9x1024) _ x1 (by decide),
    View.ld_unit_lit (Val := Elt Ideal) (e := .f32) (S := S1x1024) _ x2 (by decide)]
  refine (congrFun (View.canon_cons_unit_lit (Val := Elt Ideal) (e := .f32) (S := S8x64x1024) _ _ [] (by decide)) _).trans ?_
  refine (ffn_pay x0 x1 x2 _ _ _ _ _ _ s t k).trans ?_
  unfold ffnAt
  rw [sum_halves]
  simp only [ffn_norm]
  refine congrArg (_ + _ * ·) (congrArg₂ (· + ·) (Finset.sum_congr rfl fun j _ => congrArg₂ (· * ·) (congrArg₂ (gatedAt _) (funext fun i => ?_) (funext fun i => ?_)) ?_)
    (Finset.sum_congr rfl fun j _ => congrArg₂ (· * ·) (congrArg₂ (gatedAt _) (funext fun i => ?_) (funext fun i => ?_)) ?_))
  · exact ld_cols x3 0 _ i j _ (by show j.val = 0 + j.val; omega)
  · exact ld_cols x3 2816 _ i j _ (by show 2816 + j.val = 2816 + j.val; omega)
  · exact ld_rows' x4 0 _ j k _ (by show j.val = 0 + j.val; omega)
  · exact ld_cols x3 1408 _ i j _ (by show 1408 + j.val = 1408 + j.val; omega)
  · exact ld_cols x3 4224 _ i j _ (by show 2816 + (1408 + j.val) = 4224 + j.val; omega)
  · exact ld_rows' x4 1408 _ j k _ (by show 1408 + j.val = 1408 + j.val; omega)
end block

section ref
variable (x0 : (⟨S32x64x1024, .f32⟩ : BufTy).Contents (Elt Ideal)) (x3 : (⟨S32x1024, .f32⟩ : BufTy).Contents (Elt Ideal))
  (x4 : (⟨S1x1024x9216, .f32⟩ : BufTy).Contents (Elt Ideal)) (x5 : (⟨S1x9216, .f32⟩ : BufTy).Contents (Elt Ideal))
  (x6 : (⟨S1x1024, .f32⟩ : BufTy).Contents (Elt Ideal)) (x8 : (⟨S1x1024x5632, .f32⟩ : BufTy).Contents (Elt Ideal))
  (x9 : (⟨S1x2816x1024, .f32⟩ : BufTy).Contents (Elt Ideal)) (b : Fin 32) (t : Fin 64)
theorem ref_norm (k : Fin 1024) : val_main_v40 (F := Ideal) x0 x3 x4 x5 x6 (ix3 b t k) =
      normAt (fun k => x0 (ix3 b t k)) (fun k => x6 (ix2 0 k)) (fun k => val_main_v9 (F := Ideal) x3 x4 x5 (ix2 b (mcol 0 k)))
        (fun k => val_main_v9 (F := Ideal) x3 x4 x5 (ix2 b (mcol 1 k))) k := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v11, val_main_v10, val_main_cst, val_main_cst_0, val_main_cst_1, val_main_cst_2]
  simp only [mcol0, mcol1]
  rfl
theorem ref_gated (j : Fin 2816) : val_main_v50 (F := Ideal) x0 x3 x4 x5 x6 x8 (ix3 b t j) =
      gatedAt (fun k => val_main_v40 (F := Ideal) x0 x3 x4 x5 x6 (ix3 b t k)) (fun i => x8 (ix3 0 i (gcol j))) (fun i => x8 (ix3 0 i (ucol j))) := by
  pointwise [val_main_v50, val_main_v49, val_main_v48, val_main_v47, val_main_v46, val_main_v44, val_main_call1_v5, val_main_call1_v4, val_main_call1_v3, val_main_call1_v2, val_main_call1_v1, val_main_call1_v0, val_main_call1_cst, val_main_call1_cst_0]
  simp only [gatedAt, silu, gcol, ucol]
theorem ref_ffn (k : Fin 1024) :
    val_main_v54 (F := Ideal) x0 x3 x4 x5 x6 x8 x9 (ix3 b t k) =
      ffnAt (fun k => x0 (ix3 b t k)) (fun k => x6 (ix2 0 k)) (fun k => val_main_v9 (F := Ideal) x3 x4 x5 (ix2 b (mcol 0 k)))
        (fun k => val_main_v9 (F := Ideal) x3 x4 x5 (ix2 b (mcol 1 k))) (fun k => val_main_v9 (F := Ideal) x3 x4 x5 (ix2 b (mcol 2 k)))
        (fun i j => x8 (ix3 0 i j)) (fun j k => x9 (ix3 0 j k)) k := by
  pointwise [val_main_v54, val_main_v53, val_main_v52, val_main_v51, val_main_v45, val_main_v43, val_main_v42, val_main_v41, val_main_v12, val_main_cst_3]
  simp only [mcol2, ref_gated, ref_norm]
  rfl
end ref

section region
variable (V : (c : Dev nD) → (b : Ref sig .tc) → Buf (Elt Ideal) ((c : Thread nD τ).loc b)) (c : Dev nD)
theorem idx1_0 : ∀ t : Fin grid1.N, win1_0.index t = ![t.val, 0, 0] := by decide +kernel
theorem idx1_1 : ∀ t : Fin grid1.N, win1_1.index t = ![t.val, 0, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![0, 0] := by decide +kernel
theorem idx1_5 : ∀ t : Fin grid1.N, win1_5.index t = ![t.val, 0, 0] := by decide +kernel
theorem f0 (t : Fin cfg1.N) : iblk1 V c 0 t = fun y => V c (Pipeline.arrRef spec1 0) (ix3 (seq t (y 0)) (y 1) (y 2)) := by
  funext y
  blk_ext [iblk1, seq, idx1_0 t]
theorem f1 (t : Fin cfg1.N) : iblk1 V c 1 t = fun y => V c (Pipeline.arrRef spec1 1) (ix3 (seq t (y 0)) (y 1) (y 2)) := by
  funext y
  blk_ext [iblk1, seq, idx1_1 t]
theorem f2 (t : Fin cfg1.N) : iblk1 V c 2 t = V c (Pipeline.arrRef spec1 2) := by
  funext y
  blk_ext [iblk1, idx1_2 t]
theorem f3 (t : Fin cfg1.N) : iblk1 V c 3 t = V c (Pipeline.arrRef spec1 3) := by
  funext y
  blk_ext [iblk1, idx1_3 t]
theorem f4 (t : Fin cfg1.N) : iblk1 V c 4 t = V c (Pipeline.arrRef spec1 4) := by
  funext y
  blk_ext [iblk1, idx1_4 t]
/-- The call's result as a function of its operands. -/
def ffnArr (x : FVec Ideal S32x64x1024 .f32) (md : FVec Ideal S32x9x1024 .f32) (g : FVec Ideal S1x1024 .f32)
    (wu : FVec Ideal S1024x5632 .bf16) (wd : FVec Ideal S2816x1024 .bf16) (i : S32x64x1024.Idx) : EReal :=
  ffnAt (fun k => x (ix3 (i 0) (i 1) k)) (fun k => g (ix2 0 k)) (fun k => md (ix3 (i 0) 0 k)) (fun k => md (ix3 (i 0) 1 k)) (fun k => md (ix3 (i 0) 2 k))
    (fun i j => wu (ix2 i j)) (fun j k => wd (ix2 j k)) (i 2)
theorem emb1_5 (t : Fin cfg1.N) (s : Fin 8) (r : Fin 64) (k : Fin 1024) :
    (win1_5.blk t).view.emb (ix3 s r k) = (ix3 (seq t s) r k : S32x64x1024.Idx) := by
  funext a
  match a with
  | 0 => exact Fin.ext (by blk_simp [seq, idx1_5 t])
  | 1 => exact Fin.ext (by blk_simp [idx1_5 t])
  | 2 => exact Fin.ext (by blk_simp [idx1_5 t])
theorem arr1 : (dat1 V c).arrAt 5 cfg1.N = ffnArr (V c (Pipeline.arrRef spec1 0)) (V c (Pipeline.arrRef spec1 1))
    (V c (Pipeline.arrRef spec1 2)) (V c (Pipeline.arrRef spec1 3)) (V c (Pipeline.arrRef spec1 4)) := by
  refine (dat1 V c).arrAt_eq_of_covers 5 _ (by decide +kernel) fun t hf y => ?_
  blk_simp
  rw [after1_5, f0, f1, f2, f3, f4]
  obtain ⟨s, r, k, rfl⟩ : ∃ s r k, y = ix3 s r k := ⟨y 0, y 1, y 2, (ix3_eta y).symm⟩
  rw [out1, emb1_5]
  rfl
end region

variable (m : (ℓ : Loc nD τ sig) → Buf (Elt Ideal) ℓ) (ρ : Dev nD → PrngReg) (c : Dev nD)
theorem gain1_eq (k : Fin 1024) : (W3 m ρ c main_v11 : Vec Ideal S1x1024 .f32) (ix2 0 k) = (W2 m ρ c main_arg6 : Vec Ideal S1x1024 .f32) (ix2 0 k) := by
  show StableHlo.after hostOps1 (W2 m ρ c) main_v11 _ = _
  after_reads_at
theorem wup_eq (i : Fin 1024) (j : Fin 5632) : (W3 m ρ c main_v13 : Vec Ideal S1024x5632 .bf16) (ix2 i j) = (W2 m ρ c main_arg8 : Vec Ideal S1x1024x5632 .f32) (ix3 0 i j) := by
  show StableHlo.after hostOps1 (W2 m ρ c) main_v13 _ = _
  after_reads_at
theorem wdown_eq (j : Fin 2816) (k : Fin 1024) : (W3 m ρ c main_v15 : Vec Ideal S2816x1024 .bf16) (ix2 j k) = (W2 m ρ c main_arg9 : Vec Ideal S1x2816x1024 .f32) (ix3 0 j k) := by
  show StableHlo.after hostOps1 (W2 m ρ c) main_v15 _ = _
  after_reads_at

theorem ffnArr_eq (x md g wu wd) (x3 x4 x5 x6 x8 x9)
    (hm : ∀ s j k, md (ix3 s j k) = val_main_v9 (F := Ideal) x3 x4 x5 (ix2 s (mcol j k)))
    (hg : ∀ k, g (ix2 0 k) = x6 (ix2 0 k)) (hu : ∀ i j, wu (ix2 i j) = x8 (ix3 0 i j)) (hd : ∀ j k, wd (ix2 j k) = x9 (ix3 0 j k)) :
    ffnArr x md g wu wd = val_main_v54 (F := Ideal) x x3 x4 x5 x6 x8 x9 := by
  funext i
  obtain ⟨b, t, k, rfl⟩ : ∃ b t k, i = ix3 b t k := ⟨i 0, i 1, i 2, (ix3_eta i).symm⟩
  rw [ref_ffn]
  show ffnAt (fun k => x (ix3 b t k)) (fun k => g (ix2 0 k)) (fun k => md (ix3 b 0 k)) (fun k => md (ix3 b 1 k)) (fun k => md (ix3 b 2 k))
    (fun i j => wu (ix2 i j)) (fun j k => wd (ix2 j k)) k = _
  simp only [hm, hg, hu, hd]

/-- The features after the first mixing are the reference's. -/
theorem x_eq : W4 m ρ c main_v16 = val_main_v54 (F := Ideal) (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg8)) (m ((c : Thread nD τ).loc main_arg9)) := by
  refine ((W4_arr m ρ c 5).trans (arr1 (V3 m ρ) c)).trans ?_
  have h0 : V3 m ρ c (Pipeline.arrRef spec1 0) = m ((c : Thread nD τ).loc main_arg0) := W3_args m ρ c main_arg0 (by decide)
  rw [h0]
  refine ffnArr_eq _ _ _ _ _ _ _ _ _ _ _ (mod_eq m ρ c) (fun k => (gain1_eq m ρ c k).trans ?_) (fun i j => (wup_eq m ρ c i j).trans ?_)
    (fun j k => (wdown_eq m ρ c j k).trans ?_)
  · exact congrFun (W2_args m ρ c main_arg6 (by decide)) _
  · exact congrFun (W2_args m ρ c main_arg8 (by decide)) _
  · exact congrFun (W2_args m ρ c main_arg9 (by decide)) _
end Cert.Kernel2Ideal.Chain
-- ==== Proof.ProjHost.lean ====
module
public import proofs.«01_k».proof.Proof.ProjRef
public import proofs.«01_k».proof.Proof.ChainFfn
@[expose] public section
set_option maxRecDepth 16384
noncomputable section
/-! The projection call's tables and weights, as the host code leaves them. -/
namespace Cert.Kernel2Ideal.Proj
open Cert.Kernel2Ideal Cert.Kernel2Ideal.Gen Idealize.ShloMosaic Idealize.ShloMosaic.TcCoe Idealize.SL.Sem
open Cert.Reference2Ideal.Read Cert.ChainMath
variable (m : (ℓ : Loc nD τ sig) → Buf (Elt Ideal) ℓ) (ρ : Dev nD → PrngReg) (c : Dev nD)
theorem gain_eq (k : Fin 1024) : (W5 m ρ c main_v35 : Vec Ideal S1x1024 .f32) (ix2 0 k) = (W4 m ρ c main_arg7 : Vec Ideal S1x1024 .f32) (ix2 0 k) := by
  show StableHlo.after hostOps2 (W4 m ρ c) main_v35 _ = _
  after_reads_at
theorem win_eq (i : Fin 1024) (j : Fin 3584) : (W5 m ρ c main_v37 : Vec Ideal S1024x3584 .bf16) (ix2 i j) = (W4 m ρ c main_arg10 : Vec Ideal S1x1024x3584 .f32) (ix3 0 i j) := by
  show StableHlo.after hostOps2 (W4 m ρ c) main_v37 _ = _
  after_reads_at
theorem qgain_eq (h : Fin 8) (d : Fin 64) : (W5 m ρ c main_v42 : Vec Ideal S1x512 .f32) (ix2 0 (hcol h d)) = (W4 m ρ c main_arg11 : Vec Ideal S1x64 .f32) (ix2 0 d) := by
  show StableHlo.after hostOps2 (W4 m ρ c) main_v42 _ = _
  after_reads_at
  simp only [hcol_div, hcol_mod]
theorem kgain_eq (h : Fin 8) (d : Fin 64) : (W5 m ρ c main_v47 : Vec Ideal S1x512 .f32) (ix2 0 (hcol h d)) = (W4 m ρ c main_arg12 : Vec Ideal S1x64 .f32) (ix2 0 d) := by
  show StableHlo.after hostOps2 (W4 m ρ c) main_v47 _ = _
  after_reads_at
  simp only [hcol_div, hcol_mod]
theorem pos_eq (t : Fin 64) : (W4 m ρ c main_v2 : Vec Ideal S64 .i32) (ix1 t) = val_main_v2 (F := Ideal) (ix1 t) := by
  refine (congrFun (W4_of m ρ c main_v2 (by decide)) _).trans ?_
  refine (congrFun (W3_of m ρ c main_v2 (by decide)) _).trans ?_
  refine (congrFun (W2_of m ρ c main_v2 (by decide)) _).trans ?_
  show StableHlo.after hostOps0 (W0 m ρ c) main_v2 _ = _
  after_reads_at
  pointwise [val_main_v2, val_main_v1, val_main_v0, val_main_c]
theorem cos_eq (t : Fin 64) (d : Fin 128) : (W5 m ρ c main_v31 : Vec Ideal S64x128 .f32) (ix2 t d) =
    if h : d.val < 64 then Cert.ProjRef.cs t ⟨d.val, h⟩ else Cert.ProjRef.cs t ⟨d.val - 64, by omega⟩ := by
  show StableHlo.after hostOps2 (W4 m ρ c) main_v31 _ = _
  after_reads_at
  have hp := pos_eq m ρ c t
  unfold Cert.ProjRef.cs
  pointwise [val_main_v129, val_main_v128, val_main_v127, val_main_v126, val_main_v125, val_main_v124, val_main_v123, val_main_v122, val_main_v121, val_main_v120, val_main_v119, val_main_v118, val_main_v117, val_main_cst_14, val_main_cst_15]
  rw [← hp]
theorem sin_eq (t : Fin 64) (d : Fin 128) : (W5 m ρ c main_v33 : Vec Ideal S64x128 .f32) (ix2 t d) =
    (if h : d.val < 64 then -Cert.ProjRef.sn t ⟨d.val, h⟩ else Cert.ProjRef.sn t ⟨d.val - 64, by omega⟩ : EReal) := by
  show StableHlo.after hostOps2 (W4 m ρ c) main_v33 _ = _
  after_reads_at
  have hp := pos_eq m ρ c t
  unfold Cert.ProjRef.sn
  pointwise [val_main_v131, val_main_v128, val_main_v127, val_main_v126, val_main_v125, val_main_v124, val_main_v123, val_main_v122, val_main_v121, val_main_v120, val_main_v119, val_main_v118, val_main_v117, val_main_cst_14, val_main_cst_15]
  rw [← hp]

/-- The host's floor division by 64, of one number. -/
def floor64 (x : BitVec 32) : BitVec 32 :=
  Scalar.select (IntOp.andi (IntOp.cmpi .ne (if x = 0 then 0 else if x.msb = true then -1 else 1)
      (if (64#32 : BitVec 32) = 0 then (0 : BitVec 32) else if BitVec.msb 64#32 = true then -1 else 1))
    (IntOp.cmpi .ne (IntOp.remsi .host x 64#32) 0#32)) (IntOp.subi (IntOp.divsi .host x 64#32) 1#32) (IntOp.divsi .host x 64#32)
theorem floor64_eq : ∀ i : Fin 256, floor64 (BitVec.ofNat 32 i.val) = BitVec.ofNat 32 (i.val / 64) := by decide +kernel
theorem same_head : ∀ a b : Fin 4, IntOp.cmpi .eq (BitVec.ofNat 32 a.val) (BitVec.ofNat 32 b.val) = if a.val = b.val then 1#1 else 0#1 := by decide
theorem ind_eq (i j : Fin 256) : (W9 m ρ c main_v53 : Vec Ideal S256x256 .bf16) (ix2 i j) = (if i.val / 64 = j.val / 64 then 1 else 0 : EReal) := by
  show StableHlo.after hostOps2_4 (W8 m ρ c) main_v53 _ = _
  after_reads_at
  show FloatOps.uitofp FTy.bf16 (IntOp.cmpi CmpIPredicate.eq (floor64 (BitVec.ofNat 32 i.val)) (floor64 (BitVec.ofNat 32 j.val))) = _
  rw [floor64_eq, floor64_eq, same_head ⟨i.val / 64, by omega⟩ ⟨j.val / 64, by omega⟩]
  show FloatOps.uitofp FTy.bf16 (if i.val / 64 = j.val / 64 then 1#1 else 0#1) = _
  split <;> simp [FloatOps.uitofp]
end Cert.Kernel2Ideal.Proj
-- ==== Proof.ProjArr.lean ====
module
public import proofs.«01_k».proof.Proof.ProjOut
public import proofs.«01_k».proof.Proof.ProjHost
@[expose] public section
set_option maxRecDepth 16384
noncomputable section
/-! The nine arrays the projection call leaves. -/
namespace Cert.Kernel2Ideal.Proj
open Cert.Kernel2Ideal Cert.Kernel2Ideal.Gen Idealize.ShloMosaic Idealize.ShloMosaic.TcCoe Idealize.SL.Sem
open Idealize.ShloMosaic.Pipeline (Dat)
open Cert.ChainMath Cert.RetMath
open scoped BigOperators

section region
variable (V : (c : Dev nD) → (b : Ref sig .tc) → Buf (Elt Ideal) ((c : Thread nD τ).loc b)) (c : Dev nD)
theorem idx0 : ∀ t : Fin grid2.N, win2_0.index t = ![t.val, 0, 0] := by decide +kernel
theorem idx1 : ∀ t : Fin grid2.N, win2_1.index t = ![t.val, 0, 0] := by decide +kernel
theorem idx9 : ∀ t : Fin grid2.N, win2_9.index t = ![t.val, 0, 0] := by decide +kernel
theorem idx10 : ∀ t : Fin grid2.N, win2_10.index t = ![t.val, 0, 0] := by decide +kernel
theorem idx11 : ∀ t : Fin grid2.N, win2_11.index t = ![t.val, 0, 0] := by decide +kernel
theorem idx12 : ∀ t : Fin grid2.N, win2_12.index t = ![t.val, 0, 0] := by decide +kernel
theorem idx13 : ∀ t : Fin grid2.N, win2_13.index t = ![t.val, 0, 0] := by decide +kernel
theorem idx14 : ∀ t : Fin grid2.N, win2_14.index t = ![t.val, 0, 0] := by decide +kernel
theorem idx15 : ∀ t : Fin grid2.N, win2_15.index t = ![t.val, 0, 0] := by decide +kernel
theorem idx16 : ∀ t : Fin grid2.N, win2_16.index t = ![t.val, 0, 0] := by decide +kernel
theorem idx17 : ∀ t : Fin grid2.N, win2_17.index t = ![t.val, 0, 0] := by decide +kernel
theorem idx2 : ∀ t : Fin grid2.N, win2_2.index t = ![0, 0] := by decide +kernel
theorem idx3 : ∀ t : Fin grid2.N, win2_3.index t = ![0, 0] := by decide +kernel
theorem idx4 : ∀ t : Fin grid2.N, win2_4.index t = ![0, 0] := by decide +kernel
theorem idx5 : ∀ t : Fin grid2.N, win2_5.index t = ![0, 0] := by decide +kernel
theorem idx6 : ∀ t : Fin grid2.N, win2_6.index t = ![0, 0] := by decide +kernel
theorem idx7 : ∀ t : Fin grid2.N, win2_7.index t = ![0, 0] := by decide +kernel
theorem idx8 : ∀ t : Fin grid2.N, win2_8.index t = ![0, 0] := by decide +kernel
theorem f0 (t : Fin cfg2.N) : iblk2 V c 0 t = fun y => V c (Pipeline.arrRef spec2 0) (ix3 (seq t (y 0)) (y 1) (y 2)) := by
  funext y
  blk_ext [iblk2, seq, idx0 t]
theorem f1 (t : Fin cfg2.N) : iblk2 V c 1 t = fun y => V c (Pipeline.arrRef spec2 1) (ix3 (seq t (y 0)) (y 1) (y 2)) := by
  funext y
  blk_ext [iblk2, seq, idx1 t]
theorem f2 (t : Fin cfg2.N) : iblk2 V c 2 t = V c (Pipeline.arrRef spec2 2) := by
  funext y
  blk_ext [iblk2, idx2 t]
theorem f3 (t : Fin cfg2.N) : iblk2 V c 3 t = V c (Pipeline.arrRef spec2 3) := by
  funext y
  blk_ext [iblk2, idx3 t]
theorem f4 (t : Fin cfg2.N) : iblk2 V c 4 t = V c (Pipeline.arrRef spec2 4) := by
  funext y
  blk_ext [iblk2, idx4 t]
theorem f5 (t : Fin cfg2.N) : iblk2 V c 5 t = V c (Pipeline.arrRef spec2 5) := by
  funext y
  blk_ext [iblk2, idx5 t]
theorem f6 (t : Fin cfg2.N) : iblk2 V c 6 t = V c (Pipeline.arrRef spec2 6) := by
  funext y
  blk_ext [iblk2, idx6 t]
theorem f7 (t : Fin cfg2.N) : iblk2 V c 7 t = V c (Pipeline.arrRef spec2 7) := by
  funext y
  blk_ext [iblk2, idx7 t]
theorem f8 (t : Fin cfg2.N) : iblk2 V c 8 t = V c (Pipeline.arrRef spec2 8) := by
  funext y
  blk_ext [iblk2, idx8 t]

/-- The projected rows, as a function of the call's operands. -/
def arrP (b : Fin 32) (t : Fin 64) : Fin 3584 → EReal :=
  projRow (fun k => (V c (Pipeline.arrRef spec2 0) : FVec Ideal S32x64x1024 .f32) (ix3 b t k)) (fun k => (V c (Pipeline.arrRef spec2 2) : FVec Ideal S1x1024 .f32) (ix2 0 k))
    (fun k => (V c (Pipeline.arrRef spec2 1) : FVec Ideal S32x9x1024 .f32) (ix3 b 3 k)) (fun k => (V c (Pipeline.arrRef spec2 1) : FVec Ideal S32x9x1024 .f32) (ix3 b 4 k))
    (fun k j => (V c (Pipeline.arrRef spec2 3) : FVec Ideal S1024x3584 .bf16) (ix2 k j))
theorem bp_eq (t : Fin cfg2.N) (s : Fin 8) (r : Fin 64) : bp (iblk2 V c 0 t) (iblk2 V c 1 t) (iblk2 V c 2 t) (iblk2 V c 3 t) s r = arrP V c (seq t s) r := by
  rw [f0, f1, f2, f3]
  rfl
theorem emb9 (t : Fin cfg2.N) (s : Fin 8) (r : Fin 64) (k : Fin 512) : (win2_9.blk t).view.emb (ix3 s r k) = (ix3 (seq t s) r k : S32x64x512.Idx) := by
  funext a
  match a with
  | 0 => exact Fin.ext (by blk_simp [seq, idx9 t])
  | 1 => exact Fin.ext (by blk_simp [idx9 t])
  | 2 => exact Fin.ext (by blk_simp [idx9 t])
theorem emb10 (t : Fin cfg2.N) (s : Fin 8) (r : Fin 64) (k : Fin 512) : (win2_10.blk t).view.emb (ix3 s r k) = (ix3 (seq t s) r k : S32x64x512.Idx) := emb9 t s r k
theorem emb11 (t : Fin cfg2.N) (s : Fin 8) (r : Fin 64) (k : Fin 512) : (win2_11.blk t).view.emb (ix3 s r k) = (ix3 (seq t s) r k : S32x64x512.Idx) := emb9 t s r k
theorem emb12 (t : Fin cfg2.N) (s : Fin 8) (r : Fin 64) (k : Fin 512) : (win2_12.blk t).view.emb (ix3 s r k) = (ix3 (seq t s) r k : S32x64x512.Idx) := emb9 t s r k
theorem emb13 (t : Fin cfg2.N) (s : Fin 8) (r : Fin 64) (k : Fin 512) : (win2_13.blk t).view.emb (ix3 s r k) = (ix3 (seq t s) r k : S32x64x512.Idx) := emb9 t s r k
theorem emb14 (t : Fin cfg2.N) (s : Fin 8) (r : Fin 64) (k : Fin 512) : (win2_14.blk t).view.emb (ix3 s r k) = (ix3 (seq t s) r k : S32x64x512.Idx) := emb9 t s r k
theorem emb15 (t : Fin cfg2.N) (s : Fin 8) (r : Fin 64) (k : Fin 512) : (win2_15.blk t).view.emb (ix3 s r k) = (ix3 (seq t s) r k : S32x64x512.Idx) := emb9 t s r k
theorem emb16 (t : Fin cfg2.N) (s : Fin 8) (r : Fin 64) (k : Fin 512) : (win2_16.blk t).view.emb (ix3 s r k) = (ix3 (seq t s) r k : S32x64x512.Idx) := emb9 t s r k
theorem emb17 (t : Fin cfg2.N) (s : Fin 8) (r : Fin 64) (k : Fin 512) : (win2_17.blk t).view.emb (ix3 s r k) = (ix3 (seq t s) r k : S32x64x512.Idx) := emb9 t s r k
theorem arr9 (R : FVec Ideal S32x64x512 .bf16) (hB : ∀ i j, (V c (Pipeline.arrRef spec2 8) : FVec Ideal S256x256 .bf16) (ix2 i j) = (if i.val / 64 = j.val / 64 then 1 else 0 : EReal))
    (hR : ∀ b t (h : Fin 8) (d : Fin 64), R (ix3 b t (hcol h d)) = hrmsAt (fun e => arrP V c b t (pcol 0 (hcol h e))) d * (V c (Pipeline.arrRef spec2 4) : FVec Ideal S1x512 .f32) (ix2 0 (hcol h d)) * Ideal.ofBits FTy.f32 0x3E000000#32)
    : (dat2 V c).arrAt 9 cfg2.N = R := by
  refine (dat2 V c).arrAt_eq_of_covers 9 _ (by decide +kernel) fun t hf y => ?_
  blk_simp
  rw [after2_9]
  obtain ⟨s, r, w, rfl⟩ : ∃ s r w, y = ix3 s r w := ⟨y 0, y 1, y 2, (ix3_eta y).symm⟩
  obtain ⟨h, d, rfl⟩ := exists_hcol w
  rw [out9 _ _ _ _ _ _ _ _ _ (by rw [f8]; exact hB), emb9]
  simp only [bp_eq, f4, f5, f6, f7]
  exact (hR _ _ _ _).symm
theorem arr10 (R : FVec Ideal S32x64x512 .f32) (hB : ∀ i j, (V c (Pipeline.arrRef spec2 8) : FVec Ideal S256x256 .bf16) (ix2 i j) = (if i.val / 64 = j.val / 64 then 1 else 0 : EReal))
    (hR : ∀ b t (h : Fin 8) (d : Fin 64), R (ix3 b t (hcol h d)) = hrmsAt (fun e => arrP V c b t (pcol 1 (hcol h e))) d * (V c (Pipeline.arrRef spec2 5) : FVec Ideal S1x512 .f32) (ix2 0 (hcol h d)))
    : (dat2 V c).arrAt 10 cfg2.N = R := by
  refine (dat2 V c).arrAt_eq_of_covers 10 _ (by decide +kernel) fun t hf y => ?_
  blk_simp
  rw [after2_10]
  obtain ⟨s, r, w, rfl⟩ : ∃ s r w, y = ix3 s r w := ⟨y 0, y 1, y 2, (ix3_eta y).symm⟩
  obtain ⟨h, d, rfl⟩ := exists_hcol w
  rw [out10 _ _ _ _ _ _ _ _ _ (by rw [f8]; exact hB), emb10]
  simp only [bp_eq, f4, f5, f6, f7]
  exact (hR _ _ _ _).symm
theorem arr11 (R : FVec Ideal S32x64x512 .bf16) (hB : ∀ i j, (V c (Pipeline.arrRef spec2 8) : FVec Ideal S256x256 .bf16) (ix2 i j) = (if i.val / 64 = j.val / 64 then 1 else 0 : EReal))
    (hR : ∀ b t (h : Fin 8) (d : Fin 64), R (ix3 b t (hcol h d)) = hrmsAt (fun e => arrP V c b t (pcol 1 (hcol h e))) d * (V c (Pipeline.arrRef spec2 5) : FVec Ideal S1x512 .f32) (ix2 0 (hcol h d)))
    : (dat2 V c).arrAt 11 cfg2.N = R := by
  refine (dat2 V c).arrAt_eq_of_covers 11 _ (by decide +kernel) fun t hf y => ?_
  blk_simp
  rw [after2_11]
  obtain ⟨s, r, w, rfl⟩ : ∃ s r w, y = ix3 s r w := ⟨y 0, y 1, y 2, (ix3_eta y).symm⟩
  obtain ⟨h, d, rfl⟩ := exists_hcol w
  rw [out11, out10 _ _ _ _ _ _ _ _ _ (by rw [f8]; exact hB), emb11]
  simp only [bp_eq, f4, f5, f6, f7]
  exact (hR _ _ _ _).symm
theorem arr12 (R : FVec Ideal S32x64x512 .f32) (hR : ∀ b t w, R (ix3 b t w) = arrP V c b t (pcol 2 w))
    : (dat2 V c).arrAt 12 cfg2.N = R := by
  refine (dat2 V c).arrAt_eq_of_covers 12 _ (by decide +kernel) fun t hf y => ?_
  blk_simp
  rw [after2_12]
  obtain ⟨s, r, w, rfl⟩ : ∃ s r w, y = ix3 s r w := ⟨y 0, y 1, y 2, (ix3_eta y).symm⟩
  rw [out12, emb12]
  simp only [bp_eq, f4, f5, f6, f7]
  exact (hR _ _ _).symm
theorem arr13 (R : FVec Ideal S32x64x512 .bf16) (hR : ∀ b t w, R (ix3 b t w) = arrP V c b t (pcol 2 w))
    : (dat2 V c).arrAt 13 cfg2.N = R := by
  refine (dat2 V c).arrAt_eq_of_covers 13 _ (by decide +kernel) fun t hf y => ?_
  blk_simp
  rw [after2_13]
  obtain ⟨s, r, w, rfl⟩ : ∃ s r w, y = ix3 s r w := ⟨y 0, y 1, y 2, (ix3_eta y).symm⟩
  rw [out13, emb13]
  simp only [bp_eq, f4, f5, f6, f7]
  exact (hR _ _ _).symm
theorem arr14 (R : FVec Ideal S32x64x512 .bf16) (hR : ∀ b t (h : Fin 4) (d : Fin 128), R (ix3 b t (col h d)) = (arrP V c b t (pcol 3 (col h d)) * (V c (Pipeline.arrRef spec2 6) : FVec Ideal S64x128 .f32) (ix2 t d)
      + arrP V c b t (pcol 3 (col h (half d))) * (V c (Pipeline.arrRef spec2 7) : FVec Ideal S64x128 .f32) (ix2 t d) : EReal))
    : (dat2 V c).arrAt 14 cfg2.N = R := by
  refine (dat2 V c).arrAt_eq_of_covers 14 _ (by decide +kernel) fun t hf y => ?_
  blk_simp
  rw [after2_14]
  obtain ⟨s, r, w, rfl⟩ : ∃ s r w, y = ix3 s r w := ⟨y 0, y 1, y 2, (ix3_eta y).symm⟩
  obtain ⟨h, d, rfl⟩ := exists_col w
  rw [out14, emb14]
  simp only [bp_eq, f4, f5, f6, f7]
  exact (hR _ _ _ _).symm
theorem arr15 (R : FVec Ideal S32x64x512 .bf16) (hR : ∀ b t (h : Fin 4) (d : Fin 128), R (ix3 b t (col h d)) = (arrP V c b t (pcol 4 (col h d)) * (V c (Pipeline.arrRef spec2 6) : FVec Ideal S64x128 .f32) (ix2 t d)
      + arrP V c b t (pcol 4 (col h (half d))) * (V c (Pipeline.arrRef spec2 7) : FVec Ideal S64x128 .f32) (ix2 t d) : EReal) * Ideal.ofBits FTy.f32 0x3DB504F3#32)
    : (dat2 V c).arrAt 15 cfg2.N = R := by
  refine (dat2 V c).arrAt_eq_of_covers 15 _ (by decide +kernel) fun t hf y => ?_
  blk_simp
  rw [after2_15]
  obtain ⟨s, r, w, rfl⟩ : ∃ s r w, y = ix3 s r w := ⟨y 0, y 1, y 2, (ix3_eta y).symm⟩
  obtain ⟨h, d, rfl⟩ := exists_col w
  rw [out15, emb15]
  simp only [bp_eq, f4, f5, f6, f7]
  exact (hR _ _ _ _).symm
theorem arr16 (R : FVec Ideal S32x64x512 .bf16) (hR : ∀ b t w, R (ix3 b t w) = arrP V c b t (pcol 5 w))
    : (dat2 V c).arrAt 16 cfg2.N = R := by
  refine (dat2 V c).arrAt_eq_of_covers 16 _ (by decide +kernel) fun t hf y => ?_
  blk_simp
  rw [after2_16]
  obtain ⟨s, r, w, rfl⟩ : ∃ s r w, y = ix3 s r w := ⟨y 0, y 1, y 2, (ix3_eta y).symm⟩
  rw [out16, emb16]
  simp only [bp_eq, f4, f5, f6, f7]
  exact (hR _ _ _).symm
theorem arr17 (R : FVec Ideal S32x64x512 .bf16) (hR : ∀ b t w, R (ix3 b t w) = silu (arrP V c b t (pcol 6 w)))
    : (dat2 V c).arrAt 17 cfg2.N = R := by
  refine (dat2 V c).arrAt_eq_of_covers 17 _ (by decide +kernel) fun t hf y => ?_
  blk_simp
  rw [after2_17]
  obtain ⟨s, r, w, rfl⟩ : ∃ s r w, y = ix3 s r w := ⟨y 0, y 1, y 2, (ix3_eta y).symm⟩
  rw [out17, emb17]
  simp only [bp_eq, f4, f5, f6, f7]
  exact (hR _ _ _).symm
end region
end Cert.Kernel2Ideal.Proj
-- ==== Proof.ProjRes.lean ====
module
public import proofs.«01_k».proof.Proof.ProjArr
@[expose] public section
set_option maxRecDepth 16384
noncomputable section
/-! The projection call's arrays are the reference's. -/
namespace Cert.Kernel2Ideal.Proj
open Cert.Kernel2Ideal Cert.Kernel2Ideal.Gen Idealize.ShloMosaic Idealize.ShloMosaic.TcCoe Idealize.SL.Sem
open Cert.Reference2Ideal.Read Cert.ChainMath Cert.RetMath

variable (m : (ℓ : Loc nD τ sig) → Buf (Elt Ideal) ℓ) (ρ : Dev nD → PrngReg) (c : Dev nD)
/-- A reference the tables' later segments leave alone. -/
theorem W9_W5 (r : Ref sig .tc) (h1 : r ∉ hostOps2_1_W) (h2 : r ∉ hostOps2_2_W) (h3 : r ∉ hostOps2_3_W) (h4 : r ∉ hostOps2_4_W) :
    W9 m ρ c (Proc.devRef .tc r) = W5 m ρ c (Proc.devRef .tc r) :=
  (((W9_of m ρ c r h4).trans (W8_of m ρ c r h3)).trans (W7_of m ρ c r h2)).trans (W6_of m ρ c r h1)

theorem projRow_congr {x x' g g' sh sh' sc sc' : Fin 1024 → EReal} {w w' : Fin 1024 → Fin 3584 → EReal} (hx : ∀ k, x k = x' k) (hg : ∀ k, g k = g' k)
    (hs : ∀ k, sh k = sh' k) (hc : ∀ k, sc k = sc' k) (hw : ∀ k j, w k j = w' k j) (j : Fin 3584) : projRow x g sh sc w j = projAt (normAt x' g' sh' sc') w' j := by
  rw [funext hx, funext hg, funext hs, funext hc, funext fun k => funext (hw k)]
  rfl
/-- The kernel's projected rows are the reference's. -/
theorem P_eq (b : Fin 32) (t : Fin 64) : arrP (V9 m ρ) c b t = Cert.ProjRef.P (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b t := by
  funext j
  unfold Cert.ProjRef.P
  rw [Cert.ProjRef.proj]
  have h0 : V9 m ρ c (Pipeline.arrRef spec2 0) = val_main_v54 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
    ((W9_W5 m ρ c main_v16 (by decide) (by decide) (by decide) (by decide)).trans (W5_of m ρ c main_v16 (by decide))).trans (Chain.x_eq m ρ c)
  have h1 : V9 m ρ c (Pipeline.arrRef spec2 1) = W3 m ρ c main_v9 :=
    ((W9_W5 m ρ c main_v9 (by decide) (by decide) (by decide) (by decide)).trans (W5_of m ρ c main_v9 (by decide))).trans (W4_of m ρ c main_v9 (by decide))
  have h2 : V9 m ρ c (Pipeline.arrRef spec2 2) = W5 m ρ c main_v35 := W9_W5 m ρ c main_v35 (by decide) (by decide) (by decide) (by decide)
  have h3 : V9 m ρ c (Pipeline.arrRef spec2 3) = W5 m ρ c main_v37 := W9_W5 m ρ c main_v37 (by decide) (by decide) (by decide) (by decide)
  unfold arrP Cert.ProjRef.mixRow
  exact projRow_congr (fun k => congrFun h0 _) (fun k => ((congrFun h2 _).trans (gain_eq m ρ c k)).trans (congrFun (W4_args m ρ c main_arg7 (by decide)) _))
    (fun k => (congrFun h1 _).trans (Chain.mod_eq m ρ c b 3 k)) (fun k => (congrFun h1 _).trans (Chain.mod_eq m ρ c b 4 k))
    (fun k j => ((congrFun h3 _).trans (win_eq m ρ c k j)).trans (congrFun (W4_args m ρ c main_arg10 (by decide)) _)) j

theorem qg_eq (h : Fin 8) (d : Fin 64) : (V9 m ρ c (Pipeline.arrRef spec2 4) : FVec Ideal S1x512 .f32) (ix2 0 (hcol h d)) =
    (m ((c : Thread nD τ).loc main_arg11) : FVec Ideal S1x64 .f32) (ix2 0 d) :=
  ((congrFun (W9_W5 m ρ c main_v42 (by decide) (by decide) (by decide) (by decide)) _).trans (qgain_eq m ρ c h d)).trans
    (congrFun (W4_args m ρ c main_arg11 (by decide)) _)
theorem kg_eq (h : Fin 8) (d : Fin 64) : (V9 m ρ c (Pipeline.arrRef spec2 5) : FVec Ideal S1x512 .f32) (ix2 0 (hcol h d)) =
    (m ((c : Thread nD τ).loc main_arg12) : FVec Ideal S1x64 .f32) (ix2 0 d) :=
  ((congrFun (W9_W5 m ρ c main_v47 (by decide) (by decide) (by decide) (by decide)) _).trans (kgain_eq m ρ c h d)).trans
    (congrFun (W4_args m ρ c main_arg12 (by decide)) _)
theorem C_eq (t : Fin 64) (d : Fin 128) : (V9 m ρ c (Pipeline.arrRef spec2 6) : FVec Ideal S64x128 .f32) (ix2 t d) =
    if h : d.val < 64 then Cert.ProjRef.cs t ⟨d.val, h⟩ else Cert.ProjRef.cs t ⟨d.val - 64, by omega⟩ :=
  (congrFun (W9_W5 m ρ c main_v31 (by decide) (by decide) (by decide) (by decide)) _).trans (cos_eq m ρ c t d)
theorem S_eq (t : Fin 64) (d : Fin 128) : (V9 m ρ c (Pipeline.arrRef spec2 7) : FVec Ideal S64x128 .f32) (ix2 t d) =
    (if h : d.val < 64 then -Cert.ProjRef.sn t ⟨d.val, h⟩ else Cert.ProjRef.sn t ⟨d.val - 64, by omega⟩ : EReal) :=
  (congrFun (W9_W5 m ρ c main_v33 (by decide) (by decide) (by decide) (by decide)) _).trans (sin_eq m ρ c t d)
theorem turn (x : Fin 128 → EReal) (t : Fin 64) (d : Fin 128) :
    x d * (V9 m ρ c (Pipeline.arrRef spec2 6) : FVec Ideal S64x128 .f32) (ix2 t d) + x (half d) * (V9 m ρ c (Pipeline.arrRef spec2 7) : FVec Ideal S64x128 .f32) (ix2 t d)
      = rotAt x (Cert.ProjRef.cs t) (Cert.ProjRef.sn t) d :=
  rot_eq x (fun d => (V9 m ρ c (Pipeline.arrRef spec2 6) : FVec Ideal S64x128 .f32) (ix2 t d)) (fun d => (V9 m ρ c (Pipeline.arrRef spec2 7) : FVec Ideal S64x128 .f32) (ix2 t d))
    _ _ d (C_eq m ρ c t d) (S_eq m ρ c t d)

/-- Four heads laid side by side. -/
def flat (X : FVec Ideal Cert.Reference2Ideal.S32x64x4x128 .f32) : FVec Ideal S32x64x512 .bf16 := fun i =>
  X (ix4 (i 0) (i 1) ⟨(i 2).val / 128, Nat.div_lt_of_lt_mul (show (i 2).val < 128 * 4 from (i 2).isLt)⟩ ⟨(i 2).val % 128, Nat.mod_lt _ (by decide)⟩)
theorem flat_col (X : FVec Ideal Cert.Reference2Ideal.S32x64x4x128 .f32) (b : Fin 32) (t : Fin 64) (h : Fin 4) (d : Fin 128) : flat X (ix3 b t (col h d)) = X (ix4 b t h d) :=
  congrArg₂ (fun h d => X (ix4 b t h d)) (col_div h d _) (col_mod h d _)

theorem q_res : W10 m ρ c main_v54_0 = val_main_v277 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 9).trans (arr9 (V9 m ρ) c _ (ind_eq m ρ c) fun b t h d => ?_)
  rw [P_eq, qg_eq]
  exact Cert.ProjRef.q _ _ _ _ _ _ _ _ _ _ b t h d
theorem k_res : W10 m ρ c main_v54_1 = val_main_v276 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) := by
  refine (W10_arr m ρ c 10).trans (arr10 (V9 m ρ) c _ (ind_eq m ρ c) fun b t h d => ?_)
  rw [P_eq, kg_eq]
  exact Cert.ProjRef.k _ _ _ _ _ _ _ _ _ _ b t h d
theorem kb_res : W10 m ρ c main_v54_2 = val_main_v276 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) := by
  refine (W10_arr m ρ c 11).trans (arr11 (V9 m ρ) c _ (ind_eq m ρ c) fun b t h d => ?_)
  rw [P_eq, kg_eq]
  exact Cert.ProjRef.k _ _ _ _ _ _ _ _ _ _ b t h d
theorem v_res : W10 m ρ c main_v54_3 = val_main_v81 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 12).trans (arr12 (V9 m ρ) c _ fun b t w => ?_)
  rw [P_eq]
  exact Cert.ProjRef.v _ _ _ _ _ _ _ _ _ b t w
theorem vb_res : W10 m ρ c main_v54_4 = val_main_v81 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 13).trans (arr13 (V9 m ρ) c _ fun b t w => ?_)
  rw [P_eq]
  exact Cert.ProjRef.v _ _ _ _ _ _ _ _ _ b t w
theorem rq_res : W10 m ρ c main_v54_5 = flat (val_main_v145 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W10_arr m ρ c 14).trans (arr14 (V9 m ρ) c _ fun b t h d => ?_)
  refine ((flat_col _ b t h d).trans (Cert.ProjRef.rq _ _ _ _ _ _ _ _ _ b t h d)).trans ?_
  rw [P_eq]
  exact (turn m ρ c _ t d).symm
theorem rk_res : W10 m ρ c main_v54_6 = flat (val_main_v177 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W10_arr m ρ c 15).trans (arr15 (V9 m ρ) c _ fun b t h d => ?_)
  refine ((flat_col _ b t h d).trans (Cert.ProjRef.rk _ _ _ _ _ _ _ _ _ b t h d)).trans ?_
  rw [P_eq]
  exact congrArg (· * _) (turn m ρ c _ t d).symm
theorem rv_res : W10 m ρ c main_v54_7 = flat (val_main_v178 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W10_arr m ρ c 16).trans (arr16 (V9 m ρ) c _ fun b t w => ?_)
  obtain ⟨h, d, rfl⟩ := exists_col w
  refine ((flat_col _ b t h d).trans (Cert.ProjRef.rv _ _ _ _ _ _ _ _ _ b t h d)).trans ?_
  rw [P_eq]
theorem rg_res : W10 m ρ c main_v54_8 = val_main_v254 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 17).trans (arr17 (V9 m ρ) c _ fun b t w => ?_)
  rw [P_eq]
  exact Cert.ProjRef.rg _ _ _ _ _ _ _ _ _ b t w
end Cert.Kernel2Ideal.Proj
-- ==== Proof.Ret2Body.lean ====
module
public import proofs.«01_k».proof.Proof.Gen.Kernel2Ideal.Frame
public import proofs.«01_k».proof.Proof.RetMath
public import Idealize.ShloMosaic.Lib.Pipeline.ReadBack
public import Idealize.ShloMosaic.Lib.Pipeline.ValueKit
@[expose] public section
set_option maxRecDepth 16384
noncomputable section
/-! What one grid point of the retention call writes: the rows of its sequence and the state after its chunk. -/
namespace Cert.Kernel2Ideal.RetValue
open Cert.Kernel2Ideal Cert.Kernel2Ideal.Gen Idealize.ShloMosaic Idealize.ShloMosaic.TcCoe Idealize.SL.Sem
open Idealize.ShloMosaic.Pipeline (Dat)
open scoped BigOperators
open Cert.RetMath

abbrev Blk : Type := FVec Ideal S1x64x512 .bf16

section heads
variable (q k v g : Vec Ideal S1x64x128 .bf16) (S : Vec Ideal S1x128x128 .f32) (dm : Vec Ideal S1x64x64 .f32)
  (qd kd : Vec Ideal S1x64x128 .f32) (cd : Vec Ideal S1x1x128 .f32)

/-- A head's output block, as the first head computes it. -/
def headO : FVec Ideal S1x64x128 .bf16 := k3_pay12 (k3_pay8 q k v dm) (k3_pay9 q S qd) g
/-- A head's new state, as the first head computes it. -/
def headS : FVec Ideal S1x128x128 .f32 := k3_pay11 (k3_pay7 S) (k3_pay10 k v kd) cd

theorem head1 : k3_pay19 (k3_pay18 (k3_pay13 q) k v S dm qd) g = headO q k v g S dm qd := rfl
theorem head2 : k3_pay28 (k3_pay26 (k3_pay20 q) (k3_pay22 v) (k3_pay23 S) (k3_pay24 q k) dm qd)
    (k3_pay27 (k3_pay20 q) (k3_pay22 v) (k3_pay23 S) (k3_pay24 q k) dm qd) (FloatOps.ofBits FTy.f32 897988541#32) g
      = headO q k v g S dm qd := rfl
theorem head3 : k3_pay1 (k3_pay37 (k3_pay33 q k v dm) (k3_pay34 q qd) (k3_pay35 S) g) = headO q k v g S dm qd := rfl
theorem state1 : k3_pay17 k v S kd cd = headS k v S kd cd := rfl
theorem state2 : k3_pay25 (k3_pay21 k) (k3_pay22 v) (k3_pay23 S) kd cd = headS k v S kd cd := rfl
theorem state3 : k3_pay36 (k3_pay30 k) (k3_pay31 v) (k3_pay32 S) kd cd = headS k v S kd cd := rfl

theorem headO_apply (i : Fin 64) (e : Fin 128) :
    headO q k v g S dm qd (ix3 0 i e) = g (ix3 0 i e) * normed (mixAt (fun i d => q (ix3 0 i d)) (fun i d => k (ix3 0 i d))
      (fun i d => v (ix3 0 i d)) (fun d e => S (ix3 0 d e)) (fun i j => dm (ix3 0 i j)) (fun i d => qd (ix3 0 i d)) i) e := by
  unfold headO
  have h8 : ∀ e, k3_pay8 q k v dm (ix2 i e) + k3_pay9 q S qd (ix2 i e) = mixAt (fun i d => q (ix3 0 i d)) (fun i d => k (ix3 0 i d))
      (fun i d => v (ix3 0 i d)) (fun d e => S (ix3 0 d e)) (fun i j => dm (ix3 0 i j)) (fun i d => qd (ix3 0 i d)) i e := by
    intro e
    unfold mixAt
    pointwise [k3_pay8, k3_pay9, k3_pay4, k3_pay5, k3_pay6, k3_pay7]
  pointwise [k3_pay12]
  simp only [h8]
  rfl

theorem headS_apply (d e : Fin 128) :
    headS k v S kd cd (ix3 0 d e) = stateAt (fun i d => k (ix3 0 i d)) (fun i d => v (ix3 0 i d)) (fun d e => S (ix3 0 d e))
      (fun i d => kd (ix3 0 i d)) (fun e => cd (ix3 0 0 e)) d e := by
  unfold headS stateAt
  pointwise [k3_pay11, k3_pay7, k3_pay10, k3_pay5, k3_pay6]
end heads

/-- The scratch after its four stores, or before any, as the one array of states. -/
theorem pay3_apply (s : Vec Ideal S1x4x128x128 .f32) (h : Fin 4) (d e : Fin 128) : k3_pay3 s (ix3 h d e) = s (ix4 0 h d e) := by
  pointwise [k3_pay3]
theorem pay2_apply (s : Vec Ideal S4x128x128 .f32) (h : Fin 4) (d e : Fin 128) : k3_pay2 s (ix4 0 h d e) = s (ix3 h d e) := by
  pointwise [k3_pay2]

variable (V : (c : Dev nD) → (b : Ref sig .tc) → Buf (Elt Ideal) ((c : Thread nD τ).loc b))
section blocks
variable (q k v g : FVec Ideal S1x64x512 .bf16) (s : FVec Ideal S1x4x128x128 .f32) (dm : FVec Ideal S4x64x64 .f32)
  (qd kd : FVec Ideal S4x64x128 .f32) (cd : FVec Ideal S4x1x128 .f32)
/-- The rows a grid point writes, column `w` of row `i`. -/
def outRow (h : Fin 4) (i : Fin 64) (e : Fin 128) : EReal :=
  g (ix3 0 i (col h e)) * normed (mixAt (fun i d => q (ix3 0 i (col h d))) (fun i d => k (ix3 0 i (col h d)))
      (fun i d => v (ix3 0 i (col h d))) (fun d e => s (ix4 0 h d e)) (fun i j => dm (ix3 h i j)) (fun i d => qd (ix3 h i d)) i) e
def outBlk (y : S1x64x512.Idx) : EReal :=
  outRow q k v g s dm qd ⟨(y 2).val / 128, Nat.div_lt_of_lt_mul (y 2).isLt⟩ (y 1) ⟨(y 2).val % 128, Nat.mod_lt _ (by decide)⟩
def stBlk (h : Fin 4) (d e : Fin 128) : EReal :=
  stateAt (fun i d => k (ix3 0 i (col h d))) (fun i d => v (ix3 0 i (col h d))) (fun d e => s (ix4 0 h d e))
      (fun i d => kd (ix3 h i d)) (fun e => cd (ix3 h 0 e)) d e

theorem outBlk_col (h : Fin 4) (i : Fin 64) (e : Fin 128) : outBlk q k v g s dm qd (ix3 0 i (col h e)) = outRow q k v g s dm qd h i e := by
  unfold outBlk
  congr 1
  · apply Fin.ext; show (h.val * 128 + e.val) / 128 = h.val; omega
  · apply Fin.ext; show (h.val * 128 + e.val) % 128 = e.val; omega

/-- A head's block read off its own columns and tables is its part of the rows. -/
theorem headO_eq (h : Fin 4) (q' k' v' g' : Vec Ideal S1x64x128 .bf16) (S' : Vec Ideal S1x128x128 .f32) (dm' : Vec Ideal S1x64x64 .f32)
    (qd' : Vec Ideal S1x64x128 .f32)
    (hq : ∀ i d, q' (ix3 0 i d) = q (ix3 0 i (col h d))) (hk : ∀ i d, k' (ix3 0 i d) = k (ix3 0 i (col h d)))
    (hv : ∀ i d, v' (ix3 0 i d) = v (ix3 0 i (col h d))) (hg : ∀ i d, g' (ix3 0 i d) = g (ix3 0 i (col h d)))
    (hS : ∀ d e, S' (ix3 0 d e) = s (ix4 0 h d e)) (hdm : ∀ i j, dm' (ix3 0 i j) = dm (ix3 h i j))
    (hqd : ∀ i d, qd' (ix3 0 i d) = qd (ix3 h i d)) (o : Nat) (ho : o = h.val * 128) (p) (x : S1x64x128.Idx) :
    headO q' k' v' g' S' dm' qd' x = outBlk q k v g s dm qd ((Rect.unit (s := S1x64x512) ![0, 0, o] ![1, 64, 128] p).emb x) := by
  have h1 : ((Rect.unit (s := S1x64x512) ![0, 0, o] ![1, 64, 128] p).emb x 1 : ℕ) = x 1 :=
    (ValueKit.rect_emb_unit_val (s := S1x64x512) _ _ p x 1).trans (Nat.zero_add _)
  have h2 : ((Rect.unit (s := S1x64x512) ![0, 0, o] ![1, 64, 128] p).emb x 2 : ℕ) = h.val * 128 + x 2 :=
    (ValueKit.rect_emb_unit_val (s := S1x64x512) _ _ p x 2).trans (by rw [← ho]; rfl)
  generalize (Rect.unit (s := S1x64x512) ![0, 0, o] ![1, 64, 128] p).emb x = y at h1 h2 ⊢
  obtain ⟨z, i, e, rfl⟩ : ∃ z i e, x = ix3 z i e := ⟨x 0, x 1, x 2, (ix3_eta x).symm⟩
  obtain ⟨z', i', w, rfl⟩ : ∃ z i e, y = ix3 z i e := ⟨y 0, y 1, y 2, (ix3_eta y).symm⟩
  obtain rfl : z = 0 := Subsingleton.elim _ _
  obtain rfl : z' = 0 := Subsingleton.elim _ _
  obtain rfl : i' = i := Fin.ext h1
  obtain rfl : w = col h e := Fin.ext h2
  rw [headO_apply, outBlk_col]
  simp only [hq, hk, hv, hg, hS, hdm, hqd]
  rfl

theorem headS_eq (h : Fin 4) (k' v' : Vec Ideal S1x64x128 .bf16) (S' : Vec Ideal S1x128x128 .f32)
    (kd' : Vec Ideal S1x64x128 .f32) (cd' : Vec Ideal S1x1x128 .f32)
    (hk : ∀ i d, k' (ix3 0 i d) = k (ix3 0 i (col h d)))
    (hv : ∀ i d, v' (ix3 0 i d) = v (ix3 0 i (col h d)))
    (hS : ∀ d e, S' (ix3 0 d e) = s (ix4 0 h d e))
    (hkd : ∀ i d, kd' (ix3 0 i d) = kd (ix3 h i d)) (hcd : ∀ e, cd' (ix3 0 0 e) = cd (ix3 h 0 e)) (p) (x : S1x128x128.Idx) :
    headS k' v' S' kd' cd' x = (fun y : S4x128x128.Idx => stBlk k v s kd cd (y 0) (y 1) (y 2))
      ((Rect.unit (s := S4x128x128) ![h.val, 0, 0] ![1, 128, 128] p).emb x) := by
  have h0 : ((Rect.unit (s := S4x128x128) ![h.val, 0, 0] ![1, 128, 128] p).emb x 0 : ℕ) = h.val + x 0 :=
    (ValueKit.rect_emb_unit_val (s := S4x128x128) _ _ p x 0)
  have h1 : ((Rect.unit (s := S4x128x128) ![h.val, 0, 0] ![1, 128, 128] p).emb x 1 : ℕ) = x 1 :=
    (ValueKit.rect_emb_unit_val (s := S4x128x128) _ _ p x 1).trans (Nat.zero_add _)
  have h2 : ((Rect.unit (s := S4x128x128) ![h.val, 0, 0] ![1, 128, 128] p).emb x 2 : ℕ) = x 2 :=
    (ValueKit.rect_emb_unit_val (s := S4x128x128) _ _ p x 2).trans (Nat.zero_add _)
  generalize (Rect.unit (s := S4x128x128) ![h.val, 0, 0] ![1, 128, 128] p).emb x = y at h0 h1 h2 ⊢
  obtain ⟨z, i, e, rfl⟩ : ∃ z i e, x = ix3 z i e := ⟨x 0, x 1, x 2, (ix3_eta x).symm⟩
  obtain ⟨h', i', w, rfl⟩ : ∃ z i e, y = ix3 z i e := ⟨y 0, y 1, y 2, (ix3_eta y).symm⟩
  obtain rfl : z = 0 := Subsingleton.elim _ _
  obtain rfl : h' = h := Fin.ext h0
  obtain rfl : i' = i := Fin.ext h1
  obtain rfl : w = e := Fin.ext h2
  rw [headS_apply]
  simp only [hk, hv, hS, hkd, hcd]
  rfl

/-- A window of columns of the rows. -/
theorem ld_rows (X : S1x64x512.Idx → Elt Ideal .bf16) (o : Nat) (h : Fin 4) (ho : o = h.val * 128) (p) (i : Fin 64) (d : Fin 128) :
    View.ld (Val := Elt Ideal) (e' := .bf16) X (Rect.unit ![0, 0, o] ![1, 64, 128] p) (ix3 0 i d) = X (ix3 0 i (col h d)) := by
  apply View.ld_unit_apply_of
  intro a
  match a with
  | 0 => rfl
  | 1 => show i.val = 0 + i.val; omega
  | 2 => show h.val * 128 + d.val = o + d.val; omega

/-- One head's plane of a table. -/
theorem ld_plane {n1 n2 : Nat} (X : (⟨3, ![4, n1, n2]⟩ : Shape).Idx → Elt Ideal .f32) (h : Fin 4) (p) (i : Fin n1) (d : Fin n2) :
    View.ld (Val := Elt Ideal) (e' := .f32) X (Rect.unit ![h.val, 0, 0] ![1, n1, n2] p) (ix3 0 i d) = X (ix3 h i d) := by
  apply View.ld_unit_apply_of
  intro a
  match a with
  | 0 => show h.val = h.val + 0; omega
  | 1 => show i.val = 0 + i.val; omega
  | 2 => show d.val = 0 + d.val; omega

end blocks

/-- The column window that holds an index. -/
theorem mem_rows (o : Nat) (p) (y : S1x64x512.Idx) (h0 : o ≤ (y 2).val) (h1 : (y 2).val < o + 128) :
    y ∈ (Rect.unit (s := S1x64x512) ![0, 0, o] ![1, 64, 128] p).set := by
  rw [Rect.mem_set_unit]
  intro a
  match a with
  | 0 => exact ⟨Nat.zero_le _, (y 0).isLt⟩
  | 1 => exact ⟨Nat.zero_le _, by have := (y 1).isLt; simpa using this⟩
  | 2 => exact ⟨h0, h1⟩

/-- The plane that holds an index. -/
theorem mem_plane (h : Fin 4) (p) (y : S4x128x128.Idx) (h0 : (y 0) = h) :
    y ∈ (Rect.unit (s := S4x128x128) ![h.val, 0, 0] ![1, 128, 128] p).set := by
  rw [Rect.mem_set_unit]
  intro a
  match a with
  | 0 => exact ⟨by rw [h0]; exact le_refl _, by rw [h0]; exact Nat.lt_succ_self _⟩
  | 1 => exact ⟨Nat.zero_le _, by have := (y 1).isLt; simpa using this⟩
  | 2 => exact ⟨Nat.zero_le _, by have := (y 2).isLt; simpa using this⟩

theorem o_eq (c : Dev nD) (t : Fin cfg3.N) : (outsAt3 V c t).1 =
    outBlk (iblk3 V c 0 t) (iblk3 V c 1 t) (iblk3 V c 2 t) (iblk3 V c 3 t) (iblk3 V c 4 t) (iblk3 V c 5 t) (iblk3 V c 6 t) := by
  unfold outsAt3; dsimp only
  frame_open
  simp (disch := decide) only [↓ View.readCov_skip, ↓ View.readCov_cons_toLoadRect, ↓ View.readCov_fill]
  frame_out
  simp only [head1, head2, head3, show k3_pay12 (k3_pay8 _ _ _ _) (k3_pay9 _ _ _) _ = headO _ _ _ _ _ _ _ from rfl]
  funext y
  refine View.canon_apply_of_pieces _ _ (View.PiecesOf.mem ?_) y ?_
  refine ⟨?_, ?_, ?_, ?_, trivial⟩
  · intro x
    refine headO_eq _ _ _ _ _ _ _ 3 _ _ _ _ _ _ _ (ld_rows _ _ 3 rfl _) (ld_rows _ _ 3 rfl _) (ld_rows _ _ 3 rfl _) (ld_rows _ _ 3 rfl _)
      (fun d e => (ld_plane _ 3 _ d e).trans (pay3_apply _ 3 d e)) (ld_plane _ 3 _) (ld_plane _ 3 _) 384 rfl
      inb_S1x64x512_S1x64x128_0_0_384 x
  · intro x
    refine headO_eq _ _ _ _ _ _ _ 2 _ _ _ _ _ _ _ (ld_rows _ _ 2 rfl _) (ld_rows _ _ 2 rfl _) (ld_rows _ _ 2 rfl _) (ld_rows _ _ 2 rfl _)
      (fun d e => (ld_plane _ 2 _ d e).trans (pay3_apply _ 2 d e)) (ld_plane _ 2 _) (ld_plane _ 2 _) 256 rfl
      inb_S1x64x512_S1x64x128_0_0_256 x
  · intro x
    refine headO_eq _ _ _ _ _ _ _ 1 _ _ _ _ _ _ _ (ld_rows _ _ 1 rfl _) (ld_rows _ _ 1 rfl _) (ld_rows _ _ 1 rfl _) (ld_rows _ _ 1 rfl _)
      (fun d e => (ld_plane _ 1 _ d e).trans (pay3_apply _ 1 d e)) (ld_plane _ 1 _) (ld_plane _ 1 _) 128 rfl
      inb_S1x64x512_S1x64x128_0_0_128 x
  · intro x
    refine headO_eq _ _ _ _ _ _ _ 0 _ _ _ _ _ _ _ (ld_rows _ _ 0 rfl _) (ld_rows _ _ 0 rfl _) (ld_rows _ _ 0 rfl _) (ld_rows _ _ 0 rfl _)
      (fun d e => (ld_plane _ 0 _ d e).trans (pay3_apply _ 0 d e)) (ld_plane _ 0 _) (ld_plane _ 0 _) 0 rfl
      inb_S1x64x512_S1x64x128_0_0_0 x
  · have hy : (y 2).val < 512 := (y 2).isLt
    rcases Nat.lt_or_ge (y 2).val 128 with h | h
    · exact ⟨_, .tail _ (.tail _ (.tail _ (.head _))), mem_rows 0 inb_S1x64x512_S1x64x128_0_0_0 y (Nat.zero_le _) (by omega)⟩
    rcases Nat.lt_or_ge (y 2).val 256 with h' | h'
    · exact ⟨_, .tail _ (.tail _ (.head _)), mem_rows 128 inb_S1x64x512_S1x64x128_0_0_128 y h (by omega)⟩
    rcases Nat.lt_or_ge (y 2).val 384 with h'' | h''
    · exact ⟨_, .tail _ (.head _), mem_rows 256 inb_S1x64x512_S1x64x128_0_0_256 y h' (by omega)⟩
    · exact ⟨_, .head _, mem_rows 384 inb_S1x64x512_S1x64x128_0_0_384 y h'' (by omega)⟩

/-- A scratch written whole by one store and then by four that cover it holds what the four wrote. -/
theorem scratch4 (G : S4x128x128.Idx → Elt Ideal .f32) (p1 p2 p3 p4 p5 : View.Piece (Elt Ideal) S4x128x128 .f32)
    (h1 : ∀ x, p1.2 x = G (p1.1.emb x)) (h2 : ∀ x, p2.2 x = G (p2.1.emb x)) (h3 : ∀ x, p3.2 x = G (p3.1.emb x))
    (h4 : ∀ x, p4.2 x = G (p4.1.emb x)) (y : S4x128x128.Idx) (hc : ∃ p ∈ [p1, p2, p3, p4], y ∈ p.1.set) :
    View.canon [p1, p2, p3, p4, p5] y = G y :=
  View.canon_append_of_piecesOf G [p5] [p1, p2, p3, p4] ⟨h1, h2, h3, h4, trivial⟩ y hc

theorem s_eq (c : Dev nD) (t : Fin cfg3.N) (h : Fin 4) (d e : Fin 128) : (outsAt3 V c t).2 (ix4 0 h d e) =
    stBlk (iblk3 V c 1 t) (iblk3 V c 2 t) (iblk3 V c 4 t) (iblk3 V c 7 t) (iblk3 V c 8 t) h d e := by
  unfold outsAt3; dsimp only
  frame_open
  simp (disch := decide) only [↓ View.readCov_skip, ↓ View.readCov_cons_toLoadRect, ↓ View.readCov_fill]
  frame_out
  simp only [state1, state2, state3, show k3_pay11 (k3_pay7 _) (k3_pay10 _ _ _) _ = headS _ _ _ _ _ from rfl]
  rw [pay2_apply, View.readCov_eq_canon']
  refine (congrFun (View.ld_unit_lit (Val := Elt Ideal) (e := .f32) (S := S4x128x128) _ (View.canon _) (by decide)) _).trans ?_
  refine scratch4 (fun y => stBlk (iblk3 V c 1 t) (iblk3 V c 2 t) (iblk3 V c 4 t) (iblk3 V c 7 t) (iblk3 V c 8 t) (y 0) (y 1) (y 2))
    _ _ _ _ _ ?_ ?_ ?_ ?_ (ix3 h d e) ?_
  · intro x
    refine headS_eq _ _ _ _ _ 3 _ _ _ _ _ (ld_rows _ _ 3 rfl _) (ld_rows _ _ 3 rfl _)
      (fun d e => (ld_plane _ 3 _ d e).trans (pay3_apply _ 3 d e)) (ld_plane _ 3 _) (ld_plane _ 3 _ 0)
      inb_S4x128x128_S1x128x128_3_0_0 x
  · intro x
    refine headS_eq _ _ _ _ _ 2 _ _ _ _ _ (ld_rows _ _ 2 rfl _) (ld_rows _ _ 2 rfl _)
      (fun d e => (ld_plane _ 2 _ d e).trans (pay3_apply _ 2 d e)) (ld_plane _ 2 _) (ld_plane _ 2 _ 0)
      inb_S4x128x128_S1x128x128_2_0_0 x
  · intro x
    refine headS_eq _ _ _ _ _ 1 _ _ _ _ _ (ld_rows _ _ 1 rfl _) (ld_rows _ _ 1 rfl _)
      (fun d e => (ld_plane _ 1 _ d e).trans (pay3_apply _ 1 d e)) (ld_plane _ 1 _) (ld_plane _ 1 _ 0)
      inb_S4x128x128_S1x128x128_1_0_0 x
  · intro x
    refine headS_eq _ _ _ _ _ 0 _ _ _ _ _ (ld_rows _ _ 0 rfl _) (ld_rows _ _ 0 rfl _)
      (fun d e => (ld_plane _ 0 _ d e).trans (pay3_apply _ 0 d e)) (ld_plane _ 0 _) (ld_plane _ 0 _ 0)
      inb_S4x128x128_S1x128x128_0_0_0 x
  · match h with
    | 0 => exact ⟨_, .tail _ (.tail _ (.tail _ (.head _))), mem_plane 0 inb_S4x128x128_S1x128x128_0_0_0 _ rfl⟩
    | 1 => exact ⟨_, .tail _ (.tail _ (.head _)), mem_plane 1 inb_S4x128x128_S1x128x128_1_0_0 _ rfl⟩
    | 2 => exact ⟨_, .tail _ (.head _), mem_plane 2 inb_S4x128x128_S1x128x128_2_0_0 _ rfl⟩
    | 3 => exact ⟨_, .head _, mem_plane 3 inb_S4x128x128_S1x128x128_3_0_0 _ rfl⟩
-- ==== Proof.Ret2Value.lean ====
module
public import proofs.«01_k».proof.Proof.Ret2Body
public import Idealize.ShloMosaic.Lib.Claim
@[expose] public section
set_option maxRecDepth 16384
noncomputable section
/-! The two arrays the retention call leaves, at an index. -/
namespace Cert.Kernel2Ideal.RetValue
open Cert.Kernel2Ideal Cert.Kernel2Ideal.Gen Idealize.ShloMosaic Idealize.ShloMosaic.TcCoe Idealize.SL.Sem
open Idealize.ShloMosaic.Pipeline (Dat)
open scoped BigOperators
open Cert.RetMath
variable (V : (c : Dev nD) → (b : Ref sig .tc) → Buf (Elt Ideal) ((c : Thread nD τ).loc b))

/-- Sequence `b`'s rows of an array of rows. -/
def rowsOf (X : FVec Ideal S32x64x512 .bf16) (b : Fin 32) : FVec Ideal S1x64x512 .bf16 := fun y => X (ix3 b (y 1) (y 2))
/-- Sequence `b`'s state. -/
def stOf (X : FVec Ideal S32x4x128x128 .f32) (b : Fin 32) : FVec Ideal S1x4x128x128 .f32 := fun y => X (ix4 b (y 1) (y 2) (y 3))

variable (c : Dev nD)
/-- The two results, as functions of the call's operands. -/
def oArrOf (q k v g : FVec Ideal S32x64x512 .bf16) (s : FVec Ideal S32x4x128x128 .f32) (dm : FVec Ideal S4x64x64 .f32)
    (qd : FVec Ideal S4x64x128 .f32) (i : S32x64x512.Idx) : EReal :=
  outBlk (rowsOf q (i 0)) (rowsOf k (i 0)) (rowsOf v (i 0)) (rowsOf g (i 0)) (stOf s (i 0)) dm qd (ix3 0 (i 1) (i 2))
def sArrOf (k v : FVec Ideal S32x64x512 .bf16) (s : FVec Ideal S32x4x128x128 .f32) (kd : FVec Ideal S4x64x128 .f32)
    (cd : FVec Ideal S4x1x128 .f32) (i : S32x4x128x128.Idx) : EReal :=
  stBlk (rowsOf k (i 0)) (rowsOf v (i 0)) (stOf s (i 0)) kd cd (i 1) (i 2) (i 3)

def oArr : S32x64x512.Idx → EReal :=
  oArrOf (V c (Pipeline.arrRef spec3 0)) (V c (Pipeline.arrRef spec3 1)) (V c (Pipeline.arrRef spec3 2)) (V c (Pipeline.arrRef spec3 3)) (V c (Pipeline.arrRef spec3 4))
    (V c (Pipeline.arrRef spec3 5)) (V c (Pipeline.arrRef spec3 6))
def sArr : S32x4x128x128.Idx → EReal :=
  sArrOf (V c (Pipeline.arrRef spec3 1)) (V c (Pipeline.arrRef spec3 2)) (V c (Pipeline.arrRef spec3 4)) (V c (Pipeline.arrRef spec3 7)) (V c (Pipeline.arrRef spec3 8))

theorem idx0 : ∀ t : Fin grid3.N, win3_0.index t = ![t.val, 0, 0] := by decide +kernel
theorem idx1 : ∀ t : Fin grid3.N, win3_1.index t = ![t.val, 0, 0] := by decide +kernel
theorem idx2 : ∀ t : Fin grid3.N, win3_2.index t = ![t.val, 0, 0] := by decide +kernel
theorem idx3 : ∀ t : Fin grid3.N, win3_3.index t = ![t.val, 0, 0] := by decide +kernel
theorem idx9 : ∀ t : Fin grid3.N, win3_9.index t = ![t.val, 0, 0] := by decide +kernel
theorem idx4 : ∀ t : Fin grid3.N, win3_4.index t = ![t.val, 0, 0, 0] := by decide +kernel
theorem idx10 : ∀ t : Fin grid3.N, win3_10.index t = ![t.val, 0, 0, 0] := by decide +kernel
theorem idx5 : ∀ t : Fin grid3.N, win3_5.index t = ![0, 0, 0] := by decide +kernel
theorem idx6 : ∀ t : Fin grid3.N, win3_6.index t = ![0, 0, 0] := by decide +kernel
theorem idx7 : ∀ t : Fin grid3.N, win3_7.index t = ![0, 0, 0] := by decide +kernel
theorem idx8 : ∀ t : Fin grid3.N, win3_8.index t = ![0, 0, 0] := by decide +kernel
theorem blk0 (t : Fin cfg3.N) : iblk3 V c 0 t = rowsOf (V c (Pipeline.arrRef spec3 0)) t := by
  funext y
  blk_ext [iblk3, rowsOf, idx0 t]
theorem blk1 (t : Fin cfg3.N) : iblk3 V c 1 t = rowsOf (V c (Pipeline.arrRef spec3 1)) t := by
  funext y
  blk_ext [iblk3, rowsOf, idx1 t]
theorem blk2 (t : Fin cfg3.N) : iblk3 V c 2 t = rowsOf (V c (Pipeline.arrRef spec3 2)) t := by
  funext y
  blk_ext [iblk3, rowsOf, idx2 t]
theorem blk3 (t : Fin cfg3.N) : iblk3 V c 3 t = rowsOf (V c (Pipeline.arrRef spec3 3)) t := by
  funext y
  blk_ext [iblk3, rowsOf, idx3 t]
theorem blk4 (t : Fin cfg3.N) : iblk3 V c 4 t = stOf (V c (Pipeline.arrRef spec3 4)) t := by
  funext y
  blk_ext [iblk3, stOf, idx4 t]
theorem blk5 (t : Fin cfg3.N) : iblk3 V c 5 t = V c (Pipeline.arrRef spec3 5) := by
  funext y
  blk_ext [iblk3, idx5 t]
theorem blk6 (t : Fin cfg3.N) : iblk3 V c 6 t = V c (Pipeline.arrRef spec3 6) := by
  funext y
  blk_ext [iblk3, idx6 t]
theorem blk7 (t : Fin cfg3.N) : iblk3 V c 7 t = V c (Pipeline.arrRef spec3 7) := by
  funext y
  blk_ext [iblk3, idx7 t]
theorem blk8 (t : Fin cfg3.N) : iblk3 V c 8 t = V c (Pipeline.arrRef spec3 8) := by
  funext y
  blk_ext [iblk3, idx8 t]

theorem emb9 (t : Fin cfg3.N) (y) : (win3_9.blk t).view.emb y = (ix3 (t : Fin 32) (y 1 : Fin 64) (y 2 : Fin 512) : S32x64x512.Idx) := by
  funext a
  match a with
  | 0 => exact Fin.ext (by blk_simp [idx9 t])
  | 1 => exact Fin.ext (by blk_simp [idx9 t])
  | 2 => exact Fin.ext (by blk_simp [idx9 t])
theorem emb10 (t : Fin cfg3.N) (y) : (win3_10.blk t).view.emb y = (ix4 (t : Fin 32) (y 1 : Fin 4) (y 2 : Fin 128) (y 3 : Fin 128) : S32x4x128x128.Idx) := by
  funext a
  match a with
  | 0 => exact Fin.ext (by blk_simp [idx10 t])
  | 1 => exact Fin.ext (by blk_simp [idx10 t])
  | 2 => exact Fin.ext (by blk_simp [idx10 t])
  | 3 => exact Fin.ext (by blk_simp [idx10 t])

theorem outBlk_emb (t : Fin 32) (q k v g : FVec Ideal S32x64x512 .bf16) (s dm qd) (y : S1x64x512.Idx) :
    outBlk (rowsOf q t) (rowsOf k t) (rowsOf v t) (rowsOf g t) (stOf s t) dm qd y =
      oArrOf q k v g s dm qd (ix3 t (y 1) (y 2)) := rfl

theorem outs9 (t : Fin cfg3.N) (y : S1x64x512.Idx) : (outsAt3 V c t).1 y = oArr V c (ix3 (t : Fin 32) (y 1) (y 2)) := by
  rw [o_eq, blk0, blk1, blk2, blk3, blk4, blk5, blk6]
  exact outBlk_emb _ _ _ _ _ _ _ _ y

theorem o_arr : (dat3 V c).arrAt 9 cfg3.N = oArr V c := by
  refine (dat3 V c).arrAt_eq_of_covers 9 _ (by decide +kernel) fun t hf y => ?_
  blk_simp
  rw [after3_9, emb9]
  exact outs9 V c t y

theorem s_eq' (t : Fin cfg3.N) (y : S1x4x128x128.Idx) : (outsAt3 V c t).2 y =
    stBlk (iblk3 V c 1 t) (iblk3 V c 2 t) (iblk3 V c 4 t) (iblk3 V c 7 t) (iblk3 V c 8 t) (y 1) (y 2) (y 3) := by
  obtain ⟨z, h, d, e, rfl⟩ : ∃ z h d e, y = ix4 z h d e := ⟨y 0, y 1, y 2, y 3, (ix4_eta y).symm⟩
  obtain rfl : z = 0 := Subsingleton.elim _ _
  exact s_eq V c t h d e

theorem outs10 (t : Fin cfg3.N) (y : S1x4x128x128.Idx) : (outsAt3 V c t).2 y = sArr V c (ix4 (t : Fin 32) (y 1) (y 2) (y 3)) := by
  rw [s_eq', blk1, blk2, blk4, blk7, blk8]
  rfl

theorem s_arr : (dat3 V c).arrAt 10 cfg3.N = sArr V c := by
  refine (dat3 V c).arrAt_eq_of_covers 10 _ (by decide +kernel) fun t hf y => ?_
  blk_simp
  rw [after3_10, emb10]
  exact outs10 V c t y
-- ==== Proof.Ret2Tables.lean ====
module
public import proofs.«01_k».proof.Proof.Ret2Value
public import proofs.«01_k».proof.Proof.Gen.Reference2Ideal.Read
public import Idealize.ShloMosaic.Lib.StableHlo.ReadAt
@[expose] public section
set_option maxRecDepth 16384
noncomputable section
/-! The tables the retention call's host code makes are the reference's decays. -/
namespace Cert.Kernel2Ideal.RetValue
open Cert.Kernel2Ideal Cert.Kernel2Ideal.Gen Idealize.ShloMosaic Idealize.ShloMosaic.TcCoe Idealize.SL.Sem
variable (m : (ℓ : Loc nD τ sig) → Buf (Elt Ideal) ℓ) (ρ : Dev nD → PrngReg) (c : Dev nD)

open Cert.Reference2Ideal.Read
theorem dm_eq (h i j) : (V13 m ρ c (Pipeline.arrRef spec3 5) : Vec Ideal S4x64x64 .f32) (ix3 h i j) = val_main_v205 (F := Ideal) (ix3 h i j) := by
  show StableHlo.after hostOps3_2 (W12 m ρ c) main_v81 _ = _
  after_reads_at
  pointwise [val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_call2_v2, val_main_call2_v1, val_main_call2_v0, val_main_cst_19, val_main_cst_20, val_main_cst_21, val_main_cst_22, val_main_cst_23]

theorem qd_eq (h i d) : (V13 m ρ c (Pipeline.arrRef spec3 6) : Vec Ideal S4x64x128 .f32) (ix3 h i d) = val_main_v213 (F := Ideal) (ix2 i h) := by
  show StableHlo.after hostOps3_2 (W12 m ρ c) main_v93 _ = _
  after_reads_at
  pointwise [val_main_v213, val_main_v212, val_main_v211, val_main_v210, val_main_v209, val_main_v208, val_main_v207, val_main_v206, val_main_v188, val_main_v187, val_main_v186, val_main_v185, val_main_v184, val_main_v183, val_main_v182, val_main_v181, val_main_v180, val_main_cst_19, val_main_cst_20, val_main_cst_24]

theorem kd_eq (h i d) : (V13 m ρ c (Pipeline.arrRef spec3 7) : Vec Ideal S4x64x128 .f32) (ix3 h i d) = val_main_v221 (F := Ideal) (ix2 i h) := by
  show StableHlo.after hostOps3_2 (W12 m ρ c) main_v104 _ = _
  after_reads_at
  pointwise [val_main_v221, val_main_v220, val_main_v219, val_main_v218, val_main_v217, val_main_v216, val_main_v215, val_main_v214, val_main_v188, val_main_v187, val_main_v186, val_main_v185, val_main_v184, val_main_v183, val_main_v182, val_main_v181, val_main_v180, val_main_cst_19, val_main_cst_20, val_main_cst_25]

theorem cd_eq (h z d) : (V13 m ρ c (Pipeline.arrRef spec3 8) : Vec Ideal S4x1x128 .f32) (ix3 h z d) = val_main_v224 (F := Ideal) (ix1 h) := by
  show StableHlo.after hostOps3_2 (W12 m ρ c) main_v111 _ = _
  after_reads_at
  pointwise [val_main_v224, val_main_v223, val_main_v222, val_main_v187, val_main_v186, val_main_v185, val_main_v184, val_main_v183, val_main_v182, val_main_v181, val_main_v180, val_main_cst_19, val_main_cst_20, val_main_cst_26]

theorem st_eq (b : Fin 32) (h : Fin 4) (d e : Fin 128) : (V13 m ρ c (Pipeline.arrRef spec3 4) : Vec Ideal S32x4x128x128 .f32) (ix4 b h d e) = (W10 m ρ c main_arg1 : Vec Ideal S1x32x4x128x128 .f32) (ix5 0 b h d e) := by
  show StableHlo.after hostOps3_2 (W12 m ρ c) main_v55 _ = _
  after_reads_at
end Cert.Kernel2Ideal.RetValue
-- ==== Proof.Ret2Ref.lean ====
module
public import proofs.«01_k».proof.Proof.Gen.Reference2Ideal.Read
public import proofs.«01_k».proof.Proof.RetMath
@[expose] public section
set_option maxRecDepth 16384
noncomputable section
/-! The retention's two results in the longer reference, at an index, in the plain sums of `RetMath`. -/
namespace Cert.Ret2Ref
open Cert.Reference2Ideal Cert.Reference2Ideal.Gen Idealize.ShloMosaic Idealize.ShloMosaic.TcCoe Idealize.SL.Sem
open Cert.Reference2Ideal.Read Cert.RetMath
open scoped BigOperators
variable (x0 : (⟨S32x64x1024, .f32⟩ : BufTy).Contents (Elt Ideal)) (x1 : (⟨S1x32x4x128x128, .f32⟩ : BufTy).Contents (Elt Ideal)) (x3 : (⟨S32x1024, .f32⟩ : BufTy).Contents (Elt Ideal))
  (x4 : (⟨S1x1024x9216, .f32⟩ : BufTy).Contents (Elt Ideal)) (x5 : (⟨S1x9216, .f32⟩ : BufTy).Contents (Elt Ideal))
  (x6 x7 : (⟨S1x1024, .f32⟩ : BufTy).Contents (Elt Ideal)) (x8 : (⟨S1x1024x5632, .f32⟩ : BufTy).Contents (Elt Ideal))
  (x9 : (⟨S1x2816x1024, .f32⟩ : BufTy).Contents (Elt Ideal)) (x10 : (⟨S1x1024x3584, .f32⟩ : BufTy).Contents (Elt Ideal)) (b : Fin 32) (h : Fin 4)

/-- The rotated queries and keys, and the values, of one head of one sequence. -/
def Q (i : Fin 64) (d : Fin 128) : EReal := val_main_v145 (F := Ideal) x0 x3 x4 x5 x6 x7 x8 x9 x10 (ix4 b i h d)
def K (i : Fin 64) (d : Fin 128) : EReal := val_main_v177 (F := Ideal) x0 x3 x4 x5 x6 x7 x8 x9 x10 (ix4 b i h d)
def V (i : Fin 64) (d : Fin 128) : EReal := val_main_v178 (F := Ideal) x0 x3 x4 x5 x6 x7 x8 x9 x10 (ix4 b i h d)

theorem scores (i j : Fin 64) : val_main_v231 (F := Ideal) x0 x3 x4 x5 x6 x7 x8 x9 x10 (ix5 b 0 h i j) =
    (∑ d, Q x0 x3 x4 x5 x6 x7 x8 x9 x10 b h i d * K x0 x3 x4 x5 x6 x7 x8 x9 x10 b h j d) * val_main_v205 (F := Ideal) (ix3 h i j) := by
  pointwise [val_main_v231, val_main_v230, val_main_v229, val_main_v228, val_main_v226, val_main_v225]
  rfl

theorem mixed (i : Fin 64) (e : Fin 128) : val_main_v253 (F := Ideal) x0 x1 x3 x4 x5 x6 x7 x8 x9 x10 (ix4 b i h e) =
    mixAt (Q x0 x3 x4 x5 x6 x7 x8 x9 x10 b h) (K x0 x3 x4 x5 x6 x7 x8 x9 x10 b h) (V x0 x3 x4 x5 x6 x7 x8 x9 x10 b h) (fun d e => x1 (ix5 0 b h d e)) (fun i j => val_main_v205 (F := Ideal) (ix3 h i j))
      (fun i _ => val_main_v213 (F := Ideal) (ix2 i h)) i e := by
  unfold mixAt
  pointwise [val_main_v253, val_main_v252, val_main_v233, val_main_v232, val_main_v251, val_main_v245, val_main_v244, val_main_v243,
    val_main_v242, val_main_v241, val_main_v240, val_main_v239, val_main_v227, val_main_v225, val_main_v179]
  refine congrArg₂ (· + ·) (Finset.sum_congr rfl fun j _ => ?_) (Finset.sum_congr rfl fun d _ => ?_)
  · rw [scores, mul_comm]; rfl
  · rw [mul_comm]; rfl

theorem state (d e : Fin 128) : val_main_v250 (F := Ideal) x0 x1 x3 x4 x5 x6 x7 x8 x9 x10 (ix4 b h d e) =
    stateAt (K x0 x3 x4 x5 x6 x7 x8 x9 x10 b h) (V x0 x3 x4 x5 x6 x7 x8 x9 x10 b h) (fun d e => x1 (ix5 0 b h d e)) (fun i _ => val_main_v221 (F := Ideal) (ix2 i h))
      (fun _ => val_main_v224 (F := Ideal) (ix1 h)) d e := by
  unfold stateAt
  pointwise [val_main_v250, val_main_v249, val_main_v248, val_main_v247, val_main_v246, val_main_v238, val_main_v237, val_main_v236, val_main_v235,
    val_main_v234, val_main_v227, val_main_v226, val_main_v179]
  rfl

theorem out (i : Fin 64) (e : Fin 128) : val_main_v280 (F := Ideal) x0 x1 x3 x4 x5 x6 x7 x8 x9 x10 (ix3 b i (col h e)) =
    val_main_v254 (F := Ideal) x0 x3 x4 x5 x6 x7 x8 x9 x10 (ix3 b i (col h e)) * normed (mixAt (Q x0 x3 x4 x5 x6 x7 x8 x9 x10 b h) (K x0 x3 x4 x5 x6 x7 x8 x9 x10 b h) (V x0 x3 x4 x5 x6 x7 x8 x9 x10 b h) (fun d e => x1 (ix5 0 b h d e))
      (fun i j => val_main_v205 (F := Ideal) (ix3 h i j)) (fun i _ => val_main_v213 (F := Ideal) (ix2 i h)) i) e := by
  unfold normed centred
  pointwise [val_main_v280, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_cst_27, val_main_cst_28, val_main_cst_29, val_main_cst_30, val_main_cst_31]
  simp only [col_div, col_mod, mixed, Ideal.ofBits_zero, zero_add]
end Cert.Ret2Ref
-- ==== Proof.Stream.lean ====
module
public import proofs.«01_k».proof.Defs
public import proofs.«01_k».proof.Proof.Gen.Reference2Ideal.Run
public import proofs.«01_k».proof.Proof.ChainRun
public import proofs.«01_k».proof.Proof.ProjRes
public import proofs.«01_k».proof.Proof.Ret2Tables
public import proofs.«01_k».proof.Proof.Ret2Ref
@[expose] public section
set_option maxRecDepth 16384
noncomputable section
/-! The chain of calls and the reference's lines leave the same eight arrays. -/
namespace Cert.Kernel2Ideal.Chain
open Cert.Kernel2Ideal Cert.Kernel2Ideal.Gen Idealize.ShloMosaic Idealize.ShloMosaic.TcCoe Idealize.SL.Sem
open Cert.RetMath Cert.Reference2Ideal.Read Cert.Kernel2Ideal.RetValue

section ret
variable (x0 : (⟨S32x64x1024, .f32⟩ : BufTy).Contents (Elt Ideal)) (x1 : (⟨S1x32x4x128x128, .f32⟩ : BufTy).Contents (Elt Ideal)) (x3 : (⟨S32x1024, .f32⟩ : BufTy).Contents (Elt Ideal))
  (x4 : (⟨S1x1024x9216, .f32⟩ : BufTy).Contents (Elt Ideal)) (x5 : (⟨S1x9216, .f32⟩ : BufTy).Contents (Elt Ideal))
  (x6 x7 : (⟨S1x1024, .f32⟩ : BufTy).Contents (Elt Ideal)) (x8 : (⟨S1x1024x5632, .f32⟩ : BufTy).Contents (Elt Ideal))
  (x9 : (⟨S1x2816x1024, .f32⟩ : BufTy).Contents (Elt Ideal)) (x10 : (⟨S1x1024x3584, .f32⟩ : BufTy).Contents (Elt Ideal))
  (q k v g : FVec Ideal S32x64x512 .bf16) (s : FVec Ideal S32x4x128x128 .f32)
  (hk : ∀ b i h d, k (ix3 b i (col h d)) = val_main_v177 (F := Ideal) x0 x3 x4 x5 x6 x7 x8 x9 x10 (ix4 b i h d))
  (hv : ∀ b i h d, v (ix3 b i (col h d)) = val_main_v178 (F := Ideal) x0 x3 x4 x5 x6 x7 x8 x9 x10 (ix4 b i h d))
  (hs : ∀ b h d e, s (ix4 b h d e) = x1 (ix5 0 b h d e))
include hk hv hs
theorem oArrOf_eq (dm : FVec Ideal S4x64x64 .f32) (qd : FVec Ideal S4x64x128 .f32)
    (hq : ∀ b i h d, q (ix3 b i (col h d)) = val_main_v145 (F := Ideal) x0 x3 x4 x5 x6 x7 x8 x9 x10 (ix4 b i h d))
    (hg : g = val_main_v254 (F := Ideal) x0 x3 x4 x5 x6 x7 x8 x9 x10)
    (hdm : ∀ h i j, dm (ix3 h i j) = val_main_v205 (F := Ideal) (ix3 h i j)) (hqd : ∀ h i d, qd (ix3 h i d) = val_main_v213 (F := Ideal) (ix2 i h)) :
    oArrOf q k v g s dm qd = val_main_v280 (F := Ideal) x0 x1 x3 x4 x5 x6 x7 x8 x9 x10 := by
  funext i
  obtain ⟨b, r, w, rfl⟩ : ∃ b r w, i = ix3 b r w := ⟨i 0, i 1, i 2, (ix3_eta i).symm⟩
  obtain ⟨h, e, rfl⟩ := exists_col w
  refine Eq.trans ?_ (Cert.Ret2Ref.out x0 x1 x3 x4 x5 x6 x7 x8 x9 x10 b h r e).symm
  refine (outBlk_col _ _ _ _ _ _ _ h r e).trans ?_
  show g (ix3 b r (col h e)) * normed (mixAt (fun i d => q (ix3 b i (col h d))) (fun i d => k (ix3 b i (col h d)))
    (fun i d => v (ix3 b i (col h d))) (fun d e => s (ix4 b h d e)) (fun i j => dm (ix3 h i j)) (fun i d => qd (ix3 h i d)) r) e = _
  simp only [hq, hk, hv, hs, hdm, hqd, hg]
  rfl

theorem sArrOf_eq (kd : FVec Ideal S4x64x128 .f32) (cd : FVec Ideal S4x1x128 .f32) (hkd : ∀ h i d, kd (ix3 h i d) = val_main_v221 (F := Ideal) (ix2 i h))
    (hcd : ∀ h z e, cd (ix3 h z e) = val_main_v224 (F := Ideal) (ix1 h)) :
    sArrOf k v s kd cd = val_main_v250 (F := Ideal) x0 x1 x3 x4 x5 x6 x7 x8 x9 x10 := by
  funext i
  obtain ⟨b, h, d, e, rfl⟩ : ∃ b h d e, i = ix4 b h d e := ⟨i 0, i 1, i 2, i 3, (ix4_eta i).symm⟩
  refine Eq.trans ?_ (Cert.Ret2Ref.state x0 x1 x3 x4 x5 x6 x7 x8 x9 x10 b h d e).symm
  show stateAt (fun i d => k (ix3 b i (col h d))) (fun i d => v (ix3 b i (col h d))) (fun d e => s (ix4 b h d e))
      (fun i d => kd (ix3 h i d)) (fun e => cd (ix3 h 0 e)) d e = _
  simp only [hk, hv, hs, hkd, hcd]
  rfl
end ret

variable (m : (ℓ : Loc nD τ sig) → Buf (Elt Ideal) ℓ) (ρ : Dev nD → PrngReg) (c : Dev nD)
/-- A reference the retention's tables leave alone. -/
theorem W13_W10 (r : Ref sig .tc) (h1 : r ∉ hostOps3_W) (h2 : r ∉ hostOps3_1_W) (h3 : r ∉ hostOps3_2_W) :
    W13 m ρ c (Proc.devRef .tc r) = W10 m ρ c (Proc.devRef .tc r) :=
  ((W13_of m ρ c r h3).trans (W12_of m ρ c r h2)).trans (W11_of m ρ c r h1)
theorem W14_W10 (r : Ref sig .tc) (h0 : ∀ w : Fin cfg3.W, Pipeline.arrRef spec3 w = r → (cfg3.win w).isOut = false)
    (h1 : r ∉ hostOps3_W) (h2 : r ∉ hostOps3_1_W) (h3 : r ∉ hostOps3_2_W) :
    W14 m ρ c (Proc.devRef .tc r) = W10 m ρ c (Proc.devRef .tc r) :=
  (W14_of m ρ c r h0).trans (W13_W10 m ρ c r h1 h2 h3)

theorem rq_at (b : Fin 32) (i : Fin 64) (h : Fin 4) (d : Fin 128) : (V13 m ρ c (Pipeline.arrRef spec3 0) : FVec Ideal S32x64x512 .bf16) (ix3 b i (col h d)) =
    val_main_v145 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 b i h d) :=
  (congrFun ((W13_W10 m ρ c main_v54_5 (by decide) (by decide) (by decide)).trans (Proj.rq_res m ρ c)) _).trans (Proj.flat_col _ b i h d)
theorem rk_at (b : Fin 32) (i : Fin 64) (h : Fin 4) (d : Fin 128) : (V13 m ρ c (Pipeline.arrRef spec3 1) : FVec Ideal S32x64x512 .bf16) (ix3 b i (col h d)) =
    val_main_v177 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 b i h d) :=
  (congrFun ((W13_W10 m ρ c main_v54_6 (by decide) (by decide) (by decide)).trans (Proj.rk_res m ρ c)) _).trans (Proj.flat_col _ b i h d)
theorem rv_at (b : Fin 32) (i : Fin 64) (h : Fin 4) (d : Fin 128) : (V13 m ρ c (Pipeline.arrRef spec3 2) : FVec Ideal S32x64x512 .bf16) (ix3 b i (col h d)) =
    val_main_v178 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 b i h d) :=
  (congrFun ((W13_W10 m ρ c main_v54_7 (by decide) (by decide) (by decide)).trans (Proj.rv_res m ρ c)) _).trans (Proj.flat_col _ b i h d)
theorem rg_at : V13 m ρ c (Pipeline.arrRef spec3 3) = val_main_v254 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W13_W10 m ρ c main_v54_8 (by decide) (by decide) (by decide)).trans (Proj.rg_res m ρ c)
theorem st_at (b : Fin 32) (h : Fin 4) (d e : Fin 128) : (V13 m ρ c (Pipeline.arrRef spec3 4) : FVec Ideal S32x4x128x128 .f32) (ix4 b h d e) =
    ((m ((c : Thread nD τ).loc main_arg1)) : FVec Ideal S1x32x4x128x128 .f32) (ix5 0 b h d e) :=
  (st_eq m ρ c b h d e).trans (congrFun (W10_args m ρ c main_arg1 (by decide)) _)

theorem x_end : W14 m ρ c main_v16 = val_main_v54 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
  ((((W14_W10 m ρ c main_v16 (by decide) (by decide) (by decide) (by decide)).trans (W10_of m ρ c main_v16 (by decide))).trans
    (Proj.W9_W5 m ρ c main_v16 (by decide) (by decide) (by decide) (by decide))).trans (W5_of m ρ c main_v16 (by decide))).trans (x_eq m ρ c)
theorem o_end : W14 m ρ c main_v112_0 = val_main_v280 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W14_arr m ρ c 9).trans (o_arr (V13 m ρ) c)).trans ?_
  unfold oArr
  exact oArrOf_eq _ _ _ _ _ _ _ _ _ _ _ _ _ _ _ (rk_at m ρ c) (rv_at m ρ c) (st_at m ρ c) _ _ (rq_at m ρ c) (rg_at m ρ c) (dm_eq m ρ c) (qd_eq m ρ c)
theorem s_end : W14 m ρ c main_v112_1 = val_main_v250 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W14_arr m ρ c 10).trans (s_arr (V13 m ρ) c)).trans ?_
  unfold sArr
  exact sArrOf_eq _ _ _ _ _ _ _ _ _ _ _ _ _ (rk_at m ρ c) (rv_at m ρ c) (st_at m ρ c) _ _ (kd_eq m ρ c) (cd_eq m ρ c)

theorem algebraic [Cert.Kernel2Ideal.Facts] [Cert.Reference2Ideal.Facts] : Cert.algebraic_Kernel2Ideal_Reference2Ideal := by
  intro m g m' g' _ hargs
  refine ⟨fun c => W14 m g c main_v16, fun c => W14 m g c main_v54_0, fun c => W14 m g c main_v54_1, fun c => W14 m g c main_v54_2, fun c => W14 m g c main_v54_3, fun c => W14 m g c main_v54_4, fun c => W14 m g c main_v112_0, fun c => W14 m g c main_v112_1, ?_, ?_⟩
  · refine (θ_run _ _ _).mono (fun r h c => ?_) (run_contents (F := Ideal) m g)
    exact ⟨h c _ (mem_uc main_v16 (by decide)),
      h c _ (mem_uc main_v54_0 (by decide)),
      h c _ (mem_uc main_v54_1 (by decide)),
      h c _ (mem_uc main_v54_2 (by decide)),
      h c _ (mem_uc main_v54_3 (by decide)),
      h c _ (mem_uc main_v54_4 (by decide)),
      h c _ (mem_uc main_v112_0 (by decide)),
      h c _ (mem_uc main_v112_1 (by decide)),
      (h c _ (mem_uc main_arg0 (by decide))).trans (W14_main_arg0 m g c),
      (h c _ (mem_uc main_arg1 (by decide))).trans (W14_main_arg1 m g c),
      (h c _ (mem_uc main_arg2 (by decide))).trans (W14_main_arg2 m g c),
      (h c _ (mem_uc main_arg3 (by decide))).trans (W14_main_arg3 m g c),
      (h c _ (mem_uc main_arg4 (by decide))).trans (W14_main_arg4 m g c),
      (h c _ (mem_uc main_arg5 (by decide))).trans (W14_main_arg5 m g c),
      (h c _ (mem_uc main_arg6 (by decide))).trans (W14_main_arg6 m g c),
      (h c _ (mem_uc main_arg7 (by decide))).trans (W14_main_arg7 m g c),
      (h c _ (mem_uc main_arg8 (by decide))).trans (W14_main_arg8 m g c),
      (h c _ (mem_uc main_arg9 (by decide))).trans (W14_main_arg9 m g c),
      (h c _ (mem_uc main_arg10 (by decide))).trans (W14_main_arg10 m g c),
      (h c _ (mem_uc main_arg11 (by decide))).trans (W14_main_arg11 m g c),
      (h c _ (mem_uc main_arg12 (by decide))).trans (W14_main_arg12 m g c)⟩
  · refine (θ_run _ _ _).mono (fun r h c => ?_) (Cert.Reference2Ideal.Value.run (F := Ideal) m' g')
    obtain ⟨h0, h1, h2, h3, h4, h5, h6, h7, hh⟩ := h c
    obtain ⟨a0, a1, a2, a3, a4, a5, a6, a7, a8, a9, a10, a11, a12⟩ := hargs c
    refine ⟨h0.trans ?_, h1.trans ?_, h2.trans ?_, h3.trans ?_, h4.trans ?_, h5.trans ?_, h6.trans ?_, h7.trans ?_, hh⟩
    · refine Eq.trans ?_ (x_end m g c).symm
      refine (val_main_v54_eq _).trans ?_
      show val_main_v54 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) = _
      rw [a0, a3, a4, a5, a6, a8, a9]
    · refine Eq.trans ?_ ((W14_W10 m g c main_v54_0 (by decide) (by decide) (by decide) (by decide)).trans (Proj.q_res m g c)).symm
      refine (val_main_v277_eq _).trans ?_
      show val_main_v277 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
      rw [a0, a3, a4, a5, a6, a7, a8, a9, a10, a11]
    · refine Eq.trans ?_ ((W14_W10 m g c main_v54_1 (by decide) (by decide) (by decide) (by decide)).trans (Proj.k_res m g c)).symm
      refine (val_main_v276_eq _).trans ?_
      show val_main_v276 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg12)) = _
      rw [a0, a3, a4, a5, a6, a7, a8, a9, a10, a12]
    · refine Eq.trans ?_ ((W14_W10 m g c main_v54_2 (by decide) (by decide) (by decide) (by decide)).trans (Proj.kb_res m g c)).symm
      refine (val_main_v278_eq _).trans ?_
      show val_main_v278 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg12)) = _
      rw [a0, a3, a4, a5, a6, a7, a8, a9, a10, a12]
      rfl
    · refine Eq.trans ?_ ((W14_W10 m g c main_v54_3 (by decide) (by decide) (by decide) (by decide)).trans (Proj.v_res m g c)).symm
      refine (val_main_v81_eq _).trans ?_
      show val_main_v81 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
      rw [a0, a3, a4, a5, a6, a7, a8, a9, a10]
    · refine Eq.trans ?_ ((W14_W10 m g c main_v54_4 (by decide) (by decide) (by decide) (by decide)).trans (Proj.vb_res m g c)).symm
      refine (val_main_v279_eq _).trans ?_
      show val_main_v279 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
      rw [a0, a3, a4, a5, a6, a7, a8, a9, a10]
      rfl
    · refine Eq.trans ?_ (o_end m g c).symm
      refine (val_main_v280_eq _).trans ?_
      show val_main_v280 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
      rw [a0, a1, a3, a4, a5, a6, a7, a8, a9, a10]
    · refine Eq.trans ?_ (s_end m g c).symm
      refine (val_main_v250_eq _).trans ?_
      show val_main_v250 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
      rw [a0, a1, a3, a4, a5, a6, a7, a8, a9, a10]
end Cert.Kernel2Ideal.Chain
-- ==== Proof.MixBlock.lean ====
module
public import proofs.«01_k».proof.Proof.Gen.Kernel3Ideal.Value
public import proofs.«01_k».proof.Proof.ChainMath
public import Idealize.ShloMosaic.Lib.Pointwise
public import Idealize.ShloMosaic.Lib.Pipeline.ReadBack
public import Idealize.ShloMosaic.Lib.Pipeline.ValueKit
public import Idealize.ShloMosaic.Lib.Claim
public import Idealize.ShloMosaic.Lib.StableHlo.ReadAt
@[expose] public section
set_option maxRecDepth 16384
noncomputable section
/-! What the last call, the mixers' projection and the second feature mixing, leaves of one block. -/
namespace Cert.ChainMath
open scoped BigOperators
/-- Rows of the output projection that meet the first mixer, and the second. -/
def lo (j : Fin 512) : Fin 1024 := ⟨j.val, by omega⟩
def hi (j : Fin 512) : Fin 1024 := ⟨512 + j.val, by omega⟩
theorem sum_lo_hi (f : Fin 1024 → EReal) : ∑ k, f k = ∑ j, f (lo j) + ∑ j, f (hi j) := Fin.sum_univ_add (a := 512) (b := 512) f
/-- A feature with the two mixers' projected outputs added. -/
def mixAt (x : Fin 1024 → EReal) (sb rt : Fin 512 → EReal) (gt : Fin 1024 → EReal) (w : Fin 1024 → Fin 1024 → EReal) (k : Fin 1024) : EReal :=
  x k + gt k * (∑ j, sb j * w (lo j) k + ∑ j, rt j * w (hi j) k)
theorem mcol5 (k : Fin 1024) (p) : (⟨5120 + k.val, p⟩ : Fin 9216) = mcol 5 k := Fin.ext (by show _ + k.val = 5 * 1024 + k.val; omega)
theorem mcol6 (k : Fin 1024) (p) : (⟨6144 + k.val, p⟩ : Fin 9216) = mcol 6 k := Fin.ext (by show _ + k.val = 6 * 1024 + k.val; omega)
theorem mcol7 (k : Fin 1024) (p) : (⟨7168 + k.val, p⟩ : Fin 9216) = mcol 7 k := Fin.ext (by show _ + k.val = 7 * 1024 + k.val; omega)
theorem mcol8 (k : Fin 1024) (p) : (⟨8192 + k.val, p⟩ : Fin 9216) = mcol 8 k := Fin.ext (by show _ + k.val = 8 * 1024 + k.val; omega)
end Cert.ChainMath
namespace Cert.Kernel3Ideal.Mix
open Cert.Kernel3Ideal Cert.Kernel3Ideal.Gen Idealize.ShloMosaic Idealize.ShloMosaic.TcCoe Idealize.SL.Sem
open Cert.ChainMath
open scoped BigOperators

section payload
variable (x0 : Vec Ideal S8x64x1024 .f32) (x1 x2 : Vec Ideal S8x64x512 .bf16) (x3 : Vec Ideal S8x9x1024 .f32) (x4 : Vec Ideal S1x1024 .f32)
  (wl wh : Vec Ideal S512x1024 .bf16)
theorem mix_pay (s : Fin 8) (t : Fin 64) (k : Fin 1024) : k0_pay3 x0 x3 x1 x2 wl wh (ix3 s t k) =
    x0 (ix3 s t k) + x3 (ix3 s 5 k) * (∑ j, x1 (ix3 s t j) * wl (ix2 j k) + ∑ j, x2 (ix3 s t j) * wh (ix2 j k)) := by
  pointwise [k0_pay3, k0_pay2]

/-- The normalised features of a block, from the features before. -/
def bnorm : Vec Ideal S512x1024 .bf16 :=
  k0_pay9 (k0_pay4 x3) (k0_pay5 x3) (k0_pay7 x0 x3 x1 x2 wl wh) (k0_pay8 x4)
theorem norm_pay (s : Fin 8) (t : Fin 64) (k : Fin 1024) : bnorm x0 x1 x2 x3 x4 wl wh (ix2 (row s t) k) =
    normAt (fun k => k0_pay3 x0 x3 x1 x2 wl wh (ix3 s t k)) (fun k => x4 (ix2 0 k)) (fun k => x3 (ix3 s 6 k)) (fun k => x3 (ix3 s 7 k)) k := by
  unfold bnorm
  pointwise [k0_pay9, k0_pay8, k0_pay7, k0_pay5, k0_pay4, k0_pay2]
  simp only [row_div, row_mod]
  rfl

theorem ffn_pay (v18 : Vec Ideal S8x64x1024 .f32) (v19 v20 : FVec Ideal S8x1x1024 .f32) (v33 : FVec Ideal S8x64x1024 .f32) (v34 : FVec Ideal S1x1x1024 .f32)
    (wg0 wu0 wg1 wu1 : Vec Ideal S1024x1408 .bf16) (wd0 wd1 : Vec Ideal S1408x1024 .bf16) (s : Fin 8) (t : Fin 64) (k : Fin 1024) :
    k0_pay1 v18 (k0_pay6 x3) (k0_pay10 v19 v20 v33 v34 wg0 wu0 wd0) (k0_pay11 v19 v20 v33 v34 wg1) (k0_pay12 v19 v20 v33 v34 wu1)
      (k0_pay13 v19 v20 v33 v34 wg1) wd1 (ix3 s t k) =
    v18 (ix3 s t k) + Ideal.ofBits FTy.f32 0x3F000000#32 * x3 (ix3 s 8 k) *
      (∑ j, gatedAt (fun k => k0_pay9 v19 v20 v33 v34 (ix2 (row s t) k)) (fun i => wg0 (ix2 i j)) (fun i => wu0 (ix2 i j)) * wd0 (ix2 j k)
        + ∑ j, gatedAt (fun k => k0_pay9 v19 v20 v33 v34 (ix2 (row s t) k)) (fun i => wg1 (ix2 i j)) (fun i => wu1 (ix2 i j)) * wd1 (ix2 j k)) := by
  pointwise [k0_pay1, k0_pay6, k0_pay2, k0_pay10, k0_pay11, k0_pay12, k0_pay13]
  simp only [silu_sub, gatedAt, row]
end payload

section block
variable (x0 : Vec Ideal S8x64x1024 .f32) (x1 x2 : Vec Ideal S8x64x512 .bf16) (x3 : Vec Ideal S8x9x1024 .f32) (x4 : Vec Ideal S1x1024 .f32)
  (x5 : Vec Ideal S1024x1024 .bf16) (x6 : Vec Ideal S1024x5632 .bf16) (x7 : Vec Ideal S2816x1024 .bf16)
theorem ld_out (o : Nat) (h) (j : Fin 512) (k j' : Fin 1024) (hj : j'.val = o + j.val) :
    View.ld (Val := Elt Ideal) x5 (Rect.unit (s := S1024x1024) ![o, 0] S512x1024.size h) (ix2 j k) = x5 (ix2 j' k) :=
  View.ld_unit_apply_of (Val := Elt Ideal) (e := .bf16) (S := S1024x1024) _ _ _ _ _ _ fun a => match a with
    | 0 => hj
    | 1 => (Nat.zero_add _).symm
theorem ld_up (o : Nat) (h) (i : Fin 1024) (j : Fin 1408) (j' : Fin 5632) (hj : j'.val = o + j.val) :
    View.ld (Val := Elt Ideal) x6 (Rect.unit (s := S1024x5632) ![0, o] S1024x1408.size h) (ix2 i j) = x6 (ix2 i j') :=
  View.ld_unit_apply_of (Val := Elt Ideal) (e := .bf16) (S := S1024x5632) _ _ _ _ _ _ fun a => match a with
    | 0 => (Nat.zero_add _).symm
    | 1 => hj
theorem ld_down (o : Nat) (h) (j : Fin 1408) (k : Fin 1024) (j' : Fin 2816) (hj : j'.val = o + j.val) :
    View.ld (Val := Elt Ideal) x7 (Rect.unit (s := S2816x1024) ![o, 0] S1408x1024.size h) (ix2 j k) = x7 (ix2 j' k) :=
  View.ld_unit_apply_of (Val := Elt Ideal) (e := .bf16) (S := S2816x1024) _ _ _ _ _ _ fun a => match a with
    | 0 => hj
    | 1 => (Nat.zero_add _).symm

theorem out (s : Fin 8) (t : Fin 64) (k : Fin 1024) : out0_8 x0 x1 x2 x3 x4 x5 x6 x7 (ix3 s t k) =
    ffnAt (mixAt (fun k => x0 (ix3 s t k)) (fun j => x1 (ix3 s t j)) (fun j => x2 (ix3 s t j)) (fun k => x3 (ix3 s 5 k)) (fun i k => x5 (ix2 i k)))
      (fun k => x4 (ix2 0 k)) (fun k => x3 (ix3 s 6 k)) (fun k => x3 (ix3 s 7 k)) (fun k => x3 (ix3 s 8 k))
      (fun i j => x6 (ix2 i j)) (fun j k => x7 (ix2 j k)) k := by
  unfold out0_8 k0_pay17 k0_pay16 k0_pay15 k0_pay14
  rw [View.ld_unit_lit (Val := Elt Ideal) (e := .f32) (S := S8x64x1024) _ x0 (by decide),
    View.ld_unit_lit (Val := Elt Ideal) (e := .bf16) (S := S8x64x512) _ x1 (by decide),
    View.ld_unit_lit (Val := Elt Ideal) (e := .bf16) (S := S8x64x512) _ x2 (by decide),
    View.ld_unit_lit (Val := Elt Ideal) (e := .f32) (S := S8x9x1024) _ x3 (by decide),
    View.ld_unit_lit (Val := Elt Ideal) (e := .f32) (S := S1x1024) _ x4 (by decide)]
  refine (congrFun (View.canon_cons_unit_lit (Val := Elt Ideal) (e := .f32) (S := S8x64x1024) _ _ [] (by decide)) _).trans ?_
  refine (ffn_pay x3 _ _ _ _ _ _ _ _ _ _ _ s t k).trans ?_
  have hm : ∀ k, k0_pay3 x0 x3 x1 x2 (View.ld x5 r0_3) (View.ld x5 r0_4) (ix3 s t k) =
      mixAt (fun k => x0 (ix3 s t k)) (fun j => x1 (ix3 s t j)) (fun j => x2 (ix3 s t j)) (fun k => x3 (ix3 s 5 k)) (fun i k => x5 (ix2 i k)) k := fun k => by
    rw [mix_pay]
    unfold mixAt
    refine congrArg (x0 (ix3 s t k) + x3 (ix3 s 5 k) * ·) (congrArg₂ (· + ·) (Finset.sum_congr rfl fun j _ => congrArg (x1 (ix3 s t j) * ·) ?_) (Finset.sum_congr rfl fun j _ => congrArg (x2 (ix3 s t j) * ·) ?_))
    · exact ld_out x5 0 _ j k _ (by show j.val = 0 + j.val; omega)
    · exact ld_out x5 512 _ j k _ (by show 512 + j.val = 512 + j.val; omega)
  have hn := fun k => (norm_pay x0 x1 x2 x3 x4 (View.ld x5 r0_3) (View.ld x5 r0_4) s t k)
  simp only [hm] at hn
  unfold bnorm at hn
  unfold ffnAt
  rw [sum_halves]
  simp only [hn]
  refine congrArg₂ (· + ·) (hm k) (congrArg (Ideal.ofBits FTy.f32 0x3F000000#32 * x3 (ix3 s 8 k) * ·) (congrArg₂ (· + ·) (Finset.sum_congr rfl fun j _ => congrArg₂ (· * ·) (congrArg₂ (gatedAt _) (funext fun i => ?_) (funext fun i => ?_)) ?_)
    (Finset.sum_congr rfl fun j _ => congrArg₂ (· * ·) (congrArg₂ (gatedAt _) (funext fun i => ?_) (funext fun i => ?_)) ?_)))
  · exact ld_up x6 0 _ i j _ (by show j.val = 0 + j.val; omega)
  · exact ld_up x6 2816 _ i j _ (by show 2816 + j.val = 2816 + j.val; omega)
  · exact ld_down x7 0 _ j k _ (by show j.val = 0 + j.val; omega)
  · exact ld_up x6 1408 _ i j _ (by show 1408 + j.val = 1408 + j.val; omega)
  · exact ld_up x6 4224 _ i j _ (by show 2816 + (1408 + j.val) = 4224 + j.val; omega)
  · exact ld_down x7 1408 _ j k _ (by show 1408 + j.val = 1408 + j.val; omega)
end block
end Cert.Kernel3Ideal.Mix
-- ==== Proof.MixRef.lean ====
module
public import proofs.«01_k».proof.Proof.Gen.Reference3Ideal.Read
public import proofs.«01_k».proof.Proof.MixBlock
@[expose] public section
set_option maxRecDepth 16384
noncomputable section
/-! The plain mathematics of the last call at an entry. -/
namespace Cert.MixRef
open Cert.Reference3Ideal Cert.Reference3Ideal.Read Idealize.ShloMosaic
open Cert.ChainMath
open scoped BigOperators
variable (x0 : (⟨S32x64x1024, .f32⟩ : BufTy).Contents (Elt Ideal)) (x1 x2 : (⟨S32x64x512, .bf16⟩ : BufTy).Contents (Elt Ideal))
  (x3 : (⟨S32x9216, .f32⟩ : BufTy).Contents (Elt Ideal)) (x4 : (⟨S1x1024, .f32⟩ : BufTy).Contents (Elt Ideal))
  (x5 : (⟨S1x1024x1024, .f32⟩ : BufTy).Contents (Elt Ideal)) (x6 : (⟨S1x1024x5632, .f32⟩ : BufTy).Contents (Elt Ideal))
  (x7 : (⟨S1x2816x1024, .f32⟩ : BufTy).Contents (Elt Ideal)) (b : Fin 32) (t : Fin 64)
theorem cat_lo (j : Fin 512) : val_main_v11 (F := Ideal) x1 x2 (ix3 b t (lo j)) = x1 (ix3 b t j) := by
  have h : (lo j).val < 512 := j.isLt
  pointwise [val_main_v11, val_main_v9]
  rw [dif_pos h]
  rfl
theorem cat_hi (j : Fin 512) : val_main_v11 (F := Ideal) x1 x2 (ix3 b t (hi j)) = x2 (ix3 b t j) := by
  have h : ¬ (hi j).val < 512 := Nat.not_lt.mpr (Nat.le_add_right 512 j.val)
  pointwise [val_main_v11, val_main_v10]
  rw [dif_neg h]
  exact congrArg (fun j => x2 (ix3 b t j)) (Fin.ext (Nat.add_sub_cancel_left 512 j.val))
theorem mixed (k : Fin 1024) : val_main_v17 (F := Ideal) x0 x1 x2 x3 x5 (ix3 b t k) =
    mixAt (fun k => x0 (ix3 b t k)) (fun j => x1 (ix3 b t j)) (fun j => x2 (ix3 b t j)) (fun k => x3 (ix2 b (mcol 5 k))) (fun i k => x5 (ix3 0 i k)) k := by
  pointwise [val_main_v17, val_main_v16, val_main_v15, val_main_v14, val_main_v13, val_main_v12, val_main_v5]
  rw [sum_lo_hi]
  simp only [cat_lo, cat_hi, mcol5]
  rfl
theorem normed (k : Fin 1024) : val_main_v39 (F := Ideal) x0 x1 x2 x3 x4 x5 (ix3 b t k) =
    normAt (fun k => val_main_v17 (F := Ideal) x0 x1 x2 x3 x5 (ix3 b t k)) (fun k => x4 (ix2 0 k)) (fun k => x3 (ix2 b (mcol 6 k))) (fun k => x3 (ix2 b (mcol 7 k))) k := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v7, val_main_v6, val_main_cst, val_main_cst_0, val_main_cst_1, val_main_cst_2]
  simp only [mcol6, mcol7]
  rfl
theorem gated (j : Fin 2816) : val_main_v49 (F := Ideal) x0 x1 x2 x3 x4 x5 x6 (ix3 b t j) =
    gatedAt (fun k => val_main_v39 (F := Ideal) x0 x1 x2 x3 x4 x5 (ix3 b t k)) (fun i => x6 (ix3 0 i (gcol j))) (fun i => x6 (ix3 0 i (ucol j))) := by
  pointwise [val_main_v49, val_main_v48, val_main_v47, val_main_v46, val_main_v45, val_main_v43, val_main_call0_v5, val_main_call0_v4, val_main_call0_v3, val_main_call0_v2, val_main_call0_v1, val_main_call0_v0, val_main_call0_cst, val_main_call0_cst_0]
  simp only [gatedAt, silu, gcol, ucol]
theorem result (k : Fin 1024) : val_main_v53 (F := Ideal) x0 x1 x2 x3 x4 x5 x6 x7 (ix3 b t k) =
    ffnAt (mixAt (fun k => x0 (ix3 b t k)) (fun j => x1 (ix3 b t j)) (fun j => x2 (ix3 b t j)) (fun k => x3 (ix2 b (mcol 5 k))) (fun i k => x5 (ix3 0 i k)))
      (fun k => x4 (ix2 0 k)) (fun k => x3 (ix2 b (mcol 6 k))) (fun k => x3 (ix2 b (mcol 7 k))) (fun k => x3 (ix2 b (mcol 8 k)))
      (fun i j => x6 (ix3 0 i j)) (fun j k => x7 (ix3 0 j k)) k := by
  pointwise [val_main_v53, val_main_v52, val_main_v51, val_main_v50, val_main_v44, val_main_v42, val_main_v41, val_main_v40, val_main_v8, val_main_cst_3]
  simp only [mcol8, gated, normed, mixed]
  rfl
end Cert.MixRef
-- ==== Proof.Mix.lean ====
module
public import proofs.«01_k».proof.Defs
public import proofs.«01_k».proof.Proof.Gen.Reference3Ideal.Run
public import proofs.«01_k».proof.Proof.MixRef
@[expose] public section
set_option maxRecDepth 16384
noncomputable section
/-! The last call and the plain mathematics leave the same array. -/
namespace Cert.Kernel3Ideal.Mix
open Cert.Kernel3Ideal Cert.Kernel3Ideal.Gen Idealize.ShloMosaic Idealize.ShloMosaic.TcCoe Idealize.SL.Sem
open Idealize.ShloMosaic.Pipeline (Dat)
open Cert.Reference3Ideal.Read Cert.ChainMath
variable (m : (ℓ : Loc nD τ sig) → Buf (Elt Ideal) ℓ) (c : Dev nD)

/-- The result as a function of the call's operands. -/
def arr (x : FVec Ideal S32x64x1024 .f32) (sb rt : FVec Ideal S32x64x512 .bf16) (md : FVec Ideal S32x9x1024 .f32) (g : FVec Ideal S1x1024 .f32)
    (wo : FVec Ideal S1024x1024 .bf16) (wu : FVec Ideal S1024x5632 .bf16) (wd : FVec Ideal S2816x1024 .bf16) (i : S32x64x1024.Idx) : EReal :=
  ffnAt (mixAt (fun k => x (ix3 (i 0) (i 1) k)) (fun j => sb (ix3 (i 0) (i 1) j)) (fun j => rt (ix3 (i 0) (i 1) j)) (fun k => md (ix3 (i 0) 5 k)) (fun i k => wo (ix2 i k)))
    (fun k => g (ix2 0 k)) (fun k => md (ix3 (i 0) 6 k)) (fun k => md (ix3 (i 0) 7 k)) (fun k => md (ix3 (i 0) 8 k))
    (fun i j => wu (ix2 i j)) (fun j k => wd (ix2 j k)) (i 2)

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0, 0] := by decide +kernel
theorem blk0 (t : Fin cfg0.N) : iblk m c 0 t = fun y => V m c (Pipeline.arrRef spec0 0) (ix3 (seq t (y 0)) (y 1) (y 2)) := by
  funext y
  blk_ext [iblk, seq, idx0 t]
theorem blk1 (t : Fin cfg0.N) : iblk m c 1 t = fun y => V m c (Pipeline.arrRef spec0 1) (ix3 (seq t (y 0)) (y 1) (y 2)) := by
  funext y
  blk_ext [iblk, seq, idx1 t]
theorem blk2 (t : Fin cfg0.N) : iblk m c 2 t = fun y => V m c (Pipeline.arrRef spec0 2) (ix3 (seq t (y 0)) (y 1) (y 2)) := by
  funext y
  blk_ext [iblk, seq, idx2 t]
theorem blk3 (t : Fin cfg0.N) : iblk m c 3 t = fun y => V m c (Pipeline.arrRef spec0 3) (ix3 (seq t (y 0)) (y 1) (y 2)) := by
  funext y
  blk_ext [iblk, seq, idx3 t]
theorem blk4 (t : Fin cfg0.N) : iblk m c 4 t = V m c (Pipeline.arrRef spec0 4) := by
  funext y
  blk_ext [iblk, idx4 t]
theorem blk5 (t : Fin cfg0.N) : iblk m c 5 t = V m c (Pipeline.arrRef spec0 5) := by
  funext y
  blk_ext [iblk, idx5 t]
theorem blk6 (t : Fin cfg0.N) : iblk m c 6 t = V m c (Pipeline.arrRef spec0 6) := by
  funext y
  blk_ext [iblk, idx6 t]
theorem blk7 (t : Fin cfg0.N) : iblk m c 7 t = V m c (Pipeline.arrRef spec0 7) := by
  funext y
  blk_ext [iblk, idx7 t]
theorem emb8 (t : Fin cfg0.N) (s : Fin 8) (r : Fin 64) (k : Fin 1024) :
    (win0_8.blk t).view.emb (ix3 s r k) = (ix3 (seq t s) r k : S32x64x1024.Idx) := by
  funext a
  match a with
  | 0 => exact Fin.ext (by blk_simp [seq, idx8 t])
  | 1 => exact Fin.ext (by blk_simp [idx8 t])
  | 2 => exact Fin.ext (by blk_simp [idx8 t])

theorem arr_at : (dats m 0 c).arrAt 8 (cfgs 0).N = arr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6)) (V m c (Pipeline.arrRef spec0 7)) := by
  refine (dats m 0 c).arrAt_eq_of_covers 8 _ (by decide +kernel) fun t hf y => ?_
  blk_simp
  rw [after0_8, blk0, blk1, blk2, blk3, blk4, blk5, blk6, blk7]
  obtain ⟨s, r, k, rfl⟩ : ∃ s r k, y = ix3 s r k := ⟨y 0, y 1, y 2, (ix3_eta y).symm⟩
  rw [out, emb8]
  rfl

theorem mod_eq (s j k) : (V m c main_v0 : Vec Ideal S32x9x1024 .f32) (ix3 s j k) = (m ((c : Thread nD τ).loc main_arg3) : Vec Ideal S32x9216 .f32) (ix2 s (mcol j k)) := by
  unfold V
  after_reads_at
  refine congrArg _ (congrArg (ix2 _) (Fin.ext ?_))
  show _ = j.val * 1024 + k.val
  simp
theorem gain_eq (k) : (V m c main_v2 : Vec Ideal S1x1024 .f32) (ix2 0 k) = (m ((c : Thread nD τ).loc main_arg4) : Vec Ideal S1x1024 .f32) (ix2 0 k) := by
  unfold V
  after_reads_at
theorem up_eq (i j) : (V m c main_v4 : Vec Ideal S1024x5632 .bf16) (ix2 i j) = (m ((c : Thread nD τ).loc main_arg6) : Vec Ideal S1x1024x5632 .f32) (ix3 0 i j) := by
  unfold V
  after_reads_at
theorem down_eq (i j) : (V m c main_v6 : Vec Ideal S2816x1024 .bf16) (ix2 i j) = (m ((c : Thread nD τ).loc main_arg7) : Vec Ideal S1x2816x1024 .f32) (ix3 0 i j) := by
  unfold V
  after_reads_at
theorem wout_eq (i j) : (V m c main_v8 : Vec Ideal S1024x1024 .bf16) (ix2 i j) = (m ((c : Thread nD τ).loc main_arg5) : Vec Ideal S1x1024x1024 .f32) (ix3 0 i j) := by
  unfold V
  after_reads_at

theorem arr_eq (x sb rt md g wo wu wd) (x3 x4 x5 x6 x7) (hm : ∀ s j k, md (ix3 s j k) = x3 (ix2 s (mcol j k))) (hg : ∀ k, g (ix2 0 k) = x4 (ix2 0 k))
    (ho : ∀ i k, wo (ix2 i k) = x5 (ix3 0 i k)) (hu : ∀ i j, wu (ix2 i j) = x6 (ix3 0 i j)) (hd : ∀ j k, wd (ix2 j k) = x7 (ix3 0 j k)) :
    arr x sb rt md g wo wu wd = val_main_v53 (F := Ideal) x sb rt x3 x4 x5 x6 x7 := by
  funext i
  obtain ⟨b, t, k, rfl⟩ : ∃ b t k, i = ix3 b t k := ⟨i 0, i 1, i 2, (ix3_eta i).symm⟩
  rw [Cert.MixRef.result]
  show ffnAt (mixAt (fun k => x (ix3 b t k)) (fun j => sb (ix3 b t j)) (fun j => rt (ix3 b t j)) (fun k => md (ix3 b 5 k)) (fun i k => wo (ix2 i k)))
    (fun k => g (ix2 0 k)) (fun k => md (ix3 b 6 k)) (fun k => md (ix3 b 7 k)) (fun k => md (ix3 b 8 k)) (fun i j => wu (ix2 i j)) (fun j k => wd (ix2 j k)) k = _
  simp only [hm, hg, ho, hu, hd]

theorem algebraic [Cert.Kernel3Ideal.Facts] [Cert.Reference3Ideal.Facts] : Cert.algebraic_Kernel3Ideal_Reference3Ideal := by
  intro m g m' g' _ hargs
  refine ⟨fun c => arr (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7)), ?_, ?_⟩
  · refine (θ_run _ _ _).mono (fun r h c => ?_) (Cert.Kernel3Ideal.Value.run_blocks (F := Ideal) m g)
    obtain ⟨h0, h1⟩ := h c
    exact ⟨h0.trans (arr_at m c), h1⟩
  · refine (θ_run _ _ _).mono (fun r h c => ?_) (Cert.Reference3Ideal.Value.run (F := Ideal) m' g')
    obtain ⟨h0, h1⟩ := h c
    obtain ⟨a0, a1, a2, a3, a4, a5, a6, a7⟩ := hargs c
    refine ⟨h0.trans ?_, h1⟩
    rw [val_main_v53_eq, a0, a1, a2, a3, a4, a5, a6, a7]
    refine Eq.trans ?_ (arr_eq _ _ _ _ _ _ _ _ _ _ _ _ _ (mod_eq m c) (gain_eq m c) (wout_eq m c) (up_eq m c) (down_eq m c)).symm
    have h0 : V m c (Pipeline.arrRef spec0 0) = m ((c : Thread nD τ).loc main_arg0) := V_main_arg0 m c
    have h1 : V m c (Pipeline.arrRef spec0 1) = m ((c : Thread nD τ).loc main_arg1) := V_main_arg1 m c
    have h2 : V m c (Pipeline.arrRef spec0 2) = m ((c : Thread nD τ).loc main_arg2) := V_main_arg2 m c
    rw [h0, h1, h2]

end Cert.Kernel3Ideal.Mix
-- ==== Proof.PromptRun.lean ====
module
public import proofs.«01_k».proof.Proof.Gen.Kernel4Ideal.Frame
@[expose] public section
set_option maxRecDepth 16384
noncomputable section
/-! The prompts' chain of calls, run: every buffer of a core's own memory ends at the last boundary's contents. -/
namespace Cert.Kernel4Ideal.Prompt
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The launch over the segments, its last state read whole. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.Kernel4Ideal.Prompt
-- ==== Proof.PromptMod.lean ====
module
public import proofs.«01_k».proof.Proof.Gen.Kernel4Ideal.Frame
public import proofs.«01_k».proof.Proof.Gen.Reference4Ideal.Read
public import proofs.«01_k».proof.Proof.ChainMath
public import Idealize.ShloMosaic.Lib.Pointwise
public import Idealize.ShloMosaic.Lib.Pipeline.ReadBack
public import Idealize.ShloMosaic.Lib.Pipeline.ValueKit
public import Idealize.ShloMosaic.Lib.StableHlo.ReadAt
@[expose] public section
set_option maxRecDepth 16384
noncomputable section
/-! The modulation call, read by the prompts: the nine modulations of every prompt. -/
namespace Cert.Kernel4Ideal.Prompt
open Cert.Kernel4Ideal Cert.Kernel4Ideal.Gen Idealize.ShloMosaic Idealize.ShloMosaic.TcCoe Idealize.SL.Sem
open Idealize.ShloMosaic.Pipeline (Dat)
open Cert.Reference4Ideal.Read Cert.ChainMath
open scoped BigOperators

/-- The reference's modulation. -/
theorem ref_mod (x1 x3 x4) (s : Fin 4) (w : Fin 9216) : val_main_v6 (F := Ideal) x1 x3 x4 (ix2 s w) =
    modAt (fun x => x1 (ix2 s x)) (fun x => x3 (ix3 0 x w)) (x4 (ix2 0 w)) := by
  pointwise [val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

section region
variable (V : (c : Dev nD) → (b : Ref sig .tc) → Buf (Elt Ideal) ((c : Thread nD τ).loc b)) (c : Dev nD)
theorem pay0 (x0 : Vec Ideal S36x1024 .f32) (x1 : Vec Ideal S1024x1024 .f32) (x2 : Vec Ideal S1x1024 .f32) (r : Fin 36) (k : Fin 1024) :
    k0_pay1 x0 x1 x2 (ix2 r k) = modAt (fun x => x0 (ix2 r x)) (fun x => x1 (ix2 x k)) (x2 (ix2 0 k)) := by
  pointwise [k0_pay1]
  simp only [silu_sub]
  rfl
theorem out0 (x0 : Vec Ideal S36x1024 .f32) (x1 : Vec Ideal S1024x1024 .f32) (x2 : Vec Ideal S1x1024 .f32) (r : Fin 36) (k : Fin 1024) :
    out0_3 x0 x1 x2 (ix2 r k) = modAt (fun x => x0 (ix2 r x)) (fun x => x1 (ix2 x k)) (x2 (ix2 0 k)) := by
  unfold out0_3
  rw [← pay0]
  rw [View.ld_unit_lit (Val := Elt Ideal) (e := .f32) (S := S36x1024) _ x0 (by decide),
    View.ld_unit_lit (Val := Elt Ideal) (e := .f32) (S := S1024x1024) _ x1 (by decide),
    View.ld_unit_lit (Val := Elt Ideal) (e := .f32) (S := S1x1024) _ x2 (by decide)]
  exact congrFun (View.canon_cons_unit_lit (Val := Elt Ideal) (e := .f32) (S := S36x1024) _ _ [] (by decide)) _
theorem idx0_0 : ∀ t : Fin grid0.N, win0_0.index t = ![0, 0] := by decide +kernel
theorem idx0_1 : ∀ t : Fin grid0.N, win0_1.index t = ![0, t.val] := by decide +kernel
theorem idx0_2 : ∀ t : Fin grid0.N, win0_2.index t = ![0, t.val] := by decide +kernel
theorem idx0_3 : ∀ t : Fin grid0.N, win0_3.index t = ![0, t.val] := by decide +kernel
theorem b0 (t : Fin cfg0.N) : iblk0 V c 0 t = V c (Pipeline.arrRef spec0 0) := by
  funext y
  blk_ext [iblk0, idx0_0 t]
theorem b1 (t : Fin cfg0.N) : iblk0 V c 1 t = fun y => V c (Pipeline.arrRef spec0 1) (ix2 (y 0) (mcol t (y 1))) := by
  funext y
  blk_ext [iblk0, mcol, idx0_1 t]
theorem b2 (t : Fin cfg0.N) : iblk0 V c 2 t = fun y => V c (Pipeline.arrRef spec0 2) (ix2 (y 0) (mcol t (y 1))) := by
  funext y
  blk_ext [iblk0, mcol, idx0_2 t]

/-- The call's result as a function of its operands. -/
def modArr (x : FVec Ideal S36x1024 .f32) (w : FVec Ideal S1024x9216 .f32) (b : FVec Ideal S1x9216 .f32) (i : S36x9216.Idx) : EReal :=
  modAt (fun x' => x (ix2 (i 0) x')) (fun x' => w (ix2 x' (i 1))) (b (ix2 0 (i 1)))
theorem arr0 : (dat0 V c).arrAt 3 cfg0.N =
    modArr (V c (Pipeline.arrRef spec0 0)) (V c (Pipeline.arrRef spec0 1)) (V c (Pipeline.arrRef spec0 2)) := by
  refine (dat0 V c).arrAt_eq_of_covers 3 _ (by decide +kernel) fun t hf y => ?_
  blk_simp
  rw [after0_3, b0, b1, b2]
  obtain ⟨r, k, rfl⟩ : ∃ r k, y = ix2 r k := ⟨y 0, y 1, (ix2_eta y).symm⟩
  rw [out0]
  unfold modArr
  have h0 : (win0_3.blk t).view.emb (ix2 r k) 0 = (r : Fin 36) := Fin.ext (by blk_simp [idx0_3 t])
  have h1 : (win0_3.blk t).view.emb (ix2 r k) 1 = mcol t k := Fin.ext (by blk_simp [mcol, idx0_3 t])
  rw [h0, h1]
  rfl
end region

variable (m : (ℓ : Loc nD τ sig) → Buf (Elt Ideal) ℓ) (ρ : Dev nD → PrngReg) (c : Dev nD)
/-- Row of the prompt `s` among the conditioning rows: the prompts come first. -/
def prow (s : Fin 4) : Fin 36 := ⟨s.val, by omega⟩
theorem cond_eq (s : Fin 4) (x : Fin 1024) : (W1 m ρ c main_v1 : Vec Ideal S36x1024 .f32) (ix2 (prow s) x) = (W0 m ρ c main_arg1 : Vec Ideal S4x1024 .f32) (ix2 s x) := by
  show StableHlo.after hostOps0 (W0 m ρ c) main_v1 _ = _
  after_reads_at
  rw [dif_pos (by show s.val < 4; omega)]
  rfl
theorem wada_eq (x : Fin 1024) (w : Fin 9216) : (W1 m ρ c main_v2 : Vec Ideal S1024x9216 .f32) (ix2 x w) = (W0 m ρ c main_arg3 : Vec Ideal S1x1024x9216 .f32) (ix3 0 x w) := by
  show StableHlo.after hostOps0 (W0 m ρ c) main_v2 _ = _
  after_reads_at
theorem bada_eq (w : Fin 9216) : (W1 m ρ c main_v4 : Vec Ideal S1x9216 .f32) (ix2 0 w) = (W0 m ρ c main_arg4 : Vec Ideal S1x9216 .f32) (ix2 0 w) := by
  show StableHlo.after hostOps0 (W0 m ρ c) main_v4 _ = _
  after_reads_at
theorem v7_read (s : Fin 4) (j : Fin 9) (k : Fin 1024) : (W3 m ρ c main_v7 : Vec Ideal S4x9x1024 .f32) (ix3 s j k) =
    (W2 m ρ c main_v5 : Vec Ideal S36x9216 .f32) (ix2 (prow s) (mcol j k)) := by
  show StableHlo.after hostOps1 (W2 m ρ c) main_v7 _ = _
  after_reads_at
  rfl

/-- The modulations as the second call finds them are the reference's. -/
theorem mod_eq (s : Fin 4) (j : Fin 9) (k : Fin 1024) : (W3 m ρ c main_v7 : Vec Ideal S4x9x1024 .f32) (ix3 s j k) =
    val_main_v6 (F := Ideal) (m ((c : Thread nD τ).loc main_arg1)) (m ((c : Thread nD τ).loc main_arg3)) (m ((c : Thread nD τ).loc main_arg4)) (ix2 s (mcol j k)) := by
  rw [v7_read, ref_mod]
  refine (congrFun ((W2_arr m ρ c 3).trans (arr0 (V1 m ρ) c)) _).trans ?_
  show modAt _ _ _ = _
  exact congr (congrArg₂ modAt (funext fun x => cond_eq m ρ c s x) (funext fun x => wada_eq m ρ c x (mcol j k))) (bada_eq m ρ c (mcol j k))
end Cert.Kernel4Ideal.Prompt
-- ==== Proof.PromptFfn.lean ====
module
public import proofs.«01_k».proof.Proof.PromptMod
@[expose] public section
set_option maxRecDepth 16384
noncomputable section
/-! The prompts' feature-mixing call. -/
namespace Cert.Kernel4Ideal.Prompt
open Cert.Kernel4Ideal Cert.Kernel4Ideal.Gen Idealize.ShloMosaic Idealize.ShloMosaic.TcCoe Idealize.SL.Sem
open Idealize.ShloMosaic.Pipeline (Dat)
open Cert.Reference4Ideal.Read Cert.ChainMath
open scoped BigOperators

/-- The prompt of the `t`-th cell, and its token at the block's row `r`. -/
def pseq (t : Fin 64) (s : Fin 1) : Fin 4 := ⟨t.val / 16 + s.val, by omega⟩
def tok (t : Fin 64) (r : Fin 512) : Fin 8192 := ⟨t.val % 16 * 512 + r.val, by omega⟩

section payload
variable (x0 : Vec Ideal S1x512x1024 .f32) (x1 : Vec Ideal S1x9x1024 .f32) (x2 : Vec Ideal S1x1024 .f32)
theorem ffn_norm (t : Fin 512) (k : Fin 1024) : k1_pay3 x0 x1 x2 (ix2 t k) =
    normAt (fun k => x0 (ix3 0 t k)) (fun k => x2 (ix2 0 k)) (fun k => x1 (ix3 0 0 k)) (fun k => x1 (ix3 0 1 k)) k := by
  pointwise [k1_pay3, k1_pay1]
  rfl

theorem ffn_pay (wg0 wu0 wg1 wu1 : Vec Ideal S1024x1408 .bf16) (wd0 wd1 : Vec Ideal S1408x1024 .bf16) (t : Fin 512) (k : Fin 1024) :
    k1_pay8 x0 (k1_pay2 x1) (k1_pay3 x0 x1 x2) (k1_pay4 (F := Ideal)) (k1_pay5 x0 x1 x2 wg0) (k1_pay6 x0 x1 x2 wu0) (k1_pay7 x0 x1 x2 wg0)
      wd0 wg1 wu1 wd1 (ix3 0 t k) =
    x0 (ix3 0 t k) + Ideal.ofBits FTy.f32 0x3F000000#32 * x1 (ix3 0 2 k) *
      (∑ j, gatedAt (fun k => k1_pay3 x0 x1 x2 (ix2 t k)) (fun i => wg0 (ix2 i j)) (fun i => wu0 (ix2 i j)) * wd0 (ix2 j k)
        + ∑ j, gatedAt (fun k => k1_pay3 x0 x1 x2 (ix2 t k)) (fun i => wg1 (ix2 i j)) (fun i => wu1 (ix2 i j)) * wd1 (ix2 j k)) := by
  pointwise [k1_pay8, k1_pay2, k1_pay4, k1_pay5, k1_pay6, k1_pay7, k1_pay1]
  simp only [silu_sub, gatedAt]
end payload

section block
variable (x0 : Vec Ideal S1x512x1024 .f32) (x1 : Vec Ideal S1x9x1024 .f32) (x2 : Vec Ideal S1x1024 .f32)
  (x3 : Vec Ideal S1024x5632 .bf16) (x4 : Vec Ideal S2816x1024 .bf16)
theorem ld_cols (o : Nat) (h) (i : Fin 1024) (j : Fin 1408) (j' : Fin 5632) (hj : j'.val = o + j.val) :
    View.ld (Val := Elt Ideal) x3 (Rect.unit (s := S1024x5632) ![0, o] S1024x1408.size h) (ix2 i j) = x3 (ix2 i j') :=
  View.ld_unit_apply_of (Val := Elt Ideal) (e := .bf16) (S := S1024x5632) _ _ _ _ _ _ fun a => match a with
    | 0 => (Nat.zero_add _).symm
    | 1 => hj
theorem ld_rows' (o : Nat) (h) (j : Fin 1408) (k : Fin 1024) (j' : Fin 2816) (hj : j'.val = o + j.val) :
    View.ld (Val := Elt Ideal) x4 (Rect.unit (s := S2816x1024) ![o, 0] S1408x1024.size h) (ix2 j k) = x4 (ix2 j' k) :=
  View.ld_unit_apply_of (Val := Elt Ideal) (e := .bf16) (S := S2816x1024) _ _ _ _ _ _ fun a => match a with
    | 0 => hj
    | 1 => (Nat.zero_add _).symm

theorem out1 (t : Fin 512) (k : Fin 1024) : out1_5 x0 x1 x2 x3 x4 (ix3 0 t k) =
    ffnAt (fun k => x0 (ix3 0 t k)) (fun k => x2 (ix2 0 k)) (fun k => x1 (ix3 0 0 k)) (fun k => x1 (ix3 0 1 k)) (fun k => x1 (ix3 0 2 k))
      (fun i j => x3 (ix2 i j)) (fun j k => x4 (ix2 j k)) k := by
  unfold out1_5
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide)]
  refine (congrFun (View.canon_cons_unit_lit (Val := Elt Ideal) (e := .f32) (S := S1x512x1024) _ _ [] (by decide)) _).trans ?_
  refine (ffn_pay x0 x1 x2 _ _ _ _ _ _ t k).trans ?_
  unfold ffnAt
  rw [sum_halves]
  simp only [ffn_norm]
  refine congrArg (_ + _ * ·) (congrArg₂ (· + ·) (Finset.sum_congr rfl fun j _ => congrArg₂ (· * ·) (congrArg₂ (gatedAt _) (funext fun i => ?_) (funext fun i => ?_)) ?_)
    (Finset.sum_congr rfl fun j _ => congrArg₂ (· * ·) (congrArg₂ (gatedAt _) (funext fun i => ?_) (funext fun i => ?_)) ?_))
  · exact ld_cols x3 0 _ i j _ (by show j.val = 0 + j.val; omega)
  · exact ld_cols x3 2816 _ i j _ (by show 2816 + j.val = 2816 + j.val; omega)
  · exact ld_rows' x4 0 _ j k _ (by show j.val = 0 + j.val; omega)
  · exact ld_cols x3 1408 _ i j _ (by show 1408 + j.val = 1408 + j.val; omega)
  · exact ld_cols x3 4224 _ i j _ (by show 2816 + (1408 + j.val) = 4224 + j.val; omega)
  · exact ld_rows' x4 1408 _ j k _ (by show 1408 + j.val = 1408 + j.val; omega)
end block

section ref
variable (x0 : (⟨S4x8192x1024, .f32⟩ : BufTy).Contents (Elt Ideal)) (x1 : (⟨S4x1024, .f32⟩ : BufTy).Contents (Elt Ideal))
  (x3 : (⟨S1x1024x9216, .f32⟩ : BufTy).Contents (Elt Ideal)) (x4 : (⟨S1x9216, .f32⟩ : BufTy).Contents (Elt Ideal))
  (x5 : (⟨S1x1024, .f32⟩ : BufTy).Contents (Elt Ideal)) (x7 : (⟨S1x1024x5632, .f32⟩ : BufTy).Contents (Elt Ideal))
  (x8 : (⟨S1x2816x1024, .f32⟩ : BufTy).Contents (Elt Ideal)) (b : Fin 4) (t : Fin 8192)
theorem ref_norm (k : Fin 1024) : val_main_v37 (F := Ideal) x0 x1 x3 x4 x5 (ix3 b t k) =
      normAt (fun k => x0 (ix3 b t k)) (fun k => x5 (ix2 0 k)) (fun k => val_main_v6 (F := Ideal) x1 x3 x4 (ix2 b (mcol 0 k)))
        (fun k => val_main_v6 (F := Ideal) x1 x3 x4 (ix2 b (mcol 1 k))) k := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v8, val_main_v7, val_main_cst, val_main_cst_0, val_main_cst_1, val_main_cst_2]
  simp only [mcol0, mcol1]
  rfl
theorem ref_gated (j : Fin 2816) : val_main_v47 (F := Ideal) x0 x1 x3 x4 x5 x7 (ix3 b t j) =
      gatedAt (fun k => val_main_v37 (F := Ideal) x0 x1 x3 x4 x5 (ix3 b t k)) (fun i => x7 (ix3 0 i (gcol j))) (fun i => x7 (ix3 0 i (ucol j))) := by
  pointwise [val_main_v47, val_main_v46, val_main_v45, val_main_v44, val_main_v43, val_main_v41, val_main_call1_v5, val_main_call1_v4, val_main_call1_v3, val_main_call1_v2, val_main_call1_v1, val_main_call1_v0, val_main_call1_cst, val_main_call1_cst_0]
  simp only [gatedAt, silu, gcol, ucol]
theorem ref_ffn (k : Fin 1024) :
    val_main_v51 (F := Ideal) x0 x1 x3 x4 x5 x7 x8 (ix3 b t k) =
      ffnAt (fun k => x0 (ix3 b t k)) (fun k => x5 (ix2 0 k)) (fun k => val_main_v6 (F := Ideal) x1 x3 x4 (ix2 b (mcol 0 k)))
        (fun k => val_main_v6 (F := Ideal) x1 x3 x4 (ix2 b (mcol 1 k))) (fun k => val_main_v6 (F := Ideal) x1 x3 x4 (ix2 b (mcol 2 k)))
        (fun i j => x7 (ix3 0 i j)) (fun j k => x8 (ix3 0 j k)) k := by
  pointwise [val_main_v51, val_main_v50, val_main_v49, val_main_v48, val_main_v42, val_main_v40, val_main_v39, val_main_v38, val_main_v9, val_main_cst_3]
  simp only [mcol2, ref_gated, ref_norm]
  rfl
end ref

section region
variable (V : (c : Dev nD) → (b : Ref sig .tc) → Buf (Elt Ideal) ((c : Thread nD τ).loc b)) (c : Dev nD)
theorem idx1_0 : ∀ t : Fin grid1.N, win1_0.index t = ![t.val / 16, t.val % 16, 0] := by decide +kernel
theorem idx1_1 : ∀ t : Fin grid1.N, win1_1.index t = ![t.val / 16, 0, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![0, 0] := by decide +kernel
theorem idx1_5 : ∀ t : Fin grid1.N, win1_5.index t = ![t.val / 16, t.val % 16, 0] := by decide +kernel
theorem f0 (t : Fin cfg1.N) : iblk1 V c 0 t = fun y => V c (Pipeline.arrRef spec1 0) (ix3 (pseq t (y 0)) (tok t (y 1)) (y 2)) := by
  funext y
  blk_ext [iblk1, pseq, tok, idx1_0 t]
theorem f1 (t : Fin cfg1.N) : iblk1 V c 1 t = fun y => V c (Pipeline.arrRef spec1 1) (ix3 (pseq t (y 0)) (y 1) (y 2)) := by
  funext y
  blk_ext [iblk1, pseq, idx1_1 t]
theorem f2 (t : Fin cfg1.N) : iblk1 V c 2 t = V c (Pipeline.arrRef spec1 2) := by
  funext y
  blk_ext [iblk1, idx1_2 t]
theorem f3 (t : Fin cfg1.N) : iblk1 V c 3 t = V c (Pipeline.arrRef spec1 3) := by
  funext y
  blk_ext [iblk1, idx1_3 t]
theorem f4 (t : Fin cfg1.N) : iblk1 V c 4 t = V c (Pipeline.arrRef spec1 4) := by
  funext y
  blk_ext [iblk1, idx1_4 t]
/-- The call's result as a function of its operands. -/
def ffnArr (x : FVec Ideal S4x8192x1024 .f32) (md : FVec Ideal S4x9x1024 .f32) (g : FVec Ideal S1x1024 .f32)
    (wu : FVec Ideal S1024x5632 .bf16) (wd : FVec Ideal S2816x1024 .bf16) (i : S4x8192x1024.Idx) : EReal :=
  ffnAt (fun k => x (ix3 (i 0) (i 1) k)) (fun k => g (ix2 0 k)) (fun k => md (ix3 (i 0) 0 k)) (fun k => md (ix3 (i 0) 1 k)) (fun k => md (ix3 (i 0) 2 k))
    (fun i j => wu (ix2 i j)) (fun j k => wd (ix2 j k)) (i 2)
theorem emb1_5 (t : Fin cfg1.N) (r : Fin 512) (k : Fin 1024) :
    (win1_5.blk t).view.emb (ix3 0 r k) = (ix3 (pseq t 0) (tok t r) k : S4x8192x1024.Idx) := by
  funext a
  match a with
  | 0 => exact Fin.ext (by blk_simp [pseq, idx1_5 t])
  | 1 => exact Fin.ext (by blk_simp [tok, idx1_5 t])
  | 2 => exact Fin.ext (by blk_simp [idx1_5 t])
theorem arr1 : (dat1 V c).arrAt 5 cfg1.N = ffnArr (V c (Pipeline.arrRef spec1 0)) (V c (Pipeline.arrRef spec1 1))
    (V c (Pipeline.arrRef spec1 2)) (V c (Pipeline.arrRef spec1 3)) (V c (Pipeline.arrRef spec1 4)) := by
  refine (dat1 V c).arrAt_eq_of_covers 5 _ (by decide +kernel) fun t hf y => ?_
  blk_simp
  rw [after1_5, f0, f1, f2, f3, f4]
  obtain ⟨s, r, k, rfl⟩ : ∃ (s : Fin 1) (r : Fin 512) (k : Fin 1024), y = ix3 s r k := ⟨y 0, y 1, y 2, (ix3_eta y).symm⟩
  obtain rfl : s = 0 := Subsingleton.elim _ _
  rw [out1, emb1_5]
  rfl
end region

variable (m : (ℓ : Loc nD τ sig) → Buf (Elt Ideal) ℓ) (ρ : Dev nD → PrngReg) (c : Dev nD)
theorem gain1_eq (k : Fin 1024) : (W3 m ρ c main_v9 : Vec Ideal S1x1024 .f32) (ix2 0 k) = (W2 m ρ c main_arg5 : Vec Ideal S1x1024 .f32) (ix2 0 k) := by
  show StableHlo.after hostOps1 (W2 m ρ c) main_v9 _ = _
  after_reads_at
theorem wup_eq (i : Fin 1024) (j : Fin 5632) : (W3 m ρ c main_v11 : Vec Ideal S1024x5632 .bf16) (ix2 i j) = (W2 m ρ c main_arg7 : Vec Ideal S1x1024x5632 .f32) (ix3 0 i j) := by
  show StableHlo.after hostOps1 (W2 m ρ c) main_v11 _ = _
  after_reads_at
theorem wdown_eq (j : Fin 2816) (k : Fin 1024) : (W3 m ρ c main_v13 : Vec Ideal S2816x1024 .bf16) (ix2 j k) = (W2 m ρ c main_arg8 : Vec Ideal S1x2816x1024 .f32) (ix3 0 j k) := by
  show StableHlo.after hostOps1 (W2 m ρ c) main_v13 _ = _
  after_reads_at

theorem ffnArr_eq (x md g wu wd) (x1 x3 x4 x5 x7 x8)
    (hm : ∀ s j k, md (ix3 s j k) = val_main_v6 (F := Ideal) x1 x3 x4 (ix2 s (mcol j k)))
    (hg : ∀ k, g (ix2 0 k) = x5 (ix2 0 k)) (hu : ∀ i j, wu (ix2 i j) = x7 (ix3 0 i j)) (hd : ∀ j k, wd (ix2 j k) = x8 (ix3 0 j k)) :
    ffnArr x md g wu wd = val_main_v51 (F := Ideal) x x1 x3 x4 x5 x7 x8 := by
  funext i
  obtain ⟨b, t, k, rfl⟩ : ∃ b t k, i = ix3 b t k := ⟨i 0, i 1, i 2, (ix3_eta i).symm⟩
  rw [ref_ffn]
  show ffnAt (fun k => x (ix3 b t k)) (fun k => g (ix2 0 k)) (fun k => md (ix3 b 0 k)) (fun k => md (ix3 b 1 k)) (fun k => md (ix3 b 2 k))
    (fun i j => wu (ix2 i j)) (fun j k => wd (ix2 j k)) k = _
  simp only [hm, hg, hu, hd]

/-- The prompts' features after the first mixing are the reference's. -/
theorem x_eq : W4 m ρ c main_v14 = val_main_v51 (F := Ideal) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg7)) (m ((c : Thread nD τ).loc main_arg8)) := by
  refine ((W4_arr m ρ c 5).trans (arr1 (V3 m ρ) c)).trans ?_
  have h0 : V3 m ρ c (Pipeline.arrRef spec1 0) = m ((c : Thread nD τ).loc main_arg0) := W3_args m ρ c main_arg0 (by decide)
  rw [h0]
  refine ffnArr_eq _ _ _ _ _ _ _ _ _ _ _ (mod_eq m ρ c) (fun k => (gain1_eq m ρ c k).trans ?_) (fun i j => (wup_eq m ρ c i j).trans ?_)
    (fun j k => (wdown_eq m ρ c j k).trans ?_)
  · exact congrFun (W2_args m ρ c main_arg5 (by decide)) _
  · exact congrFun (W2_args m ρ c main_arg7 (by decide)) _
  · exact congrFun (W2_args m ρ c main_arg8 (by decide)) _
end Cert.Kernel4Ideal.Prompt
-- ==== Proof.PromptProj.lean ====
module
public import proofs.«01_k».proof.Proof.PromptFfn
public import proofs.«01_k».proof.Proof.ProjOut
@[expose] public section
set_option maxRecDepth 16384
noncomputable section
/-! The prompts' projection call: its blocks of keys and values at an entry. -/
namespace Cert.Kernel4Ideal.Prompt
open Cert.Kernel4Ideal Cert.Kernel4Ideal.Gen Idealize.ShloMosaic Idealize.ShloMosaic.TcCoe Idealize.SL.Sem
open Idealize.ShloMosaic.Pipeline (Dat)
open Cert.ChainMath
open Cert.Kernel2Ideal.Proj (projRow head_sum)
open scoped BigOperators

section payload
variable (x0 : Vec Ideal S1x512x1024 .f32) (x1 : Vec Ideal S1x9x1024 .f32) (x2 : Vec Ideal S1x1024 .f32)
theorem norm_pay (t : Fin 512) (k : Fin 1024) : k2_pay4 x1 x0 x2 (ix2 t k) =
    normAt (fun k => x0 (ix3 0 t k)) (fun k => x2 (ix2 0 k)) (fun k => x1 (ix3 0 3 k)) (fun k => x1 (ix3 0 4 k)) k := by
  pointwise [k2_pay4]
  rfl
theorem qk_pay (w : Vec Ideal S1024x1024 .bf16) (r : Fin 512) (j : Fin 1024) : k2_pay5 x1 x0 x2 w (ix2 r j) =
    ∑ k, k2_pay4 x1 x0 x2 (ix2 r k) * w (ix2 k j) := by
  pointwise [k2_pay5]

theorem norms (w : Vec Ideal S1024x1024 .bf16) (B : Vec Ideal S256x256 .bf16) (hB : ∀ i j, B (ix2 i j) = if i.val / 64 = j.val / 64 then 1 else 0)
    (r : Fin 512) (g : Fin 16) (d : Fin 64) (j : Fin 1024) (hj : j.val = g.val * 64 + d.val) :
    k2_pay9 (k2_pay5 x1 x0 x2 w) (k2_pay6 x1 x0 x2 w) (k2_pay7 x1 x0 x2 w B) (k2_pay8 x1 x0 x2 w) B B B (ix2 r j) =
      hrmsAt (fun e => k2_pay5 x1 x0 x2 w (ix2 r ⟨g.val * 64 + e.val, by omega⟩)) d := by
  have hb : g.val * 64 + d.val < 1024 := by omega
  rw [show j = ⟨g.val * 64 + d.val, hb⟩ from Fin.ext hj]
  pointwise [k2_pay9, k2_pay8, k2_pay7, k2_pay6]
  unfold hrmsAt
  rw [← mul_64th]
  refine congrArg (fun z => _ * Ideal.rsqrt (z * _ + _)) ?_
  split
  · exact head_sum (fun j => k2_pay5 x1 x0 x2 w (ix2 r j)) B hB g d 0 (by omega) _ (fun x => (Nat.zero_add _).symm) _ (Nat.sub_zero _).symm
  split
  · exact head_sum (fun j => k2_pay5 x1 x0 x2 w (ix2 r j)) B hB g d 256 (by omega) _ (fun x => rfl) _ rfl
  split
  · exact head_sum (fun j => k2_pay5 x1 x0 x2 w (ix2 r j)) B hB g d 512 (by omega) _ (fun x => rfl) _ (Nat.sub_sub _ _ _)
  · exact head_sum (fun j => k2_pay5 x1 x0 x2 w (ix2 r j)) B hB g d 768 (by omega) _ (fun x => rfl) _ ((Nat.sub_sub _ 256 256).trans (Nat.sub_sub _ 256 512))

theorem k_pay (w : Vec Ideal S1024x1024 .bf16) (B : Vec Ideal S256x256 .bf16) (hB : ∀ i j, B (ix2 i j) = if i.val / 64 = j.val / 64 then 1 else 0)
    (g : Vec Ideal S1x512 .f32) (t : Fin 512) (h : Fin 8) (d : Fin 64) :
    k2_pay12 (k2_pay5 x1 x0 x2 w) (k2_pay6 x1 x0 x2 w) (k2_pay7 x1 x0 x2 w B) (k2_pay8 x1 x0 x2 w) B B B g (ix3 0 t (hcol h d)) =
    hrmsAt (fun e => k2_pay5 x1 x0 x2 w (ix2 t ⟨512 + (hcol h e).val, by omega⟩)) d * g (ix2 0 (hcol h d)) := by
  pointwise [k2_pay12, k2_pay10]
  refine congrArg (· * _) ((norms x0 x1 x2 w B hB t ⟨8 + h.val, by omega⟩ d _ ?_).trans ?_)
  · show 512 + (h.val * 64 + d.val) = (8 + h.val) * 64 + d.val; omega
  · refine congrArg (hrmsAt · d) (funext fun e => congrArg (fun z => k2_pay5 x1 x0 x2 w (ix2 t z)) (Fin.ext ?_))
    show (8 + h.val) * 64 + e.val = 512 + (h.val * 64 + e.val); omega
theorem v_pay (y : FVec Ideal S512x1024 .bf16) (w : Vec Ideal S1024x512 .bf16) (t j : Fin 512) :
    k2_pay15 y w (ix3 0 t j) = ∑ k, y (ix2 t k) * w (ix2 k j) := by
  pointwise [k2_pay15, k2_pay14]
end payload

section block
variable (x0 : Vec Ideal S1x512x1024 .f32) (x1 : Vec Ideal S1x9x1024 .f32) (x2 : Vec Ideal S1x1024 .f32)
  (x3 : Vec Ideal S1024x3584 .bf16) (x4 x5 : Vec Ideal S1x512 .f32) (x6 x7 : Vec Ideal S512x128 .f32) (x8 : Vec Ideal S256x256 .bf16)
/-- The block's projected rows. -/
def bp (t : Fin 512) : Fin 3584 → EReal :=
  projRow (fun k => x0 (ix3 0 t k)) (fun k => x2 (ix2 0 k)) (fun k => x1 (ix3 0 3 k)) (fun k => x1 (ix3 0 4 k)) (fun k j => x3 (ix2 k j))
theorem proj_wide (t : Fin 512) (j : Fin 1024) (j' : Fin 3584) (hj : j'.val = j.val) :
    k2_pay5 x1 x0 x2 (View.ld (Val := Elt Ideal) x3 r2_3) (ix2 t j) = bp x0 x1 x2 x3 t j' := by
  unfold bp projRow projAt
  refine (qk_pay x0 x1 x2 _ _ _).trans (Finset.sum_congr rfl fun k _ => congrArg₂ (· * ·) (norm_pay x0 x1 x2 t k) ?_)
  exact View.ld_unit_apply_of (Val := Elt Ideal) (e := .bf16) (S := S1024x3584) _ _ _ _ _ _ fun a => match a with
    | 0 => (Nat.zero_add _).symm
    | 1 => hj.trans (Nat.zero_add _).symm
theorem proj_cols (t : Fin 512) (o : Nat) (h) (j : Fin 512) (g : Fin 7) (ho : g.val * 512 = o) :
    ∑ k, k2_pay4 x1 x0 x2 (ix2 t k) *
      (View.ld (Val := Elt Ideal) x3 (Rect.unit (s := S1024x3584) ![0, o] S1024x512.size h) : Vec Ideal S1024x512 .bf16) (ix2 k j) = bp x0 x1 x2 x3 t (pcol g j) := by
  unfold bp projRow projAt
  refine Finset.sum_congr rfl fun k _ => congrArg₂ (· * ·) (norm_pay x0 x1 x2 t k) ?_
  exact View.ld_unit_apply_of (Val := Elt Ideal) (e := .bf16) (S := S1024x3584) _ _ _ _ _ _ fun a => match a with
    | 0 => (Nat.zero_add _).symm
    | 1 => congrArg (· + j.val) ho

theorem l8 : View.ld (Val := Elt Ideal) x8 r2_4 = x8 := View.ld_unit_lit (Val := Elt Ideal) (e := .bf16) (S := S256x256) _ x8 (by decide)
theorem lg (x : Vec Ideal S1x512 .f32) : View.ld (Val := Elt Ideal) x r2_5 = x := View.ld_unit_lit (Val := Elt Ideal) (e := .f32) (S := S1x512) _ x (by decide)
theorem l28 : k2_pay28 x0 x1 x2 x3 x4 x5 x6 x7 x8 = k2_pay4 x1 x0 x2 := by
  unfold k2_pay28
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide)]
theorem l29 : k2_pay29 x0 x1 x2 x3 x4 x5 x6 x7 x8 = k2_pay5 x1 x0 x2 (View.ld x3 r2_3) := by
  unfold k2_pay29
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide)]
theorem l30 : k2_pay30 x0 x1 x2 x3 x4 x5 x6 x7 x8 = k2_pay6 x1 x0 x2 (View.ld x3 r2_3) := by
  unfold k2_pay30
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide)]
theorem l31 : k2_pay31 x0 x1 x2 x3 x4 x5 x6 x7 x8 = k2_pay7 x1 x0 x2 (View.ld x3 r2_3) x8 := by
  unfold k2_pay31
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide), l8]
theorem l32 : k2_pay32 x0 x1 x2 x3 x4 x5 x6 x7 x8 = k2_pay8 x1 x0 x2 (View.ld x3 r2_3) := by
  unfold k2_pay32
  rw [View.ld_unit_lit (Val := Elt Ideal) (e := .f32) (S := S1x512x1024) _ x0 (by decide),
    View.ld_unit_lit (Val := Elt Ideal) (e := .f32) (S := S1x9x1024) _ x1 (by decide),
    View.ld_unit_lit (Val := Elt Ideal) (e := .f32) (S := S1x1024) _ x2 (by decide)]

theorem out10 (hB : ∀ i j, x8 (ix2 i j) = if i.val / 64 = j.val / 64 then 1 else 0) (t : Fin 512) (h : Fin 8) (d : Fin 64) :
    out2_10 x0 x1 x2 x3 x4 x5 x6 x7 x8 (ix3 0 t (hcol h d)) =
    hrmsAt (fun e => bp x0 x1 x2 x3 t (pcol 1 (hcol h e))) d * x5 (ix2 0 (hcol h d)) := by
  unfold out2_10
  refine (congrFun (View.canon_cons_unit_lit (Val := Elt Ideal) (e := .f32) (S := S1x512x512) _ _ [] (by decide)) _).trans ?_
  rw [l29, l30, l31, l32, l8, lg]
  refine (k_pay x0 x1 x2 _ x8 hB x5 t h d).trans (congrArg (· * _) (congrArg (hrmsAt · d) (funext fun e => ?_)))
  exact proj_wide x0 x1 x2 x3 t _ _ (by show 1 * 512 + (hcol h e).val = 512 + (hcol h e).val; omega)
theorem out12 (t j : Fin 512) : out2_12 x0 x1 x2 x3 x4 x5 x6 x7 x8 (ix3 0 t j) = bp x0 x1 x2 x3 t (pcol 2 j) := by
  unfold out2_12
  refine (congrFun (View.canon_cons_unit_lit (Val := Elt Ideal) (e := .f32) (S := S1x512x512) _ _ [] (by decide)) _).trans ?_
  rw [l28, v_pay]
  exact proj_cols x0 x1 x2 x3 t 1024 _ j 2 (by decide)
end block

section region
variable (V : (c : Dev nD) → (b : Ref sig .tc) → Buf (Elt Ideal) ((c : Thread nD τ).loc b)) (c : Dev nD)
theorem idx2_0 : ∀ t : Fin grid2.N, win2_0.index t = ![t.val / 16, t.val % 16, 0] := by decide +kernel
theorem idx2_1 : ∀ t : Fin grid2.N, win2_1.index t = ![t.val / 16, 0, 0] := by decide +kernel
theorem idx2_2 : ∀ t : Fin grid2.N, win2_2.index t = ![0, 0] := by decide +kernel
theorem idx2_3 : ∀ t : Fin grid2.N, win2_3.index t = ![0, 0] := by decide +kernel
theorem idx2_5 : ∀ t : Fin grid2.N, win2_5.index t = ![0, 0] := by decide +kernel
theorem idx2_8 : ∀ t : Fin grid2.N, win2_8.index t = ![0, 0] := by decide +kernel
theorem idx2_10 : ∀ t : Fin grid2.N, win2_10.index t = ![t.val / 16, t.val % 16, 0] := by decide +kernel
theorem p0 (t : Fin cfg2.N) : iblk2 V c 0 t = fun y => V c (Pipeline.arrRef spec2 0) (ix3 (pseq t (y 0)) (tok t (y 1)) (y 2)) := by
  funext y
  blk_ext [iblk2, pseq, tok, idx2_0 t]
theorem p1 (t : Fin cfg2.N) : iblk2 V c 1 t = fun y => V c (Pipeline.arrRef spec2 1) (ix3 (pseq t (y 0)) (y 1) (y 2)) := by
  funext y
  blk_ext [iblk2, pseq, idx2_1 t]
theorem p2 (t : Fin cfg2.N) : iblk2 V c 2 t = V c (Pipeline.arrRef spec2 2) := by
  funext y
  blk_ext [iblk2, idx2_2 t]
theorem p3 (t : Fin cfg2.N) : iblk2 V c 3 t = V c (Pipeline.arrRef spec2 3) := by
  funext y
  blk_ext [iblk2, idx2_3 t]
theorem p5 (t : Fin cfg2.N) : iblk2 V c 5 t = V c (Pipeline.arrRef spec2 5) := by
  funext y
  blk_ext [iblk2, idx2_5 t]
theorem p8 (t : Fin cfg2.N) : iblk2 V c 8 t = V c (Pipeline.arrRef spec2 8) := by
  funext y
  blk_ext [iblk2, idx2_8 t]

/-- The projected rows, as a function of the call's operands. -/
def arrP (b : Fin 4) (t : Fin 8192) : Fin 3584 → EReal :=
  projRow (fun k => (V c (Pipeline.arrRef spec2 0) : FVec Ideal S4x8192x1024 .f32) (ix3 b t k)) (fun k => (V c (Pipeline.arrRef spec2 2) : FVec Ideal S1x1024 .f32) (ix2 0 k))
    (fun k => (V c (Pipeline.arrRef spec2 1) : FVec Ideal S4x9x1024 .f32) (ix3 b 3 k)) (fun k => (V c (Pipeline.arrRef spec2 1) : FVec Ideal S4x9x1024 .f32) (ix3 b 4 k))
    (fun k j => (V c (Pipeline.arrRef spec2 3) : FVec Ideal S1024x3584 .bf16) (ix2 k j))
theorem bp_eq (t : Fin cfg2.N) (r : Fin 512) : bp (iblk2 V c 0 t) (iblk2 V c 1 t) (iblk2 V c 2 t) (iblk2 V c 3 t) r = arrP V c (pseq t 0) (tok t r) := by
  rw [p0, p1, p2, p3]
  rfl
theorem emb10 (t : Fin cfg2.N) (r k : Fin 512) : (win2_10.blk t).view.emb (ix3 0 r k) = (ix3 (pseq t 0) (tok t r) k : S4x8192x512.Idx) := by
  funext a
  match a with
  | 0 => exact Fin.ext (by blk_simp [pseq, idx2_10 t])
  | 1 => exact Fin.ext (by blk_simp [tok, idx2_10 t])
  | 2 => exact Fin.ext (by blk_simp [idx2_10 t])
theorem emb12 (t : Fin cfg2.N) (r k : Fin 512) : (win2_12.blk t).view.emb (ix3 0 r k) = (ix3 (pseq t 0) (tok t r) k : S4x8192x512.Idx) := emb10 t r k
theorem arr10 (R : FVec Ideal S4x8192x512 .f32) (hB : ∀ i j, (V c (Pipeline.arrRef spec2 8) : FVec Ideal S256x256 .bf16) (ix2 i j) = (if i.val / 64 = j.val / 64 then 1 else 0 : EReal))
    (hR : ∀ b t (h : Fin 8) (d : Fin 64), R (ix3 b t (hcol h d)) = hrmsAt (fun e => arrP V c b t (pcol 1 (hcol h e))) d * (V c (Pipeline.arrRef spec2 5) : FVec Ideal S1x512 .f32) (ix2 0 (hcol h d)))
    : (dat2 V c).arrAt 10 cfg2.N = R := by
  refine (dat2 V c).arrAt_eq_of_covers 10 _ (by decide +kernel) fun t hf y => ?_
  blk_simp
  rw [after2_10]
  obtain ⟨s, r, w, rfl⟩ : ∃ (s : Fin 1) (r w : Fin 512), y = ix3 s r w := ⟨y 0, y 1, y 2, (ix3_eta y).symm⟩
  obtain rfl : s = 0 := Subsingleton.elim _ _
  obtain ⟨h, d, rfl⟩ := exists_hcol w
  rw [out10 _ _ _ _ _ _ _ _ _ (by rw [p8]; exact hB), emb10]
  simp only [bp_eq, p5]
  exact (hR _ _ _ _).symm
theorem arr12 (R : FVec Ideal S4x8192x512 .f32) (hR : ∀ b t w, R (ix3 b t w) = arrP V c b t (pcol 2 w))
    : (dat2 V c).arrAt 12 cfg2.N = R := by
  refine (dat2 V c).arrAt_eq_of_covers 12 _ (by decide +kernel) fun t hf y => ?_
  blk_simp
  rw [after2_12]
  obtain ⟨s, r, w, rfl⟩ : ∃ (s : Fin 1) (r w : Fin 512), y = ix3 s r w := ⟨y 0, y 1, y 2, (ix3_eta y).symm⟩
  obtain rfl : s = 0 := Subsingleton.elim _ _
  rw [out12, emb12]
  simp only [bp_eq]
  exact (hR _ _ _).symm
end region
end Cert.Kernel4Ideal.Prompt
-- ==== Proof.PromptRef.lean ====
module
public import proofs.«01_k».proof.Proof.ProjMath
public import proofs.«01_k».proof.Proof.Gen.Reference4Ideal.Read
@[expose] public section
set_option maxRecDepth 16384
noncomputable section
/-! The reference's projections of the prompts at an entry. -/
namespace Cert.PromptRef
open Cert.Reference4Ideal Cert.Reference4Ideal.Gen Idealize.ShloMosaic Idealize.ShloMosaic.TcCoe Idealize.SL.Sem
open Cert.Reference4Ideal.Read Cert.ChainMath
open scoped BigOperators
variable (x0 : (⟨S4x8192x1024, .f32⟩ : BufTy).Contents (Elt Ideal)) (x1 : (⟨S4x1024, .f32⟩ : BufTy).Contents (Elt Ideal))
  (x3 : (⟨S1x1024x9216, .f32⟩ : BufTy).Contents (Elt Ideal)) (x4 : (⟨S1x9216, .f32⟩ : BufTy).Contents (Elt Ideal))
  (x5 x6 : (⟨S1x1024, .f32⟩ : BufTy).Contents (Elt Ideal)) (x7 : (⟨S1x1024x5632, .f32⟩ : BufTy).Contents (Elt Ideal))
  (x8 : (⟨S1x2816x1024, .f32⟩ : BufTy).Contents (Elt Ideal)) (x9 : (⟨S1x1024x3584, .f32⟩ : BufTy).Contents (Elt Ideal))
  (x11 : (⟨S1x64, .f32⟩ : BufTy).Contents (Elt Ideal)) (b : Fin 4) (t : Fin 8192)

/-- The row of token `t` of prompt `b`, normalised for the mixing. -/
def mixRow : Fin 1024 → EReal :=
  normAt (fun k => val_main_v51 (F := Ideal) x0 x1 x3 x4 x5 x7 x8 (ix3 b t k)) (fun k => x6 (ix2 0 k))
    (fun k => val_main_v6 (F := Ideal) x1 x3 x4 (ix2 b (mcol 3 k))) (fun k => val_main_v6 (F := Ideal) x1 x3 x4 (ix2 b (mcol 4 k)))

theorem mix (k : Fin 1024) : val_main_v73 (F := Ideal) x0 x1 x3 x4 x5 x6 x7 x8 (ix3 b t k) = mixRow x0 x1 x3 x4 x5 x6 x7 x8 b t k := by
  unfold mixRow
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v11, val_main_v10, val_main_cst_4, val_main_cst_5, val_main_cst_6, val_main_cst_7]
  simp only [mcol3, mcol4]
  rfl

theorem proj (j : Fin 3584) : val_main_v75 (F := Ideal) x0 x1 x3 x4 x5 x6 x7 x8 x9 (ix3 b t j) =
    projAt (mixRow x0 x1 x3 x4 x5 x6 x7 x8 b t) (fun k j => x9 (ix3 0 k j)) j := by
  pointwise [val_main_v75, val_main_v74]
  simp only [mix]
  rfl

/-- The seven projections of the row, side by side. -/
def P (j : Fin 3584) : EReal := val_main_v75 (F := Ideal) x0 x1 x3 x4 x5 x6 x7 x8 x9 (ix3 b t j)

theorem k (h : Fin 8) (d : Fin 64) : val_main_v95 (F := Ideal) x0 x1 x3 x4 x5 x6 x7 x8 x9 x11 (ix3 b t (hcol h d)) =
    hrmsAt (fun e => P x0 x1 x3 x4 x5 x6 x7 x8 x9 b t (pcol 1 (hcol h e))) d * x11 (ix2 0 d) := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v77, val_main_cst_8, val_main_cst_9, val_main_cst_10]
  simp only [phead1, pcol1, hcol_mod, hrmsAt, P]
theorem v (j : Fin 512) : val_main_v78 (F := Ideal) x0 x1 x3 x4 x5 x6 x7 x8 x9 (ix3 b t j) = P x0 x1 x3 x4 x5 x6 x7 x8 x9 b t (pcol 2 j) := by
  pointwise [val_main_v78]
  rw [pcol2]
  rfl
end Cert.PromptRef
-- ==== Proof.PromptRes.lean ====
module
public import proofs.«01_k».proof.Proof.PromptProj
public import proofs.«01_k».proof.Proof.PromptRef
public import proofs.«01_k».proof.Proof.ProjRes
@[expose] public section
set_option maxRecDepth 16384
noncomputable section
/-! The prompts' keys and values are the reference's. -/
namespace Cert.Kernel4Ideal.Prompt
open Cert.Kernel4Ideal Cert.Kernel4Ideal.Gen Idealize.ShloMosaic Idealize.ShloMosaic.TcCoe Idealize.SL.Sem
open Cert.Reference4Ideal.Read Cert.ChainMath
open Cert.Kernel2Ideal.Proj (projRow_congr floor64 floor64_eq same_head)
variable (m : (ℓ : Loc nD τ sig) → Buf (Elt Ideal) ℓ) (ρ : Dev nD → PrngReg) (c : Dev nD)
theorem gain_eq (k : Fin 1024) : (W5 m ρ c main_v33 : Vec Ideal S1x1024 .f32) (ix2 0 k) = (W4 m ρ c main_arg6 : Vec Ideal S1x1024 .f32) (ix2 0 k) := by
  show StableHlo.after hostOps2 (W4 m ρ c) main_v33 _ = _
  after_reads_at
theorem win_eq (i : Fin 1024) (j : Fin 3584) : (W5 m ρ c main_v35 : Vec Ideal S1024x3584 .bf16) (ix2 i j) = (W4 m ρ c main_arg9 : Vec Ideal S1x1024x3584 .f32) (ix3 0 i j) := by
  show StableHlo.after hostOps2 (W4 m ρ c) main_v35 _ = _
  after_reads_at
theorem kgain_eq (h : Fin 8) (d : Fin 64) : (W5 m ρ c main_v45 : Vec Ideal S1x512 .f32) (ix2 0 (hcol h d)) = (W4 m ρ c main_arg11 : Vec Ideal S1x64 .f32) (ix2 0 d) := by
  show StableHlo.after hostOps2 (W4 m ρ c) main_v45 _ = _
  after_reads_at
  simp only [hcol_div, hcol_mod]
theorem ind_eq (i j : Fin 256) : (W9 m ρ c main_v51 : Vec Ideal S256x256 .bf16) (ix2 i j) = (if i.val / 64 = j.val / 64 then 1 else 0 : EReal) := by
  show StableHlo.after hostOps2_4 (W8 m ρ c) main_v51 _ = _
  after_reads_at
  show FloatOps.uitofp FTy.bf16 (IntOp.cmpi CmpIPredicate.eq (floor64 (BitVec.ofNat 32 i.val)) (floor64 (BitVec.ofNat 32 j.val))) = _
  rw [floor64_eq, floor64_eq, same_head ⟨i.val / 64, by omega⟩ ⟨j.val / 64, by omega⟩]
  show FloatOps.uitofp FTy.bf16 (if i.val / 64 = j.val / 64 then 1#1 else 0#1) = _
  split <;> simp [FloatOps.uitofp]
/-- A reference the table's later segments leave alone. -/
theorem W9_W5 (r : Ref sig .tc) (h1 : r ∉ hostOps2_1_W) (h2 : r ∉ hostOps2_2_W) (h3 : r ∉ hostOps2_3_W) (h4 : r ∉ hostOps2_4_W) :
    W9 m ρ c (Proc.devRef .tc r) = W5 m ρ c (Proc.devRef .tc r) :=
  (((W9_of m ρ c r h4).trans (W8_of m ρ c r h3)).trans (W7_of m ρ c r h2)).trans (W6_of m ρ c r h1)

/-- The kernel's projected rows are the reference's. -/
theorem P_eq (b : Fin 4) (t : Fin 8192) : arrP (V9 m ρ) c b t = Cert.PromptRef.P (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t := by
  funext j
  unfold Cert.PromptRef.P
  rw [Cert.PromptRef.proj]
  have h0 : V9 m ρ c (Pipeline.arrRef spec2 0) = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) :=
    ((W9_W5 m ρ c main_v14 (by decide) (by decide) (by decide) (by decide)).trans (W5_of m ρ c main_v14 (by decide))).trans (x_eq m ρ c)
  have h1 : V9 m ρ c (Pipeline.arrRef spec2 1) = W3 m ρ c main_v7 :=
    ((W9_W5 m ρ c main_v7 (by decide) (by decide) (by decide) (by decide)).trans (W5_of m ρ c main_v7 (by decide))).trans (W4_of m ρ c main_v7 (by decide))
  have h2 : V9 m ρ c (Pipeline.arrRef spec2 2) = W5 m ρ c main_v33 := W9_W5 m ρ c main_v33 (by decide) (by decide) (by decide) (by decide)
  have h3 : V9 m ρ c (Pipeline.arrRef spec2 3) = W5 m ρ c main_v35 := W9_W5 m ρ c main_v35 (by decide) (by decide) (by decide) (by decide)
  unfold arrP Cert.PromptRef.mixRow
  exact projRow_congr (fun k => congrFun h0 _) (fun k => ((congrFun h2 _).trans (gain_eq m ρ c k)).trans (congrFun (W4_args m ρ c main_arg6 (by decide)) _))
    (fun k => (congrFun h1 _).trans (mod_eq m ρ c b 3 k)) (fun k => (congrFun h1 _).trans (mod_eq m ρ c b 4 k))
    (fun k j => ((congrFun h3 _).trans (win_eq m ρ c k j)).trans (congrFun (W4_args m ρ c main_arg9 (by decide)) _)) j
theorem kg_eq (h : Fin 8) (d : Fin 64) : (V9 m ρ c (Pipeline.arrRef spec2 5) : FVec Ideal S1x512 .f32) (ix2 0 (hcol h d)) =
    (m ((c : Thread nD τ).loc main_arg11) : FVec Ideal S1x64 .f32) (ix2 0 d) :=
  ((congrFun (W9_W5 m ρ c main_v45 (by decide) (by decide) (by decide) (by decide)) _).trans (kgain_eq m ρ c h d)).trans
    (congrFun (W4_args m ρ c main_arg11 (by decide)) _)
theorem k_res : W10 m ρ c main_v52_1 = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) := by
  refine (W10_arr m ρ c 10).trans (arr10 (V9 m ρ) c _ (ind_eq m ρ c) fun b t h d => ?_)
  rw [P_eq, kg_eq]
  exact Cert.PromptRef.k _ _ _ _ _ _ _ _ _ _ b t h d
theorem v_res : W10 m ρ c main_v52_3 = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 12).trans (arr12 (V9 m ρ) c _ fun b t w => ?_)
  rw [P_eq]
  exact Cert.PromptRef.v _ _ _ _ _ _ _ _ _ b t w
theorem x_res : W10 m ρ c main_v14 = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) :=
  (((W10_of m ρ c main_v14 (by decide)).trans (W9_W5 m ρ c main_v14 (by decide) (by decide) (by decide) (by decide))).trans
    (W5_of m ρ c main_v14 (by decide))).trans (x_eq m ρ c)
end Cert.Kernel4Ideal.Prompt
-- ==== Proof.Prompt.lean ====
module
public import proofs.«01_k».proof.Defs
public import proofs.«01_k».proof.Proof.Gen.Reference4Ideal.Run
public import proofs.«01_k».proof.Proof.PromptRun
public import proofs.«01_k».proof.Proof.PromptRes
@[expose] public section
set_option maxRecDepth 16384
noncomputable section
/-! The prompts' chain of calls and the reference's lines leave the same features, keys and values. -/
namespace Cert.Kernel4Ideal.Prompt
open Cert.Kernel4Ideal Cert.Kernel4Ideal.Gen Idealize.ShloMosaic Idealize.ShloMosaic.TcCoe Idealize.SL.Sem
open Cert.Reference4Ideal.Read

theorem algebraic [Cert.Kernel4Ideal.Facts] [Cert.Reference4Ideal.Facts] : Cert.algebraic_Kernel4Ideal_Reference4Ideal := by
  intro m g m' g' _ hargs
  refine ⟨fun c => W10 m g c main_v14, fun c => W10 m g c main_v52_1, fun c => W10 m g c main_v52_3, ?_, ?_⟩
  · refine (θ_run _ _ _).mono (fun r h c => ?_) (run_contents (F := Ideal) m g)
    exact ⟨h c _ (mem_uc main_v14 (by decide)),
      h c _ (mem_uc main_v52_1 (by decide)),
      h c _ (mem_uc main_v52_3 (by decide)),
      (h c _ (mem_uc main_arg0 (by decide))).trans (W10_main_arg0 m g c),
      (h c _ (mem_uc main_arg1 (by decide))).trans (W10_main_arg1 m g c),
      (h c _ (mem_uc main_arg2 (by decide))).trans (W10_main_arg2 m g c),
      (h c _ (mem_uc main_arg3 (by decide))).trans (W10_main_arg3 m g c),
      (h c _ (mem_uc main_arg4 (by decide))).trans (W10_main_arg4 m g c),
      (h c _ (mem_uc main_arg5 (by decide))).trans (W10_main_arg5 m g c),
      (h c _ (mem_uc main_arg6 (by decide))).trans (W10_main_arg6 m g c),
      (h c _ (mem_uc main_arg7 (by decide))).trans (W10_main_arg7 m g c),
      (h c _ (mem_uc main_arg8 (by decide))).trans (W10_main_arg8 m g c),
      (h c _ (mem_uc main_arg9 (by decide))).trans (W10_main_arg9 m g c),
      (h c _ (mem_uc main_arg10 (by decide))).trans (W10_main_arg10 m g c),
      (h c _ (mem_uc main_arg11 (by decide))).trans (W10_main_arg11 m g c)⟩
  · refine (θ_run _ _ _).mono (fun r h c => ?_) (Cert.Reference4Ideal.Value.run (F := Ideal) m' g')
    obtain ⟨h0, h1, h2, hh⟩ := h c
    obtain ⟨a0, a1, a2, a3, a4, a5, a6, a7, a8, a9, a10, a11⟩ := hargs c
    let L (r : Ref Cert.Reference4Ideal.sig .tc) := (c.tc : Thread Cert.Reference4Ideal.nD Cert.Reference4Ideal.τ).loc r
    refine ⟨h0.trans ?_, h1.trans ?_, h2.trans ?_, hh⟩
    · refine Eq.trans ?_ (x_res m g c).symm
      refine (val_main_v51_eq _ _).trans ?_
      show val_main_v51 (F := Ideal) (m' (L Cert.Reference4Ideal.main_arg0)) (m' (L Cert.Reference4Ideal.main_arg1)) (m' (L Cert.Reference4Ideal.main_arg3)) (m' (L Cert.Reference4Ideal.main_arg4)) (m' (L Cert.Reference4Ideal.main_arg5)) (m' (L Cert.Reference4Ideal.main_arg7)) (m' (L Cert.Reference4Ideal.main_arg8)) = _
      dsimp only [L]
      rw [a0, a1, a3, a4, a5, a7, a8]
    · refine Eq.trans ?_ (k_res m g c).symm
      refine (val_main_v95_eq _ _).trans ?_
      show val_main_v95 (F := Ideal) (m' (L Cert.Reference4Ideal.main_arg0)) (m' (L Cert.Reference4Ideal.main_arg1)) (m' (L Cert.Reference4Ideal.main_arg3)) (m' (L Cert.Reference4Ideal.main_arg4)) (m' (L Cert.Reference4Ideal.main_arg5)) (m' (L Cert.Reference4Ideal.main_arg6)) (m' (L Cert.Reference4Ideal.main_arg7)) (m' (L Cert.Reference4Ideal.main_arg8)) (m' (L Cert.Reference4Ideal.main_arg9)) (m' (L Cert.Reference4Ideal.main_arg11)) = _
      dsimp only [L]
      rw [a0, a1, a3, a4, a5, a6, a7, a8, a9, a11]
    · refine Eq.trans ?_ (v_res m g c).symm
      refine (val_main_v78_eq _ _).trans ?_
      show val_main_v78 (F := Ideal) (m' (L Cert.Reference4Ideal.main_arg0)) (m' (L Cert.Reference4Ideal.main_arg1)) (m' (L Cert.Reference4Ideal.main_arg3)) (m' (L Cert.Reference4Ideal.main_arg4)) (m' (L Cert.Reference4Ideal.main_arg5)) (m' (L Cert.Reference4Ideal.main_arg6)) (m' (L Cert.Reference4Ideal.main_arg7)) (m' (L Cert.Reference4Ideal.main_arg8)) (m' (L Cert.Reference4Ideal.main_arg9)) = _
      dsimp only [L]
      rw [a0, a1, a3, a4, a5, a6, a7, a8, a9]
end Cert.Kernel4Ideal.Prompt
-- ==== Proof.PromptMixBlock.lean ====
module
public import proofs.«01_k».proof.Proof.Gen.Kernel5Ideal.Value
public import proofs.«01_k».proof.Proof.MixBlock
@[expose] public section
set_option maxRecDepth 16384
noncomputable section
/-! What the prompts' last call leaves of one block. -/
namespace Cert.Kernel5Ideal.PromptMix
open Cert.Kernel5Ideal Cert.Kernel5Ideal.Gen Idealize.ShloMosaic Idealize.ShloMosaic.TcCoe Idealize.SL.Sem
open Cert.ChainMath
open Cert.Kernel3Ideal.Mix (ld_out ld_up ld_down)
open scoped BigOperators

section payload
variable (x0 : Vec Ideal S1x512x1024 .f32) (x1 x2 : Vec Ideal S1x512x512 .bf16) (x3 : Vec Ideal S1x9x1024 .f32) (x4 : Vec Ideal S1x1024 .f32)
  (wl wh : Vec Ideal S512x1024 .bf16)
theorem mix_pay (t : Fin 512) (k : Fin 1024) : k0_pay3 x0 x3 x1 x2 wl wh (ix3 0 t k) =
    x0 (ix3 0 t k) + x3 (ix3 0 5 k) * (∑ j, x1 (ix3 0 t j) * wl (ix2 j k) + ∑ j, x2 (ix3 0 t j) * wh (ix2 j k)) := by
  pointwise [k0_pay3, k0_pay2]

/-- The normalised features of a block, from the features before. -/
def bnorm : Vec Ideal S512x1024 .bf16 :=
  k0_pay9 (k0_pay4 x3) (k0_pay5 x3) (k0_pay7 x0 x3 x1 x2 wl wh) (k0_pay8 x4)
theorem norm_pay (t : Fin 512) (k : Fin 1024) : bnorm x0 x1 x2 x3 x4 wl wh (ix2 t k) =
    normAt (fun k => k0_pay3 x0 x3 x1 x2 wl wh (ix3 0 t k)) (fun k => x4 (ix2 0 k)) (fun k => x3 (ix3 0 6 k)) (fun k => x3 (ix3 0 7 k)) k := by
  unfold bnorm
  pointwise [k0_pay9, k0_pay8, k0_pay7, k0_pay5, k0_pay4, k0_pay2]
  rfl

theorem ffn_pay (v18 : Vec Ideal S1x512x1024 .f32) (v19 v20 : FVec Ideal S1x1x1024 .f32) (v33 : FVec Ideal S1x512x1024 .f32) (v34 : FVec Ideal S1x1x1024 .f32)
    (wg0 wu0 wg1 wu1 : Vec Ideal S1024x1408 .bf16) (wd0 wd1 : Vec Ideal S1408x1024 .bf16) (t : Fin 512) (k : Fin 1024) :
    k0_pay1 v18 (k0_pay6 x3) (k0_pay10 v19 v20 v33 v34 wg0 wu0 wd0) (k0_pay11 v19 v20 v33 v34 wg1) (k0_pay12 v19 v20 v33 v34 wu1)
      (k0_pay13 v19 v20 v33 v34 wg1) wd1 (ix3 0 t k) =
    v18 (ix3 0 t k) + Ideal.ofBits FTy.f32 0x3F000000#32 * x3 (ix3 0 8 k) *
      (∑ j, gatedAt (fun k => k0_pay9 v19 v20 v33 v34 (ix2 t k)) (fun i => wg0 (ix2 i j)) (fun i => wu0 (ix2 i j)) * wd0 (ix2 j k)
        + ∑ j, gatedAt (fun k => k0_pay9 v19 v20 v33 v34 (ix2 t k)) (fun i => wg1 (ix2 i j)) (fun i => wu1 (ix2 i j)) * wd1 (ix2 j k)) := by
  pointwise [k0_pay1, k0_pay6, k0_pay2, k0_pay10, k0_pay11, k0_pay12, k0_pay13]
  simp only [silu_sub, gatedAt]
end payload

section block
variable (x0 : Vec Ideal S1x512x1024 .f32) (x1 x2 : Vec Ideal S1x512x512 .bf16) (x3 : Vec Ideal S1x9x1024 .f32) (x4 : Vec Ideal S1x1024 .f32)
  (x5 : Vec Ideal S1024x1024 .bf16) (x6 : Vec Ideal S1024x5632 .bf16) (x7 : Vec Ideal S2816x1024 .bf16)
theorem out (t : Fin 512) (k : Fin 1024) : out0_8 x0 x1 x2 x3 x4 x5 x6 x7 (ix3 0 t k) =
    ffnAt (mixAt (fun k => x0 (ix3 0 t k)) (fun j => x1 (ix3 0 t j)) (fun j => x2 (ix3 0 t j)) (fun k => x3 (ix3 0 5 k)) (fun i k => x5 (ix2 i k)))
      (fun k => x4 (ix2 0 k)) (fun k => x3 (ix3 0 6 k)) (fun k => x3 (ix3 0 7 k)) (fun k => x3 (ix3 0 8 k))
      (fun i j => x6 (ix2 i j)) (fun j k => x7 (ix2 j k)) k := by
  unfold out0_8 k0_pay17 k0_pay16 k0_pay15 k0_pay14
  rw [View.ld_unit_lit (Val := Elt Ideal) (e := .f32) (S := S1x512x1024) _ x0 (by decide),
    View.ld_unit_lit (Val := Elt Ideal) (e := .bf16) (S := S1x512x512) _ x1 (by decide),
    View.ld_unit_lit (Val := Elt Ideal) (e := .bf16) (S := S1x512x512) _ x2 (by decide),
    View.ld_unit_lit (Val := Elt Ideal) (e := .f32) (S := S1x9x1024) _ x3 (by decide),
    View.ld_unit_lit (Val := Elt Ideal) (e := .f32) (S := S1x1024) _ x4 (by decide)]
  refine (congrFun (View.canon_cons_unit_lit (Val := Elt Ideal) (e := .f32) (S := S1x512x1024) _ _ [] (by decide)) _).trans ?_
  refine (ffn_pay x3 _ _ _ _ _ _ _ _ _ _ _ t k).trans ?_
  have hm : ∀ k, k0_pay3 x0 x3 x1 x2 (View.ld x5 r0_3) (View.ld x5 r0_4) (ix3 0 t k) =
      mixAt (fun k => x0 (ix3 0 t k)) (fun j => x1 (ix3 0 t j)) (fun j => x2 (ix3 0 t j)) (fun k => x3 (ix3 0 5 k)) (fun i k => x5 (ix2 i k)) k := fun k => by
    rw [mix_pay]
    unfold mixAt
    refine congrArg (x0 (ix3 0 t k) + x3 (ix3 0 5 k) * ·) (congrArg₂ (· + ·) (Finset.sum_congr rfl fun j _ => congrArg (x1 (ix3 0 t j) * ·) ?_) (Finset.sum_congr rfl fun j _ => congrArg (x2 (ix3 0 t j) * ·) ?_))
    · exact ld_out x5 0 _ j k _ (by show j.val = 0 + j.val; omega)
    · exact ld_out x5 512 _ j k _ (by show 512 + j.val = 512 + j.val; omega)
  have hn := fun k => (norm_pay x0 x1 x2 x3 x4 (View.ld x5 r0_3) (View.ld x5 r0_4) t k)
  simp only [hm] at hn
  unfold bnorm at hn
  unfold ffnAt
  rw [sum_halves]
  simp only [hn]
  refine congrArg₂ (· + ·) (hm k) (congrArg (Ideal.ofBits FTy.f32 0x3F000000#32 * x3 (ix3 0 8 k) * ·) (congrArg₂ (· + ·) (Finset.sum_congr rfl fun j _ => congrArg₂ (· * ·) (congrArg₂ (gatedAt _) (funext fun i => ?_) (funext fun i => ?_)) ?_)
    (Finset.sum_congr rfl fun j _ => congrArg₂ (· * ·) (congrArg₂ (gatedAt _) (funext fun i => ?_) (funext fun i => ?_)) ?_)))
  · exact ld_up x6 0 _ i j _ (by show j.val = 0 + j.val; omega)
  · exact ld_up x6 2816 _ i j _ (by show 2816 + j.val = 2816 + j.val; omega)
  · exact ld_down x7 0 _ j k _ (by show j.val = 0 + j.val; omega)
  · exact ld_up x6 1408 _ i j _ (by show 1408 + j.val = 1408 + j.val; omega)
  · exact ld_up x6 4224 _ i j _ (by show 2816 + (1408 + j.val) = 4224 + j.val; omega)
  · exact ld_down x7 1408 _ j k _ (by show 1408 + j.val = 1408 + j.val; omega)
end block
end Cert.Kernel5Ideal.PromptMix
-- ==== Proof.PromptMixRef.lean ====
module
public import proofs.«01_k».proof.Proof.Gen.Reference5Ideal.Read
public import proofs.«01_k».proof.Proof.PromptMixBlock
@[expose] public section
set_option maxRecDepth 16384
noncomputable section
/-! The plain mathematics of the prompts' last call at an entry. -/
namespace Cert.PromptMixRef
open Cert.Reference5Ideal Cert.Reference5Ideal.Read Idealize.ShloMosaic
open Cert.ChainMath
open scoped BigOperators
variable (x0 : (⟨S4x8192x1024, .f32⟩ : BufTy).Contents (Elt Ideal)) (x1 x2 : (⟨S4x8192x512, .bf16⟩ : BufTy).Contents (Elt Ideal))
  (x3 : (⟨S4x9216, .f32⟩ : BufTy).Contents (Elt Ideal)) (x4 : (⟨S1x1024, .f32⟩ : BufTy).Contents (Elt Ideal))
  (x5 : (⟨S1x1024x1024, .f32⟩ : BufTy).Contents (Elt Ideal)) (x6 : (⟨S1x1024x5632, .f32⟩ : BufTy).Contents (Elt Ideal))
  (x7 : (⟨S1x2816x1024, .f32⟩ : BufTy).Contents (Elt Ideal)) (b : Fin 4) (t : Fin 8192)
theorem cat_lo (j : Fin 512) : val_main_v11 (F := Ideal) x1 x2 (ix3 b t (lo j)) = x1 (ix3 b t j) := by
  have h : (lo j).val < 512 := j.isLt
  pointwise [val_main_v11, val_main_v9]
  rw [dif_pos h]
  rfl
theorem cat_hi (j : Fin 512) : val_main_v11 (F := Ideal) x1 x2 (ix3 b t (hi j)) = x2 (ix3 b t j) := by
  have h : ¬ (hi j).val < 512 := Nat.not_lt.mpr (Nat.le_add_right 512 j.val)
  pointwise [val_main_v11, val_main_v10]
  rw [dif_neg h]
  exact congrArg (fun j => x2 (ix3 b t j)) (Fin.ext (Nat.add_sub_cancel_left 512 j.val))
theorem mixed (k : Fin 1024) : val_main_v17 (F := Ideal) x0 x1 x2 x3 x5 (ix3 b t k) =
    mixAt (fun k => x0 (ix3 b t k)) (fun j => x1 (ix3 b t j)) (fun j => x2 (ix3 b t j)) (fun k => x3 (ix2 b (mcol 5 k))) (fun i k => x5 (ix3 0 i k)) k := by
  pointwise [val_main_v17, val_main_v16, val_main_v15, val_main_v14, val_main_v13, val_main_v12, val_main_v5]
  rw [sum_lo_hi]
  simp only [cat_lo, cat_hi, mcol5]
  rfl
theorem normed (k : Fin 1024) : val_main_v39 (F := Ideal) x0 x1 x2 x3 x4 x5 (ix3 b t k) =
    normAt (fun k => val_main_v17 (F := Ideal) x0 x1 x2 x3 x5 (ix3 b t k)) (fun k => x4 (ix2 0 k)) (fun k => x3 (ix2 b (mcol 6 k))) (fun k => x3 (ix2 b (mcol 7 k))) k := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v7, val_main_v6, val_main_cst, val_main_cst_0, val_main_cst_1, val_main_cst_2]
  simp only [mcol6, mcol7]
  rfl
theorem gated (j : Fin 2816) : val_main_v49 (F := Ideal) x0 x1 x2 x3 x4 x5 x6 (ix3 b t j) =
    gatedAt (fun k => val_main_v39 (F := Ideal) x0 x1 x2 x3 x4 x5 (ix3 b t k)) (fun i => x6 (ix3 0 i (gcol j))) (fun i => x6 (ix3 0 i (ucol j))) := by
  pointwise [val_main_v49, val_main_v48, val_main_v47, val_main_v46, val_main_v45, val_main_v43, val_main_call0_v5, val_main_call0_v4, val_main_call0_v3, val_main_call0_v2, val_main_call0_v1, val_main_call0_v0, val_main_call0_cst, val_main_call0_cst_0]
  simp only [gatedAt, silu, gcol, ucol]
theorem result (k : Fin 1024) : val_main_v53 (F := Ideal) x0 x1 x2 x3 x4 x5 x6 x7 (ix3 b t k) =
    ffnAt (mixAt (fun k => x0 (ix3 b t k)) (fun j => x1 (ix3 b t j)) (fun j => x2 (ix3 b t j)) (fun k => x3 (ix2 b (mcol 5 k))) (fun i k => x5 (ix3 0 i k)))
      (fun k => x4 (ix2 0 k)) (fun k => x3 (ix2 b (mcol 6 k))) (fun k => x3 (ix2 b (mcol 7 k))) (fun k => x3 (ix2 b (mcol 8 k)))
      (fun i j => x6 (ix3 0 i j)) (fun j k => x7 (ix3 0 j k)) k := by
  pointwise [val_main_v53, val_main_v52, val_main_v51, val_main_v50, val_main_v44, val_main_v42, val_main_v41, val_main_v40, val_main_v8, val_main_cst_3]
  simp only [mcol8, gated, normed, mixed]
  rfl
end Cert.PromptMixRef
-- ==== Proof.PromptMix.lean ====
module
public import proofs.«01_k».proof.Defs
public import proofs.«01_k».proof.Proof.Gen.Reference5Ideal.Run
public import proofs.«01_k».proof.Proof.PromptMixRef
public import proofs.«01_k».proof.Proof.PromptFfn
@[expose] public section
set_option maxRecDepth 16384
noncomputable section
/-! The prompts' last call and the plain mathematics leave the same array. -/
namespace Cert.Kernel5Ideal.PromptMix
open Cert.Kernel5Ideal Cert.Kernel5Ideal.Gen Idealize.ShloMosaic Idealize.ShloMosaic.TcCoe Idealize.SL.Sem
open Idealize.ShloMosaic.Pipeline (Dat)
open Cert.Reference5Ideal.Read Cert.ChainMath
open Cert.Kernel4Ideal.Prompt (pseq tok)
variable (m : (ℓ : Loc nD τ sig) → Buf (Elt Ideal) ℓ) (c : Dev nD)

/-- The result as a function of the call's operands. -/
def arr (x : FVec Ideal S4x8192x1024 .f32) (sb rt : FVec Ideal S4x8192x512 .bf16) (md : FVec Ideal S4x9x1024 .f32) (g : FVec Ideal S1x1024 .f32)
    (wo : FVec Ideal S1024x1024 .bf16) (wu : FVec Ideal S1024x5632 .bf16) (wd : FVec Ideal S2816x1024 .bf16) (i : S4x8192x1024.Idx) : EReal :=
  ffnAt (mixAt (fun k => x (ix3 (i 0) (i 1) k)) (fun j => sb (ix3 (i 0) (i 1) j)) (fun j => rt (ix3 (i 0) (i 1) j)) (fun k => md (ix3 (i 0) 5 k)) (fun i k => wo (ix2 i k)))
    (fun k => g (ix2 0 k)) (fun k => md (ix3 (i 0) 6 k)) (fun k => md (ix3 (i 0) 7 k)) (fun k => md (ix3 (i 0) 8 k))
    (fun i j => wu (ix2 i j)) (fun j k => wd (ix2 j k)) (i 2)

theorem idx0 : ∀ t : Fin grid0.N, win0_0.index t = ![t.val / 16, t.val % 16, 0] := by decide +kernel
theorem idx1 : ∀ t : Fin grid0.N, win0_1.index t = ![t.val / 16, t.val % 16, 0] := by decide +kernel
theorem idx2 : ∀ t : Fin grid0.N, win0_2.index t = ![t.val / 16, t.val % 16, 0] := by decide +kernel
theorem idx3 : ∀ t : Fin grid0.N, win0_3.index t = ![t.val / 16, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val / 16, t.val % 16, 0] := by decide +kernel
theorem blk0 (t : Fin cfg0.N) : iblk m c 0 t = fun y => V m c (Pipeline.arrRef spec0 0) (ix3 (pseq t (y 0)) (tok t (y 1)) (y 2)) := by
  funext y
  blk_ext [iblk, pseq, tok, idx0 t]
theorem blk1 (t : Fin cfg0.N) : iblk m c 1 t = fun y => V m c (Pipeline.arrRef spec0 1) (ix3 (pseq t (y 0)) (tok t (y 1)) (y 2)) := by
  funext y
  blk_ext [iblk, pseq, tok, idx1 t]
theorem blk2 (t : Fin cfg0.N) : iblk m c 2 t = fun y => V m c (Pipeline.arrRef spec0 2) (ix3 (pseq t (y 0)) (tok t (y 1)) (y 2)) := by
  funext y
  blk_ext [iblk, pseq, tok, idx2 t]
theorem blk3 (t : Fin cfg0.N) : iblk m c 3 t = fun y => V m c (Pipeline.arrRef spec0 3) (ix3 (pseq t (y 0)) (y 1) (y 2)) := by
  funext y
  blk_ext [iblk, pseq, idx3 t]
theorem blk4 (t : Fin cfg0.N) : iblk m c 4 t = V m c (Pipeline.arrRef spec0 4) := by
  funext y
  blk_ext [iblk, idx4 t]
theorem blk5 (t : Fin cfg0.N) : iblk m c 5 t = V m c (Pipeline.arrRef spec0 5) := by
  funext y
  blk_ext [iblk, idx5 t]
theorem blk6 (t : Fin cfg0.N) : iblk m c 6 t = V m c (Pipeline.arrRef spec0 6) := by
  funext y
  blk_ext [iblk, idx6 t]
theorem blk7 (t : Fin cfg0.N) : iblk m c 7 t = V m c (Pipeline.arrRef spec0 7) := by
  funext y
  blk_ext [iblk, idx7 t]
theorem emb8 (t : Fin cfg0.N) (r : Fin 512) (k : Fin 1024) :
    (win0_8.blk t).view.emb (ix3 0 r k) = (ix3 (pseq t 0) (tok t r) k : S4x8192x1024.Idx) := by
  funext a
  match a with
  | 0 => exact Fin.ext (by blk_simp [pseq, idx8 t])
  | 1 => exact Fin.ext (by blk_simp [tok, idx8 t])
  | 2 => exact Fin.ext (by blk_simp [idx8 t])

theorem arr_at : (dats m 0 c).arrAt 8 (cfgs 0).N = arr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6)) (V m c (Pipeline.arrRef spec0 7)) := by
  refine (dats m 0 c).arrAt_eq_of_covers 8 _ (by decide +kernel) fun t hf y => ?_
  blk_simp
  rw [after0_8, blk0, blk1, blk2, blk3, blk4, blk5, blk6, blk7]
  obtain ⟨s, r, k, rfl⟩ : ∃ (s : Fin 1) (r : Fin 512) (k : Fin 1024), y = ix3 s r k := ⟨y 0, y 1, y 2, (ix3_eta y).symm⟩
  obtain rfl : s = 0 := Subsingleton.elim _ _
  rw [out, emb8]
  rfl

theorem mod_eq (s j k) : (V m c main_v0 : Vec Ideal S4x9x1024 .f32) (ix3 s j k) = (m ((c : Thread nD τ).loc main_arg3) : Vec Ideal S4x9216 .f32) (ix2 s (mcol j k)) := by
  unfold V
  after_reads_at
  refine congrArg _ (congrArg (ix2 _) (Fin.ext ?_))
  show _ = j.val * 1024 + k.val
  simp
theorem gain_eq (k) : (V m c main_v2 : Vec Ideal S1x1024 .f32) (ix2 0 k) = (m ((c : Thread nD τ).loc main_arg4) : Vec Ideal S1x1024 .f32) (ix2 0 k) := by
  unfold V
  after_reads_at
theorem up_eq (i j) : (V m c main_v4 : Vec Ideal S1024x5632 .bf16) (ix2 i j) = (m ((c : Thread nD τ).loc main_arg6) : Vec Ideal S1x1024x5632 .f32) (ix3 0 i j) := by
  unfold V
  after_reads_at
theorem down_eq (i j) : (V m c main_v6 : Vec Ideal S2816x1024 .bf16) (ix2 i j) = (m ((c : Thread nD τ).loc main_arg7) : Vec Ideal S1x2816x1024 .f32) (ix3 0 i j) := by
  unfold V
  after_reads_at
theorem wout_eq (i j) : (V m c main_v8 : Vec Ideal S1024x1024 .bf16) (ix2 i j) = (m ((c : Thread nD τ).loc main_arg5) : Vec Ideal S1x1024x1024 .f32) (ix3 0 i j) := by
  unfold V
  after_reads_at

theorem arr_eq (x sb rt md g wo wu wd) (x3 x4 x5 x6 x7) (hm : ∀ s j k, md (ix3 s j k) = x3 (ix2 s (mcol j k))) (hg : ∀ k, g (ix2 0 k) = x4 (ix2 0 k))
    (ho : ∀ i k, wo (ix2 i k) = x5 (ix3 0 i k)) (hu : ∀ i j, wu (ix2 i j) = x6 (ix3 0 i j)) (hd : ∀ j k, wd (ix2 j k) = x7 (ix3 0 j k)) :
    arr x sb rt md g wo wu wd = val_main_v53 (F := Ideal) x sb rt x3 x4 x5 x6 x7 := by
  funext i
  obtain ⟨b, t, k, rfl⟩ : ∃ b t k, i = ix3 b t k := ⟨i 0, i 1, i 2, (ix3_eta i).symm⟩
  rw [Cert.PromptMixRef.result]
  show ffnAt (mixAt (fun k => x (ix3 b t k)) (fun j => sb (ix3 b t j)) (fun j => rt (ix3 b t j)) (fun k => md (ix3 b 5 k)) (fun i k => wo (ix2 i k)))
    (fun k => g (ix2 0 k)) (fun k => md (ix3 b 6 k)) (fun k => md (ix3 b 7 k)) (fun k => md (ix3 b 8 k)) (fun i j => wu (ix2 i j)) (fun j k => wd (ix2 j k)) k = _
  simp only [hm, hg, ho, hu, hd]

theorem algebraic [Cert.Kernel5Ideal.Facts] [Cert.Reference5Ideal.Facts] : Cert.algebraic_Kernel5Ideal_Reference5Ideal := by
  intro m g m' g' _ hargs
  refine ⟨fun c => arr (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7)), ?_, ?_⟩
  · refine (θ_run _ _ _).mono (fun r h c => ?_) (Cert.Kernel5Ideal.Value.run_blocks (F := Ideal) m g)
    obtain ⟨h0, h1⟩ := h c
    exact ⟨h0.trans (arr_at m c), h1⟩
  · refine (θ_run _ _ _).mono (fun r h c => ?_) (Cert.Reference5Ideal.Value.run (F := Ideal) m' g')
    obtain ⟨h0, h1⟩ := h c
    obtain ⟨a0, a1, a2, a3, a4, a5, a6, a7⟩ := hargs c
    refine ⟨h0.trans ?_, h1⟩
    rw [val_main_v53_eq, a0, a1, a2, a3, a4, a5, a6, a7]
    refine Eq.trans ?_ (arr_eq _ _ _ _ _ _ _ _ _ _ _ _ _ (mod_eq m c) (gain_eq m c) (wout_eq m c) (up_eq m c) (down_eq m c)).symm
    have h0 : V m c (Pipeline.arrRef spec0 0) = m ((c : Thread nD τ).loc main_arg0) := V_main_arg0 m c
    have h1 : V m c (Pipeline.arrRef spec0 1) = m ((c : Thread nD τ).loc main_arg1) := V_main_arg1 m c
    have h2 : V m c (Pipeline.arrRef spec0 2) = m ((c : Thread nD τ).loc main_arg2) := V_main_arg2 m c
    rw [h0, h1, h2]

end Cert.Kernel5Ideal.PromptMix
-- ==== Proof.PromptStateBody.lean ====
module
public import proofs.«01_k».proof.Proof.Gen.Kernel6Ideal.Value
public import proofs.«01_k».proof.Proof.RetMath
public import Idealize.ShloMosaic.Lib.Pipeline.ReadBack
public import Idealize.ShloMosaic.Lib.Pipeline.ValueKit
@[expose] public section
set_option maxRecDepth 16384
noncomputable section
/-! The state one grid point of the prompts' retention call leaves, over the state it starts from. -/
namespace Cert.Kernel6Ideal.PromptState
open Cert.Kernel6Ideal Cert.Kernel6Ideal.Gen Idealize.ShloMosaic Idealize.ShloMosaic.TcCoe Idealize.SL.Sem
open Idealize.ShloMosaic.Pipeline (Dat)
open scoped BigOperators
open Cert.RetMath

/-- A head's new state, as the first head computes it. -/
def headS (k v : Vec Ideal S1x256x128 .bf16) (S : Vec Ideal S1x128x128 .f32) (kd : Vec Ideal S1x256x128 .f32)
    (cd : Vec Ideal S1x1x128 .f32) : FVec Ideal S1x128x128 .f32 := k0_pay11 (k0_pay7 S) (k0_pay10 k v kd) cd
section heads
variable (k v : Vec Ideal S1x256x128 .bf16) (S : Vec Ideal S1x128x128 .f32) (kd : Vec Ideal S1x256x128 .f32) (cd : Vec Ideal S1x1x128 .f32)
theorem state1 : k0_pay17 k v S kd cd = headS k v S kd cd := rfl
theorem state2 : k0_pay25 (k0_pay21 k) (k0_pay22 v) (k0_pay23 S) kd cd = headS k v S kd cd := rfl
theorem state3 : k0_pay36 (k0_pay30 k) (k0_pay31 v) (k0_pay32 S) kd cd = headS k v S kd cd := rfl
theorem headS_apply (d e : Fin 128) :
    headS k v S kd cd (ix3 0 d e) = cd (ix3 0 0 e) * S (ix3 0 d e) + ∑ j, k (ix3 0 j d) * kd (ix3 0 j d) * v (ix3 0 j e) := by
  unfold headS
  pointwise [k0_pay11, k0_pay7, k0_pay10, k0_pay5, k0_pay6]
end heads

theorem pay3_apply (s : Vec Ideal S1x4x128x128 .f32) (h : Fin 4) (d e : Fin 128) : k0_pay3 s (ix3 h d e) = s (ix4 0 h d e) := by
  pointwise [k0_pay3]
theorem pay2_apply (s : Vec Ideal S4x128x128 .f32) (h : Fin 4) (d e : Fin 128) : k0_pay2 s (ix4 0 h d e) = s (ix3 h d e) := by
  pointwise [k0_pay2]

/-- The state after a point's chunk. -/
def stBlk (k v : FVec Ideal S1x256x512 .bf16) (s : FVec Ideal S4x128x128 .f32) (kd : FVec Ideal S4x256x128 .f32) (cd : FVec Ideal S4x1x128 .f32)
    (h : Fin 4) (d e : Fin 128) : EReal :=
  cd (ix3 h 0 e) * s (ix3 h d e) + ∑ j : Fin 256, k (ix3 0 j (col h d)) * kd (ix3 h j d) * v (ix3 0 j (col h e))

section blocks
variable (k v : FVec Ideal S1x256x512 .bf16) (s : FVec Ideal S4x128x128 .f32) (kd : FVec Ideal S4x256x128 .f32) (cd : FVec Ideal S4x1x128 .f32)
theorem headS_eq (h : Fin 4) (k' v' : Vec Ideal S1x256x128 .bf16) (S' : Vec Ideal S1x128x128 .f32)
    (kd' : Vec Ideal S1x256x128 .f32) (cd' : Vec Ideal S1x1x128 .f32)
    (hk : ∀ i d, k' (ix3 0 i d) = k (ix3 0 i (col h d)))
    (hv : ∀ i d, v' (ix3 0 i d) = v (ix3 0 i (col h d)))
    (hS : ∀ d e, S' (ix3 0 d e) = s (ix3 h d e))
    (hkd : ∀ i d, kd' (ix3 0 i d) = kd (ix3 h i d)) (hcd : ∀ e, cd' (ix3 0 0 e) = cd (ix3 h 0 e)) (p) (x : S1x128x128.Idx) :
    headS k' v' S' kd' cd' x = (fun y : S4x128x128.Idx => stBlk k v s kd cd (y 0) (y 1) (y 2))
      ((Rect.unit (s := S4x128x128) ![h.val, 0, 0] ![1, 128, 128] p).emb x) := by
  have h0 : ((Rect.unit (s := S4x128x128) ![h.val, 0, 0] ![1, 128, 128] p).emb x 0 : ℕ) = h.val + x 0 :=
    (ValueKit.rect_emb_unit_val (s := S4x128x128) _ _ p x 0)
  have h1 : ((Rect.unit (s := S4x128x128) ![h.val, 0, 0] ![1, 128, 128] p).emb x 1 : ℕ) = x 1 :=
    (ValueKit.rect_emb_unit_val (s := S4x128x128) _ _ p x 1).trans (Nat.zero_add _)
  have h2 : ((Rect.unit (s := S4x128x128) ![h.val, 0, 0] ![1, 128, 128] p).emb x 2 : ℕ) = x 2 :=
    (ValueKit.rect_emb_unit_val (s := S4x128x128) _ _ p x 2).trans (Nat.zero_add _)
  generalize (Rect.unit (s := S4x128x128) ![h.val, 0, 0] ![1, 128, 128] p).emb x = y at h0 h1 h2 ⊢
  obtain ⟨z, i, e, rfl⟩ : ∃ z i e, x = ix3 z i e := ⟨x 0, x 1, x 2, (ix3_eta x).symm⟩
  obtain ⟨h', i', w, rfl⟩ : ∃ z i e, y = ix3 z i e := ⟨y 0, y 1, y 2, (ix3_eta y).symm⟩
  obtain rfl : z = 0 := Subsingleton.elim _ _
  obtain rfl : h' = h := Fin.ext h0
  obtain rfl : i' = i := Fin.ext h1
  obtain rfl : w = e := Fin.ext h2
  rw [headS_apply]
  simp only [hk, hv, hS, hkd, hcd]
  rfl

/-- A window of columns of the rows. -/
theorem ld_rows (X : S1x256x512.Idx → Elt Ideal .bf16) (o : Nat) (h : Fin 4) (ho : o = h.val * 128) (p) (i : Fin 256) (d : Fin 128) :
    View.ld (Val := Elt Ideal) (e' := .bf16) X (Rect.unit ![0, 0, o] ![1, 256, 128] p) (ix3 0 i d) = X (ix3 0 i (col h d)) := by
  apply View.ld_unit_apply_of
  intro a
  match a with
  | 0 => rfl
  | 1 => show i.val = 0 + i.val; omega
  | 2 => show h.val * 128 + d.val = o + d.val; omega

/-- One head's plane of a table. -/
theorem ld_plane {n1 n2 : Nat} (X : (⟨3, ![4, n1, n2]⟩ : Shape).Idx → Elt Ideal .f32) (h : Fin 4) (p) (i : Fin n1) (d : Fin n2) :
    View.ld (Val := Elt Ideal) (e' := .f32) X (Rect.unit ![h.val, 0, 0] ![1, n1, n2] p) (ix3 0 i d) = X (ix3 h i d) := by
  apply View.ld_unit_apply_of
  intro a
  match a with
  | 0 => show h.val = h.val + 0; omega
  | 1 => show i.val = 0 + i.val; omega
  | 2 => show d.val = 0 + d.val; omega

end blocks

/-- The plane that holds an index. -/
theorem mem_plane (h : Fin 4) (p) (y : S4x128x128.Idx) (h0 : (y 0) = h) :
    y ∈ (Rect.unit (s := S4x128x128) ![h.val, 0, 0] ![1, 128, 128] p).set := by
  rw [Rect.mem_set_unit]
  intro a
  match a with
  | 0 => exact ⟨by rw [h0]; exact le_refl _, by rw [h0]; exact Nat.lt_succ_self _⟩
  | 1 => exact ⟨Nat.zero_le _, by have := (y 1).isLt; simpa using this⟩
  | 2 => exact ⟨Nat.zero_le _, by have := (y 2).isLt; simpa using this⟩

/-- The scratch after a point's four stores, over any earlier ones. -/
theorem scratch (k v : FVec Ideal S1x256x512 .bf16) (s : FVec Ideal S4x128x128 .f32) (kd : FVec Ideal S4x256x128 .f32) (cd : FVec Ideal S4x1x128 .f32)
    (L : List (View.Piece (Elt Ideal) S4x128x128 .f32)) : View.canon (Val := Elt Ideal) ([
      ⟨Rect.unit ![3, 0, 0] ![1, 128, 128] inb_S4x128x128_S1x128x128_3_0_0,
        headS (View.ld (Val := Elt Ideal) (e' := .bf16) k (Rect.unit ![0, 0, 384] ![1, 256, 128] inb_S1x256x512_S1x256x128_0_0_384))
          (View.ld (Val := Elt Ideal) (e' := .bf16) v (Rect.unit ![0, 0, 384] ![1, 256, 128] inb_S1x256x512_S1x256x128_0_0_384))
          (View.ld (Val := Elt Ideal) (e' := .f32) s (Rect.unit ![3, 0, 0] ![1, 128, 128] inb_S4x128x128_S1x128x128_3_0_0))
          (View.ld (Val := Elt Ideal) (e' := .f32) kd (Rect.unit ![3, 0, 0] ![1, 256, 128] inb_S4x256x128_S1x256x128_3_0_0))
          (View.ld (Val := Elt Ideal) (e' := .f32) cd (Rect.unit ![3, 0, 0] ![1, 1, 128] inb_S4x1x128_S1x1x128_3_0_0))⟩,
      ⟨Rect.unit ![2, 0, 0] ![1, 128, 128] inb_S4x128x128_S1x128x128_2_0_0,
        headS (View.ld (Val := Elt Ideal) (e' := .bf16) k (Rect.unit ![0, 0, 256] ![1, 256, 128] inb_S1x256x512_S1x256x128_0_0_256))
          (View.ld (Val := Elt Ideal) (e' := .bf16) v (Rect.unit ![0, 0, 256] ![1, 256, 128] inb_S1x256x512_S1x256x128_0_0_256))
          (View.ld (Val := Elt Ideal) (e' := .f32) s (Rect.unit ![2, 0, 0] ![1, 128, 128] inb_S4x128x128_S1x128x128_2_0_0))
          (View.ld (Val := Elt Ideal) (e' := .f32) kd (Rect.unit ![2, 0, 0] ![1, 256, 128] inb_S4x256x128_S1x256x128_2_0_0))
          (View.ld (Val := Elt Ideal) (e' := .f32) cd (Rect.unit ![2, 0, 0] ![1, 1, 128] inb_S4x1x128_S1x1x128_2_0_0))⟩,
      ⟨Rect.unit ![1, 0, 0] ![1, 128, 128] inb_S4x128x128_S1x128x128_1_0_0,
        headS (View.ld (Val := Elt Ideal) (e' := .bf16) k (Rect.unit ![0, 0, 128] ![1, 256, 128] inb_S1x256x512_S1x256x128_0_0_128))
          (View.ld (Val := Elt Ideal) (e' := .bf16) v (Rect.unit ![0, 0, 128] ![1, 256, 128] inb_S1x256x512_S1x256x128_0_0_128))
          (View.ld (Val := Elt Ideal) (e' := .f32) s (Rect.unit ![1, 0, 0] ![1, 128, 128] inb_S4x128x128_S1x128x128_1_0_0))
          (View.ld (Val := Elt Ideal) (e' := .f32) kd (Rect.unit ![1, 0, 0] ![1, 256, 128] inb_S4x256x128_S1x256x128_1_0_0))
          (View.ld (Val := Elt Ideal) (e' := .f32) cd (Rect.unit ![1, 0, 0] ![1, 1, 128] inb_S4x1x128_S1x1x128_1_0_0))⟩,
      ⟨Rect.unit ![0, 0, 0] ![1, 128, 128] inb_S4x128x128_S1x128x128_0_0_0,
        headS (View.ld (Val := Elt Ideal) (e' := .bf16) k (Rect.unit ![0, 0, 0] ![1, 256, 128] inb_S1x256x512_S1x256x128_0_0_0))
          (View.ld (Val := Elt Ideal) (e' := .bf16) v (Rect.unit ![0, 0, 0] ![1, 256, 128] inb_S1x256x512_S1x256x128_0_0_0))
          (View.ld (Val := Elt Ideal) (e' := .f32) s (Rect.unit ![0, 0, 0] ![1, 128, 128] inb_S4x128x128_S1x128x128_0_0_0))
          (View.ld (Val := Elt Ideal) (e' := .f32) kd (Rect.unit ![0, 0, 0] ![1, 256, 128] inb_S4x256x128_S1x256x128_0_0_0))
          (View.ld (Val := Elt Ideal) (e' := .f32) cd (Rect.unit ![0, 0, 0] ![1, 1, 128] inb_S4x1x128_S1x1x128_0_0_0))⟩] ++ L)
    = fun y => stBlk k v s kd cd (y 0) (y 1) (y 2) := by
  funext y
  refine View.canon_append_of_piecesOf (Val := Elt Ideal) (e := .f32) (fun y => stBlk k v s kd cd (y 0) (y 1) (y 2)) L _ ?_ y ?_
  · refine ⟨?_, ?_, ?_, ?_, trivial⟩
    · exact headS_eq k v s kd cd 3 _ _ _ _ _ (ld_rows _ _ 3 rfl _) (ld_rows _ _ 3 rfl _) (ld_plane _ 3 _) (ld_plane _ 3 _) (ld_plane _ 3 _ 0)
        inb_S4x128x128_S1x128x128_3_0_0
    · exact headS_eq k v s kd cd 2 _ _ _ _ _ (ld_rows _ _ 2 rfl _) (ld_rows _ _ 2 rfl _) (ld_plane _ 2 _) (ld_plane _ 2 _) (ld_plane _ 2 _ 0)
        inb_S4x128x128_S1x128x128_2_0_0
    · exact headS_eq k v s kd cd 1 _ _ _ _ _ (ld_rows _ _ 1 rfl _) (ld_rows _ _ 1 rfl _) (ld_plane _ 1 _) (ld_plane _ 1 _) (ld_plane _ 1 _ 0)
        inb_S4x128x128_S1x128x128_1_0_0
    · exact headS_eq k v s kd cd 0 _ _ _ _ _ (ld_rows _ _ 0 rfl _) (ld_rows _ _ 0 rfl _) (ld_plane _ 0 _) (ld_plane _ 0 _) (ld_plane _ 0 _ 0)
        inb_S4x128x128_S1x128x128_0_0_0
  · obtain ⟨h, d, e, rfl⟩ : ∃ h d e, y = ix3 h d e := ⟨y 0, y 1, y 2, (ix3_eta y).symm⟩
    match h with
    | 0 => exact ⟨_, .tail _ (.tail _ (.tail _ (.head _))), mem_plane 0 inb_S4x128x128_S1x128x128_0_0_0 _ rfl⟩
    | 1 => exact ⟨_, .tail _ (.tail _ (.head _)), mem_plane 1 inb_S4x128x128_S1x128x128_1_0_0 _ rfl⟩
    | 2 => exact ⟨_, .tail _ (.head _), mem_plane 2 inb_S4x128x128_S1x128x128_2_0_0 _ rfl⟩
    | 3 => exact ⟨_, .head _, mem_plane 3 inb_S4x128x128_S1x128x128_3_0_0 _ rfl⟩

variable (m : (ℓ : Loc nD τ sig) → Buf (Elt Ideal) ℓ) (c : Dev nD) (t : Fin cfg0.N)
/-- The scratch the point before left. -/
def before : FVec Ideal S4x128x128 .f32 := (outsAt0 m c (t.val - 1) (Nat.lt_of_le_of_lt (Nat.sub_le _ _) t.isLt)).2.2
theorem s_first (h0 : t.val % 32 = 0) (h1 : ¬t.val % 32 = 31) :
    (outsAt0 m c t.val t.isLt).2.2 = fun y => stBlk (iblk m c 1 t) (iblk m c 2 t) (k0_pay3 (iblk m c 4 t)) (iblk m c 7 t) (iblk m c 8 t) (y 0) (y 1) (y 2) := by
  rw [outsAt0_A m c t h0 h1]
  frame_open
  simp (disch := decide) only [↓ View.readCov_skip, ↓ View.readCov_cons_toLoadRect, ↓ View.readCov_fill]
  frame_out
  simp only [state1, state2, state3, show k0_pay11 (k0_pay7 _) (k0_pay10 _ _ _) _ = headS _ _ _ _ _ from rfl]
  exact scratch _ _ _ _ _ [_]
theorem s_mid (h0 : ¬t.val % 32 = 0) (h1 : ¬t.val % 32 = 31) :
    (outsAt0 m c t.val t.isLt).2.2 = fun y => stBlk (iblk m c 1 t) (iblk m c 2 t) (before m c t) (iblk m c 7 t) (iblk m c 8 t) (y 0) (y 1) (y 2) := by
  rw [outsAt0_B m c t h0 h1]
  frame_open
  simp (disch := decide) only [↓ View.readCov_skip, ↓ View.readCov_cons_toLoadRect, ↓ View.readCov_fill]
  frame_out
  simp only [state1, state2, state3, show k0_pay11 (k0_pay7 _) (k0_pay10 _ _ _) _ = headS _ _ _ _ _ from rfl, read_unread_whole]
  exact scratch _ _ _ _ _ []
theorem o_last (h0 : ¬t.val % 32 = 0) (h1 : t.val % 32 = 31) (h : Fin 4) (d e : Fin 128) :
    (outsAt0 m c t.val t.isLt).2.1 (ix4 0 h d e) = stBlk (iblk m c 1 t) (iblk m c 2 t) (before m c t) (iblk m c 7 t) (iblk m c 8 t) h d e := by
  rw [outsAt0_C m c t h0 h1]
  frame_open
  simp (disch := decide) only [↓ View.readCov_skip, ↓ View.readCov_cons_toLoadRect, ↓ View.readCov_fill]
  frame_out
  simp only [state1, state2, state3, show k0_pay11 (k0_pay7 _) (k0_pay10 _ _ _) _ = headS _ _ _ _ _ from rfl, read_unread_whole]
  rw [pay2_apply, View.readCov_eq_canon']
  refine (congrFun (View.ld_unit_lit (Val := Elt Ideal) (e := .f32) (S := S4x128x128) _ (View.canon _) (by decide)) _).trans ?_
  exact congrFun (scratch _ _ _ _ _ []) (ix3 h d e)
-- ==== Proof.PromptStateMath.lean ====
module
public import proofs.«01_k».proof.Proof.RetMath
public import Idealize.ShloMosaic.Lib.DynamicIndex
@[expose] public section
noncomputable section
/-! The decayed sums of a long sequence: four steps over chunks of 64 frames are one step over a chunk of 256. -/
namespace Cert.StateMath
open Idealize.ShloMosaic
open scoped BigOperators

/-- The decay over `n` frames, of a head whose decay over one frame is `exp l`. -/
def E (l n : ℝ) : EReal := ((Real.exp (n * l) : ℝ) : EReal)

theorem E_add (l a b : ℝ) : E l (a + b) = E l a * E l b := by
  unfold E
  rw [← EReal.coe_mul, ← Real.exp_add, add_mul]
theorem E_distrib (l n : ℝ) (x y : EReal) : E l n * (x + y) = E l n * x + E l n * y :=
  EReal.left_distrib_of_nonneg_of_ne_top (EReal.coe_nonneg.mpr (Real.exp_pos _).le) (EReal.coe_ne_top _) x y
theorem E_sum (l n : ℝ) {ι : Type} (s : Finset ι) (f : ι → EReal) : E l n * ∑ i ∈ s, f i = ∑ i ∈ s, E l n * f i := by
  classical
  induction s using Finset.induction_on with
  | empty => simp
  | insert a s ha ih => rw [Finset.sum_insert ha, Finset.sum_insert ha, E_distrib, ih]

/-- The state after a chunk of `C` frames from frame `p` on, of an entry's keys `x` and values `w`. -/
def stepAt (l : ℝ) (C : ℕ) (x w : ℕ → EReal) (p : ℕ) (S : EReal) : EReal :=
  E l C * S + ∑ j : Fin C, x (p + j) * E l ((C : ℝ) - 1 - (j.val : ℝ)) * w (p + j)

theorem part (l : ℝ) (x w : ℕ → EReal) (n a b : ℕ) (h : a + b = 3) :
    E l ((b * 64 : ℕ) : ℝ) * ∑ j : Fin 64, x ((4 * n + a) * 64 + j) * E l (((64 : ℕ) : ℝ) - 1 - (j.val : ℝ)) * w ((4 * n + a) * 64 + j)
      = ∑ j : Fin 64, x (n * 256 + (j.val + 64 * a)) * E l (((256 : ℕ) : ℝ) - 1 - ((j.val + 64 * a : ℕ) : ℝ)) * w (n * 256 + (j.val + 64 * a)) := by
  rw [E_sum]
  refine Finset.sum_congr rfl fun j _ => ?_
  have hp : (4 * n + a) * 64 + j.val = n * 256 + (j.val + 64 * a) := by omega
  have hb : (b : ℝ) = 3 - a := by
    have : ((a + b : ℕ) : ℝ) = 3 := by rw [h]; norm_num
    push_cast at this; linarith
  have he : E l (((256 : ℕ) : ℝ) - 1 - ((j.val + 64 * a : ℕ) : ℝ)) = E l ((b * 64 : ℕ) : ℝ) * E l (((64 : ℕ) : ℝ) - 1 - (j.val : ℝ)) := by
    rw [← E_add]
    congr 1
    push_cast
    rw [hb]; ring
  rw [hp, he]
  simp only [mul_comm, mul_left_comm, mul_assoc]

theorem sum256 (f : ℕ → EReal) : ∑ j : Fin 256, f j.val = ∑ a : Fin 4, ∑ j : Fin 64, f (j.val + 64 * a.val) := by
  rw [← Fintype.sum_prod_type']
  exact (Fintype.sum_equiv (finProdFinEquiv (m := 4) (n := 64)) _ _ fun y => rfl).symm

theorem four (l : ℝ) (x w : ℕ → EReal) (n : ℕ) (S : EReal) :
    stepAt l 64 x w ((4 * n + 3) * 64) (stepAt l 64 x w ((4 * n + 2) * 64) (stepAt l 64 x w ((4 * n + 1) * 64) (stepAt l 64 x w ((4 * n) * 64) S)))
      = stepAt l 256 x w (n * 256) S := by
  have p0 := part l x w n 0 3 rfl
  have p1 := part l x w n 1 2 rfl
  have p2 := part l x w n 2 1 rfl
  have p3 := part l x w n 3 0 rfl
  have e2 : E l ((2 * 64 : ℕ) : ℝ) = E l ((64 : ℕ) : ℝ) * E l ((64 : ℕ) : ℝ) := by rw [← E_add]; congr 1; norm_num
  have e3 : E l ((3 * 64 : ℕ) : ℝ) = E l ((64 : ℕ) : ℝ) * (E l ((64 : ℕ) : ℝ) * E l ((64 : ℕ) : ℝ)) := by
    rw [← E_add, ← E_add]; congr 1; norm_num
  have e4 : E l ((256 : ℕ) : ℝ) = E l ((64 : ℕ) : ℝ) * (E l ((64 : ℕ) : ℝ) * (E l ((64 : ℕ) : ℝ) * E l ((64 : ℕ) : ℝ))) := by
    rw [← E_add, ← E_add, ← E_add]; congr 1; norm_num
  have e0 : E l ((0 * 64 : ℕ) : ℝ) = 1 := by unfold E; simp
  have e1 : E l ((1 * 64 : ℕ) : ℝ) = E l ((64 : ℕ) : ℝ) := rfl
  rw [e3] at p0; rw [e2] at p1; rw [e1] at p2; rw [e0, one_mul] at p3
  unfold stepAt
  rw [sum256 (fun j => x (n * 256 + j) * E l (((256 : ℕ) : ℝ) - 1 - (j : ℝ)) * w (n * 256 + j)), Fin.sum_univ_four]
  simp only [E_distrib]
  rw [e4]
  simp only [mul_assoc, add_assoc] at p0 p1 p2 p3 ⊢
  simp only [Fin.val_zero, Fin.val_one, Fin.val_two, show ((3 : Fin 4) : ℕ) = 3 from rfl, show ((2 : Fin 4) : ℕ) = 2 from rfl]
  simp only [add_zero, mul_assoc] at p0 ⊢
  rw [← p0, ← p1, ← p2, ← p3]

/-- The state over chunks of `C` frames, from zero. -/
def runAt (l : ℝ) (C : ℕ) (x w : ℕ → EReal) : ℕ → EReal
  | 0 => 0
  | n + 1 => stepAt l C x w (n * C) (runAt l C x w n)

theorem run_eq (l : ℝ) (x w : ℕ → EReal) : ∀ n, runAt l 256 x w n = runAt l 64 x w (4 * n)
  | 0 => rfl
  | n + 1 => by
    show stepAt l 256 x w (n * 256) (runAt l 256 x w n) = stepAt l 64 x w ((4 * n + 3) * 64) (stepAt l 64 x w ((4 * n + 2) * 64) (stepAt l 64 x w ((4 * n + 1) * 64) (stepAt l 64 x w ((4 * n) * 64) (runAt l 64 x w (4 * n)))))
    rw [four, run_eq l x w n]

/-- The decays' literals. -/
theorem lit64 : Ideal.ofBits FTy.f32 0x42800000#32 = ((64 : ℝ) : EReal) := by simp [Ideal.ofBits, Ideal.ieee, -EReal.coe_mul]; norm_num
theorem lit63 : Ideal.ofBits FTy.f32 0x427C0000#32 = ((63 : ℝ) : EReal) := by simp [Ideal.ofBits, Ideal.ieee, -EReal.coe_mul]; norm_num
theorem lit256 : Ideal.ofBits FTy.f32 0x43800000#32 = ((256 : ℝ) : EReal) := by simp [Ideal.ofBits, Ideal.ieee, -EReal.coe_mul]; norm_num
theorem lit255 : Ideal.ofBits FTy.f32 0x437F0000#32 = ((255 : ℝ) : EReal) := by simp [Ideal.ofBits, Ideal.ieee, -EReal.coe_mul]; norm_num
theorem lit5 : Ideal.ofBits FTy.f32 0xC0A00000#32 = (((-5 : ℝ)) : EReal) := by
  simp [Ideal.ofBits, Ideal.ieee, -EReal.coe_mul, -EReal.coe_neg]; norm_num
theorem litln2 : ∃ r : ℝ, 0 < r ∧ Ideal.ofBits FTy.f32 0x3F317218#32 = (r : EReal) := by
  refine ⟨11629080 / 16777216, by norm_num, ?_⟩
  simp [Ideal.ofBits, Ideal.ieee, -EReal.coe_mul]; norm_num

/-- A head's decay over one frame, in logarithms, is a real. -/
theorem lg_real (h : ℕ) : ∃ l : ℝ, Ideal.log1p (-(Ideal.exp (Ideal.ofBits FTy.f32 0x3F317218#32 * (Ideal.ofBits FTy.f32 0xC0A00000#32 - ((h : ℝ) : EReal))))) = (l : EReal) := by
  obtain ⟨r, hr, e⟩ := litln2
  rw [e, lit5, ← EReal.coe_sub, ← EReal.coe_mul, Ideal.exp_coe, ← EReal.coe_neg]
  have h1 : Real.exp (r * (-5 - (h : ℝ))) < 1 := by
    rw [← Real.exp_zero]
    refine Real.exp_lt_exp.mpr ?_
    have : (0 : ℝ) ≤ h := Nat.cast_nonneg h
    nlinarith
  refine ⟨Real.log (1 + -Real.exp (r * (-5 - (h : ℝ)))), ?_⟩
  unfold Ideal.log1p
  rw [show (1 : EReal) = ((1 : ℝ) : EReal) from rfl, ← EReal.coe_add, Ideal.log_coe, if_neg (by linarith)]

/-- A small number's word, read as a float. -/
theorem sitofp_small {n : ℕ} (hn : n < 2 ^ 31) : (FloatOps.sitofp FTy.f32 (BitVec.ofNat 32 n) : Ideal FTy.f32) = (((n : ℝ) : EReal) : EReal) := by
  show (((BitVec.ofNat 32 n).toInt : ℝ) : EReal) = _
  rw [toInt_ofNat_of_lt hn]
  norm_cast
-- ==== Proof.PromptStateRef.lean ====
module
public import proofs.«01_k».proof.Proof.PromptStateMath
public import proofs.«01_k».proof.Proof.Gen.Reference6Ideal.StepRun
@[expose] public section
set_option maxRecDepth 16384
noncomputable section
/-! The reference's state after each of its chunks. -/
namespace Cert.StateRef
open Cert.Reference6Ideal Cert.Reference6Ideal.Gen Idealize.ShloMosaic Idealize.ShloMosaic.TcCoe Idealize.SL.Sem
open Cert.Reference6Ideal.Step Cert.StateMath Cert.RetMath
open scoped BigOperators
variable (k v : (⟨S4x8192x512, .bf16⟩ : BufTy).Contents (Elt Ideal))

/-- One column of a sequence, frame by frame. -/
def colAt (X : (⟨S4x8192x512, .bf16⟩ : BufTy).Contents (Elt Ideal)) (b : Fin 4) (j : Fin 512) (p : ℕ) : EReal :=
  if hp : p < 8192 then X (ix3 b ⟨p, hp⟩ j) else 0

/-- The reference's states. -/
def refIter : ℕ → State Ideal
  | 0 => init k v
  | n + 1 => step n (refIter n)
theorem refIter_kv : ∀ n, (refIter k v n).main_v32_0 = A_main_v31 k v
  | 0 => rfl
  | n + 1 => refIter_kv n

/-- A head's decay over one frame, in logarithms. -/
def lg (h : Fin 4) : ℝ := (lg_real h.val).choose
theorem lg_lit (h : Fin 4) : Ideal.log1p (-(Ideal.exp (Ideal.ofBits FTy.f32 0x3F317218#32 * (Ideal.ofBits FTy.f32 0xC0A00000#32
    - (FloatOps.sitofp FTy.f32 (BitVec.ofNat 32 h.val) : Ideal FTy.f32))))) = (lg h : EReal) := by
  rw [sitofp_small (by omega)]
  exact (lg_real h.val).choose_spec
theorem lg_eq (h : Fin 4) : K_main_v12 (F := Ideal) (ix1 h) = (lg h : EReal) := by
  rw [← lg_lit]
  pointwise [K_main_v12, K_main_v11, K_main_v10, K_main_v9, K_main_v8, K_main_v7, K_main_v6, K_main_v5, K_main_cst_0, K_main_cst_1]
theorem kd_eq (i : Fin 64) (h : Fin 4) : K_main_v21 (F := Ideal) (ix2 i h) = E (lg h) (((64 : ℕ) : ℝ) - 1 - (i.val : ℝ)) := by
  pointwise [K_main_v21, K_main_v20, K_main_v19, K_main_v18, K_main_v17, K_main_v16, K_main_v15, K_main_v14, K_main_v13, K_main_cst_2]
  rw [lg_eq]
  rw [lit63, sitofp_small (by omega), ← EReal.coe_sub, ← EReal.coe_mul, Ideal.exp_coe]
  unfold E
  norm_num
theorem cd_eq (h : Fin 4) : K_main_v24 (F := Ideal) (ix1 h) = E (lg h) ((64 : ℕ) : ℝ) := by
  pointwise [K_main_v24, K_main_v23, K_main_v22, K_main_cst_3]
  rw [lg_eq, lit64, ← EReal.coe_mul, Ideal.exp_coe]
  simp [E]

theorem kv_eq (n : Fin 128) (b h : Fin 4) (d e : Fin 128) : A_main_v31 k v (ix5 n b h d e) =
    ∑ j : Fin 64, colAt k b (col h d) (n.val * 64 + j) * E (lg h) (((64 : ℕ) : ℝ) - 1 - (j.val : ℝ)) * colAt v b (col h e) (n.val * 64 + j) := by
  have hc : ∀ (X) (j : Fin 64) (w), colAt X b w (n.val * 64 + j.val) = X (ix3 b ⟨n.val * 64 + j.val, by omega⟩ w) := fun X j w =>
    dif_pos (show n.val * 64 + j.val < 8192 by omega)
  simp only [hc, ← kd_eq]
  pointwise [A_main_v31, A_main_v30, A_main_v26, A_main_v25, A_main_v3, A_main_v2, A_main_v1, A_main_v0, K_main_v29, K_main_v28, K_main_v27]
  rfl

theorem slice_eq (n : Fin 128) (s : State Ideal) (b h : Fin 4) (d e : Fin 128) : b4 n.val s (ix5 0 b h d e) = s.main_v32_0 (ix5 n b h d e) := by
  unfold b4 Host.dynamicSlice
  refine congrArg s.main_v32_0 (funext fun a => Fin.ext ?_)
  have hn : (BitVec.ofNat 32 n.val).toInt = n.val := toInt_ofNat_of_lt (by omega)
  match a with
  | ⟨0, _⟩ => show (min (max (BitVec.ofNat 32 n.val).toInt 0) ((128 - 1 : Nat) : Int)).toNat + 0 = n.val; omega
  | ⟨1, _⟩ => show (min (max (BitVec.toInt (0#32 : BitVec 32)) 0) ((4 - 4 : Nat) : Int)).toNat + b.val = b.val; exact Nat.zero_add _
  | ⟨2, _⟩ => show (min (max (BitVec.toInt (0#32 : BitVec 32)) 0) ((4 - 4 : Nat) : Int)).toNat + h.val = h.val; exact Nat.zero_add _
  | ⟨3, _⟩ => show (min (max (BitVec.toInt (0#32 : BitVec 32)) 0) ((128 - 128 : Nat) : Int)).toNat + d.val = d.val; exact Nat.zero_add _
  | ⟨4, _⟩ => show (min (max (BitVec.toInt (0#32 : BitVec 32)) 0) ((128 - 128 : Nat) : Int)).toNat + e.val = e.val; exact Nat.zero_add _

theorem step_eq (n : Fin 128) (s : State Ideal) (b h : Fin 4) (d e : Fin 128) : b9 n.val s (ix4 b h d e) =
    E (lg h) ((64 : ℕ) : ℝ) * s.main_v32_3 (ix4 b h d e) + s.main_v32_0 (ix5 n b h d e) := by
  rw [← slice_eq, ← cd_eq]
  pointwise [b9, b8, b7, b6, b5]

theorem state_eq (b h : Fin 4) (d e : Fin 128) : ∀ n, n ≤ 128 → (refIter k v n).main_v32_3 (ix4 b h d e) =
    runAt (lg h) 64 (colAt k b (col h d)) (colAt v b (col h e)) n
  | 0, _ => by
    show K_main_v4 (F := Ideal) (ix4 b h d e) = 0
    pointwise [K_main_v4, K_main_cst]
  | n + 1, hn => by
    show b9 n (refIter k v n) (ix4 b h d e) = stepAt _ 64 _ _ _ _
    rw [step_eq ⟨n, hn⟩, refIter_kv, kv_eq, state_eq b h d e n (by omega)]
    rfl
-- ==== Proof.PromptState.lean ====
module
public import proofs.«01_k».proof.Defs
public import proofs.«01_k».proof.Proof.PromptStateBody
public import proofs.«01_k».proof.Proof.PromptStateRef
public import Idealize.ShloMosaic.Lib.Claim
public import Idealize.ShloMosaic.Lib.StableHlo.ReadAt
@[expose] public section
set_option maxRecDepth 16384
noncomputable section
/-! The state the prompts' retention call leaves is the plain mathematics' state. -/
namespace Cert.Kernel6Ideal.PromptState
open Cert.Kernel6Ideal Cert.Kernel6Ideal.Gen Idealize.ShloMosaic Idealize.ShloMosaic.TcCoe Idealize.SL.Sem
open Idealize.ShloMosaic.Pipeline (Dat)
open Cert.RetMath Cert.StateMath
open Cert.StateRef (colAt lg lg_lit)
open scoped BigOperators
variable (m : (ℓ : Loc nD τ sig) → Buf (Elt Ideal) ℓ) (c : Dev nD)

/-! The tables the call's host code makes. -/
theorem s0_eq (y : S4x4x128x128.Idx) : (V m c (Pipeline.arrRef spec0 4) : Vec Ideal S4x4x128x128 .f32) y = Ideal.ofBits FTy.f32 0#32 := by
  show V m c main_v0 _ = _
  obtain ⟨b, h, d, e, rfl⟩ : ∃ b h d e, y = ix4 b h d e := ⟨y 0, y 1, y 2, y 3, (ix4_eta y).symm⟩
  unfold V
  after_reads_at
theorem kd_eq (h : Fin 4) (i : Fin 256) (d : Fin 128) : (V m c (Pipeline.arrRef spec0 7) : Vec Ideal S4x256x128 .f32) (ix3 h i d)
    = E (lg h) (((256 : ℕ) : ℝ) - 1 - (i.val : ℝ)) := by
  show V m c main_v49 _ = _
  unfold V
  after_reads_at
  pointwise []
  rw [lg_lit, lit255, sitofp_small (by omega), ← EReal.coe_sub, ← EReal.coe_mul, Ideal.exp_coe]
  unfold E
  norm_num
theorem cd_eq (h : Fin 4) (z : Fin 1) (d : Fin 128) : (V m c (Pipeline.arrRef spec0 8) : Vec Ideal S4x1x128 .f32) (ix3 h z d)
    = E (lg h) ((256 : ℕ) : ℝ) := by
  show V m c main_v56 _ = _
  unfold V
  after_reads_at
  pointwise []
  rw [lg_lit, lit256, ← EReal.coe_mul, Ideal.exp_coe]
  unfold E
  norm_num

/-! The blocks of a point. -/
/-- A point's sequence, and a frame of its chunk. -/
def seq (t : Fin 128) : Fin 4 := ⟨t.val / 32, by omega⟩
def frame (t : Fin 128) (r : Fin 256) : Fin 8192 := ⟨t.val % 32 * 256 + r.val, by omega⟩
theorem idx1 : ∀ t : Fin grid0.N, win0_1.index t = ![t.val / 32, t.val % 32, 0] := by decide +kernel
theorem idx2 : ∀ t : Fin grid0.N, win0_2.index t = ![t.val / 32, t.val % 32, 0] := by decide +kernel
theorem idx4 : ∀ t : Fin grid0.N, win0_4.index t = ![t.val / 32, 0, 0, 0] := by decide +kernel
theorem idx7 : ∀ t : Fin grid0.N, win0_7.index t = ![0, 0, 0] := by decide +kernel
theorem idx8 : ∀ t : Fin grid0.N, win0_8.index t = ![0, 0, 0] := by decide +kernel
theorem idx10 : ∀ t : Fin grid0.N, win0_10.index t = ![t.val / 32, 0, 0, 0] := by decide +kernel
theorem blk1 (t : Fin cfg0.N) (r : Fin 256) (j : Fin 512) : (iblk m c 1 t : Vec Ideal S1x256x512 .bf16) (ix3 0 r j) = V m c main_arg1 (ix3 (seq t) (frame t r) j) := by
  blk_ext [iblk, seq, frame, idx1 t]
theorem blk2 (t : Fin cfg0.N) (r : Fin 256) (j : Fin 512) : (iblk m c 2 t : Vec Ideal S1x256x512 .bf16) (ix3 0 r j) = V m c main_arg2 (ix3 (seq t) (frame t r) j) := by
  blk_ext [iblk, seq, frame, idx2 t]
theorem blk4 (t : Fin cfg0.N) (h : Fin 4) (d e : Fin 128) : (iblk m c 4 t : Vec Ideal S1x4x128x128 .f32) (ix4 0 h d e) = V m c (Pipeline.arrRef spec0 4) (ix4 (seq t) h d e) := by
  blk_ext [iblk, seq, idx4 t]
theorem blk7 (t : Fin cfg0.N) : iblk m c 7 t = V m c (Pipeline.arrRef spec0 7) := by
  funext y
  blk_ext [iblk, idx7 t]
theorem blk8 (t : Fin cfg0.N) : iblk m c 8 t = V m c (Pipeline.arrRef spec0 8) := by
  funext y
  blk_ext [iblk, idx8 t]

/-- An entry of a sequence's state after `n` chunks. -/
def after (b h : Fin 4) (d e : Fin 128) (n : ℕ) : EReal :=
  runAt (lg h) 256 (colAt (V m c main_arg1) b (col h d)) (colAt (V m c main_arg2) b (col h e)) n

theorem blk_step (t : Fin cfg0.N) (s : FVec Ideal S4x128x128 .f32) (h : Fin 4) (d e : Fin 128)
    (hs : s (ix3 h d e) = after m c (seq t) h d e (t.val % 32)) :
    stBlk (iblk m c 1 t) (iblk m c 2 t) s (iblk m c 7 t) (iblk m c 8 t) h d e = after m c (seq t) h d e (t.val % 32 + 1) := by
  unfold stBlk
  simp only [blk1, blk2, blk7, blk8, hs]
  have hf : ∀ (X : (⟨S4x8192x512, .bf16⟩ : BufTy).Contents (Elt Ideal)) (j : Fin 256) (w), colAt X (seq t) w (t.val % 32 * 256 + j.val) = X (ix3 (seq t) (frame t j) w) := fun X j w =>
    dif_pos (show t.val % 32 * 256 + j.val < 8192 by omega)
  rw [cd_eq]
  refine congrArg (_ + ·) (Finset.sum_congr rfl fun j _ => ?_)
  rw [kd_eq, ← hf (V m c main_arg1), ← hf (V m c main_arg2)]

theorem scratch_eq (h : Fin 4) (d e : Fin 128) : ∀ (n : ℕ) (hn : n < cfg0.N), n % 32 ≠ 31 →
    (outsAt0 m c n hn).2.2 (ix3 h d e) = after m c (seq ⟨n, hn⟩) h d e (n % 32 + 1) := by
  intro n
  induction n with
  | zero =>
    intro hn _
    rw [s_first m c ⟨0, hn⟩ rfl (show ¬0 % 32 = 31 by decide)]
    refine blk_step m c ⟨0, hn⟩ _ h d e ?_
    rw [pay3_apply, blk4, s0_eq]
    exact Ideal.ofBits_zero_f32
  | succ n ih =>
    intro hn h1
    by_cases h0 : (n + 1) % 32 = 0
    · rw [s_first m c ⟨n + 1, hn⟩ h0 h1]
      refine blk_step m c ⟨n + 1, hn⟩ _ h d e ?_
      rw [pay3_apply, blk4, s0_eq]
      show Ideal.ofBits FTy.f32 0#32 = after m c _ h d e ((n + 1) % 32)
      rw [h0]
      exact Ideal.ofBits_zero_f32
    · rw [s_mid m c ⟨n + 1, hn⟩ h0 h1]
      refine blk_step m c ⟨n + 1, hn⟩ _ h d e ?_
      refine (ih (Nat.lt_of_succ_lt hn) (by omega)).trans ?_
      have hb : seq ⟨n, Nat.lt_of_succ_lt hn⟩ = seq ⟨n + 1, hn⟩ := Fin.ext (by show n / 32 = (n + 1) / 32; omega)
      have hr : n % 32 + 1 = (n + 1) % 32 := by omega
      rw [hb, hr]
      rfl

theorem out_eq (t : Fin cfg0.N) (h1 : t.val % 32 = 31) (h : Fin 4) (d e : Fin 128) :
    (outsAt0 m c t.val t.isLt).2.1 (ix4 0 h d e) = after m c (seq t) h d e 32 := by
  rw [o_last m c t (by omega) h1]
  refine (blk_step m c t _ h d e ?_).trans (by rw [h1])
  have ht : t.val - 1 < cfg0.N := Nat.lt_of_le_of_lt (Nat.sub_le _ _) t.isLt
  refine (scratch_eq m c h d e (t.val - 1) ht (by omega)).trans ?_
  have hb : seq ⟨t.val - 1, ht⟩ = seq t := Fin.ext (by show (t.val - 1) / 32 = t.val / 32; omega)
  have hr : (t.val - 1) % 32 + 1 = t.val % 32 := by omega
  rw [hb, hr]

/-- The array of states the call leaves. -/
def arr (i : S4x4x128x128.Idx) : EReal := after m c (i 0) (i 1) (i 2) (i 3) 32
theorem emb10 (t : Fin cfg0.N) (h : Fin 4) (d e : Fin 128) :
    (win0_10.blk t).view.emb (ix4 0 h d e) = (ix4 (seq t) h d e : S4x4x128x128.Idx) := by
  funext a
  match a with
  | 0 => exact Fin.ext (by blk_simp [seq, idx10 t]; rfl)
  | 1 => exact Fin.ext (by blk_simp [idx10 t])
  | 2 => exact Fin.ext (by blk_simp [idx10 t])
  | 3 => exact Fin.ext (by blk_simp [idx10 t])
theorem arr_at : (dats m 0 c).arrAt 10 (cfgs 0).N = arr m c := by
  refine (dats m 0 c).arrAt_eq_of_covers 10 _ (by decide +kernel) fun t hf y => ?_
  have hm : t.val % 32 = 31 := (flush0_10 t).mp hf
  blk_simp
  rw [after0_10]
  obtain ⟨z, h, d, e, rfl⟩ : ∃ (z : Fin 1) (h : Fin 4) (d e : Fin 128), y = ix4 z h d e := ⟨y 0, y 1, y 2, y 3, (ix4_eta y).symm⟩
  obtain rfl : z = 0 := Subsingleton.elim _ _
  rw [out_eq m c t hm, emb10]
  rfl

theorem algebraic [Cert.Kernel6Ideal.Facts] [Cert.Reference6Ideal.Facts] : Cert.algebraic_Kernel6Ideal_Reference6Ideal := by
  intro m g m' g' _ hargs
  refine ⟨fun c => arr m c, ?_, ?_⟩
  · refine (θ_run _ _ _).mono (fun r h c => ?_) (Cert.Kernel6Ideal.Value.run (F := Ideal) m g)
    obtain ⟨_, h0, h1⟩ := h c
    exact ⟨h0.trans ((Cert.Kernel6Ideal.Value.final10 m c).symm.trans (arr_at m c)), h1⟩
  · refine (θ_run _ _ _).mono (fun r h c => ?_) (Cert.Reference6Ideal.StepRun.run_iter (F := Ideal) m' g'
      (fun c => Cert.StateRef.refIter (m' ((c.tc : Thread _ _).loc Cert.Reference6Ideal.main_arg1)) (m' ((c.tc : Thread _ _).loc Cert.Reference6Ideal.main_arg2)))
      (fun c => rfl) (fun c n => rfl))
    obtain ⟨h0, h1⟩ := h c
    obtain ⟨_, a1, a2, _⟩ := hargs c
    refine ⟨h0.trans ?_, h1⟩
    have h1 : V m c main_arg1 = m ((c : Thread nD τ).loc main_arg1) := V_main_arg1 m c
    have h2 : V m c main_arg2 = m ((c : Thread nD τ).loc main_arg2) := V_main_arg2 m c
    rw [a1, a2]
    funext i
    obtain ⟨b, h, d, e, rfl⟩ : ∃ b h d e, i = ix4 b h d e := ⟨i 0, i 1, i 2, i 3, (ix4_eta i).symm⟩
    rw [Cert.StateRef.state_eq _ _ b h d e 128 (le_refl _)]
    show _ = runAt (lg h) 256 (colAt (V m c main_arg1) b (col h d)) (colAt (V m c main_arg2) b (col h e)) 32
    rw [run_eq, h1, h2]

end Cert.Kernel6Ideal.PromptState
-- ==== Proof.RefFrames.lean ====
module
public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
@[expose] public section
noncomputable section
/-! The frames of the references: their arguments end unchanged, and they declare no semaphore. -/
namespace Cert.RefFrames
open Idealize.ShloMosaic Idealize.SL.Sem

theorem reference [Cert.ReferenceIdeal.Facts] : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem reference2 [Cert.Reference2Ideal.Facts] : Cert.quiescent_Reference2Ideal := by
  intro m ρ _
  exact (θ_run Cert.Reference2Ideal.defs _ _).mono (fun r h => ⟨fun c => (h c).2.2.2.2.2.2.2.2, sem_eq_zero_of_no_sems (by decide) r.2⟩)
    (Cert.Reference2Ideal.Value.run (F := Ideal) m ρ)

theorem reference3 [Cert.Reference3Ideal.Facts] : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem reference4 [Cert.Reference4Ideal.Facts] : Cert.quiescent_Reference4Ideal := by
  intro m ρ _
  exact (θ_run Cert.Reference4Ideal.defs _ _).mono (fun r h => ⟨fun c => (h c).2.2.2, sem_eq_zero_of_no_sems (by decide) r.2⟩)
    (Cert.Reference4Ideal.Value.run (F := Ideal) m ρ)

theorem reference5 [Cert.Reference5Ideal.Facts] : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem reference6 [Cert.Reference6Ideal.Facts] : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

end Cert.RefFrames
-- ==== Proof.lean ====
/- The claims of `Defs.lean`, assembled from the generated frames and from the value modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Step
public import proofs.«01_k».proof.Proof.Gen.Reference6Ideal.StepRun
public import proofs.«01_k».proof.Proof.Retention
public import proofs.«01_k».proof.Proof.Stream
public import proofs.«01_k».proof.Proof.Mix
public import proofs.«01_k».proof.Proof.Prompt
public import proofs.«01_k».proof.Proof.PromptMix
public import proofs.«01_k».proof.Proof.PromptState
public import proofs.«01_k».proof.Proof.RefFrames
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  Cert.RefFrames.reference,
  fun m ρ _ => Cert.Kernel2.Gen.frame m ρ,
  fun m ρ _ => Cert.Kernel2Ideal.Gen.frame m ρ,
  Cert.RefFrames.reference2,
  fun m ρ _ => Cert.Kernel3.Gen.frame m ρ,
  fun m ρ _ => Cert.Kernel3Ideal.Gen.frame m ρ,
  Cert.RefFrames.reference3,
  fun m ρ _ => Cert.Kernel4.Gen.frame m ρ,
  fun m ρ _ => Cert.Kernel4Ideal.Gen.frame m ρ,
  Cert.RefFrames.reference4,
  fun m ρ _ => Cert.Kernel5.Gen.frame m ρ,
  fun m ρ _ => Cert.Kernel5Ideal.Gen.frame m ρ,
  Cert.RefFrames.reference5,
  fun m ρ _ => Cert.Kernel6.Gen.frame m ρ,
  fun m ρ _ => Cert.Kernel6Ideal.Gen.frame m ρ,
  Cert.RefFrames.reference6,
  trivial,
  Cert.KernelIdeal.RetValue.algebraic,
  trivial,
  Cert.Kernel2Ideal.Chain.algebraic,
  trivial,
  Cert.Kernel3Ideal.Mix.algebraic,
  trivial,
  Cert.Kernel4Ideal.Prompt.algebraic,
  trivial,
  Cert.Kernel5Ideal.PromptMix.algebraic,
  trivial,
  Cert.Kernel6Ideal.PromptState.algebraic⟩

end Cert.Proof

end
